-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)) →
    ∃ (v0 : (c : Dev Cert.MidIdeal.nD) → Buf (Elt Ideal) ((c.tc : Thread Cert.MidIdeal.nD Cert.MidIdeal.τ).loc Cert.MidIdeal.main_v7)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v30) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v9)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v9) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v42) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)) →
    ∃ (v0 : (c : Dev Cert.ScanIdeal.nD) → Buf (Elt Ideal) ((c.tc : Thread Cert.ScanIdeal.nD Cert.ScanIdeal.τ).loc Cert.ScanIdeal.main_v15)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v15) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v81) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8)
          ∧ r.2.mem ((c.tc : Thread Cert.ScanRefIdeal.nD Cert.ScanRefIdeal.τ).loc Cert.ScanRefIdeal.main_arg9) = m' ((c.tc : Thread Cert.ScanRefIdeal.nD Cert.ScanRefIdeal.τ).loc Cert.ScanRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)) (v4 : (c : Dev Cert.ProjIdeal.nD) → Buf (Elt Ideal) ((c.tc : Thread Cert.ProjIdeal.nD Cert.ProjIdeal.τ).loc Cert.ProjIdeal.main_v14_4)) (v5 : (c : Dev Cert.ProjIdeal.nD) → Buf (Elt Ideal) ((c.tc : Thread Cert.ProjIdeal.nD Cert.ProjIdeal.τ).loc Cert.ProjIdeal.main_v14_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_v14_4) = v4 c
          ∧ r.2.mem ((c.tc : Thread Cert.ProjIdeal.nD Cert.ProjIdeal.τ).loc Cert.ProjIdeal.main_v14_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v22) = v3 c
          ∧ r.2.mem ((c.tc : Thread Cert.ProjRefIdeal.nD Cert.ProjRefIdeal.τ).loc Cert.ProjRefIdeal.main_v23) = v4 c
          ∧ r.2.mem ((c.tc : Thread Cert.ProjRefIdeal.nD Cert.ProjRefIdeal.τ).loc Cert.ProjRefIdeal.main_v24) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hLast : Cert.Last.Facts) (hLastIdeal : Cert.LastIdeal.Facts) (hLastRefIdeal : Cert.LastRefIdeal.Facts) (hScan : Cert.Scan.Facts) (hScanIdeal : Cert.ScanIdeal.Facts) (hScanRefIdeal : Cert.ScanRefIdeal.Facts) (hProj : Cert.Proj.Facts) (hProjIdeal : Cert.ProjIdeal.Facts) (hProjRefIdeal : Cert.ProjRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Last (hLast := hLast)
    ∧ quiescent_LastIdeal (hLastIdeal := hLastIdeal)
    ∧ quiescent_LastRefIdeal (hLastRefIdeal := hLastRefIdeal)
    ∧ quiescent_Scan (hScan := hScan)
    ∧ quiescent_ScanIdeal (hScanIdeal := hScanIdeal)
    ∧ quiescent_ScanRefIdeal (hScanRefIdeal := hScanRefIdeal)
    ∧ quiescent_Proj (hProj := hProj)
    ∧ quiescent_ProjIdeal (hProjIdeal := hProjIdeal)
    ∧ quiescent_ProjRefIdeal (hProjRefIdeal := hProjRefIdeal)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Last_LastIdeal
    ∧ algebraic_LastIdeal_LastRefIdeal (hLastIdeal := hLastIdeal) (hLastRefIdeal := hLastRefIdeal)
    ∧ preserves_Scan_ScanIdeal
    ∧ algebraic_ScanIdeal_ScanRefIdeal (hScanIdeal := hScanIdeal) (hScanRefIdeal := hScanRefIdeal)
    ∧ preserves_Proj_ProjIdeal
    ∧ algebraic_ProjIdeal_ProjRefIdeal (hProjIdeal := hProjIdeal) (hProjRefIdeal := hProjRefIdeal)
-- ==== Ffn.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Mid.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x8x2048x1024 : Shape := ⟨4, ![2, 8, 2048, 1024]⟩
abbrev S1x1024 : Shape := ⟨2, ![1, 1024]⟩
abbrev S1024 : Shape := ⟨1, ![1024]⟩
abbrev S2048x2x8x1024 : Shape := ⟨4, ![2048, 2, 8, 1024]⟩
abbrev S1x8x128x1024 : Shape := ⟨4, ![1, 8, 128, 1024]⟩
abbrev S1x1024x2816 : Shape := ⟨3, ![1, 1024, 2816]⟩
abbrev S1x2816x1024 : Shape := ⟨3, ![1, 2816, 1024]⟩
abbrev S128x1x8x1024 : Shape := ⟨4, ![128, 1, 8, 1024]⟩
abbrev S8x1032x128 : Shape := ⟨3, ![8, 1032, 128]⟩
abbrev S8x128x1024 : Shape := ⟨3, ![8, 128, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩
abbrev S128x128 : Shape := ⟨2, ![128, 128]⟩
abbrev S1x128x128 : Shape := ⟨3, ![1, 128, 128]⟩
abbrev S128x1x128 : Shape := ⟨3, ![128, 1, 128]⟩
abbrev S128x8x128 : Shape := ⟨3, ![128, 8, 128]⟩
abbrev S128x1x8x128 : Shape := ⟨4, ![128, 1, 8, 128]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x8x2048x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S2048x2x8x1024, .f32⟩
  | .local _ .vmem, ⟨0, _⟩ => ⟨S1x8x128x1024, .f32⟩
  | .local _ .vmem, ⟨1, _⟩ => ⟨S1x8x128x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S128x1x8x1024, .f32⟩
  | .local _ .vmem, ⟨7, _⟩ => ⟨S128x1x8x1024, .f32⟩
  | .local _ .vmem, ⟨8, _⟩ => ⟨S8x1032x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidRefIdeal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S2048x16x1024 : Shape := ⟨3, ![2048, 16, 1024]⟩
abbrev S2048x2x8x1024 : Shape := ⟨4, ![2048, 2, 8, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S2048x16x1024, .f32⟩
  | .hbm, ⟨47, _⟩ => ⟨S2048x2x8x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Last.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2048x16x1024 : Shape := ⟨3, ![2048, 16, 1024]⟩
abbrev S2048x2x8x1024 : Shape := ⟨4, ![2048, 2, 8, 1024]⟩
abbrev S1x1024 : Shape := ⟨2, ![1, 1024]⟩
abbrev S2x8x2048x1024 : Shape := ⟨4, ![2, 8, 2048, 1024]⟩
abbrev S128x1x8x1024 : Shape := ⟨4, ![128, 1, 8, 1024]⟩
abbrev S1x1024x2816 : Shape := ⟨3, ![1, 1024, 2816]⟩
abbrev S1x2816x1024 : Shape := ⟨3, ![1, 2816, 1024]⟩
abbrev S1x8x128x1024 : Shape := ⟨4, ![1, 8, 128, 1024]⟩
abbrev S8x1032x128 : Shape := ⟨3, ![8, 1032, 128]⟩
abbrev S1x1x8x128 : Shape := ⟨4, ![1, 1, 8, 128]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩
abbrev S1024x128 : Shape := ⟨2, ![1024, 128]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩
abbrev S8x128x1024 : Shape := ⟨3, ![8, 128, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2048x16x1024, .f32⟩
  | .hbm, ⟨7, _⟩ => ⟨S2048x2x8x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S2x1024x2816, .bf16⟩
  | .hbm, ⟨12, _⟩ => ⟨S2x1024x2816, .bf16⟩
  | .hbm, ⟨13, _⟩ => ⟨S2x2816x1024, .bf16⟩
  | .hbm, ⟨14, _⟩ => ⟨S1x1024, .f32⟩
  | .hbm, ⟨15, _⟩ => ⟨S2x8x2048x1024, .f32⟩
  | .local _ .vmem, ⟨0, _⟩ => ⟨S128x1x8x1024, .f32⟩
  | .local _ .vmem, ⟨1, _⟩ => ⟨S128x1x8x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1x8x128x1024, .f32⟩
  | .local _ .vmem, ⟨8, _⟩ => ⟨S1x8x128x1024, .f32⟩
  | .local _ .vmem, ⟨9, _⟩ => ⟨S8x1032x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S128x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LastRefIdeal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S2x8x2048x1024 : Shape := ⟨4, ![2, 8, 2048, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S_, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x1024, .f32⟩
  | .hbm, ⟨43, _⟩ => ⟨S_, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S2x8x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Scan.lean ====
abbrev S16x2048x1024 : Shape := ⟨3, ![16, 2048, 1024]⟩
abbrev S2x1024 : Shape := ⟨2, ![2, 1024]⟩
abbrev S4x256x2048 : Shape := ⟨3, ![4, 256, 2048]⟩
abbrev S4x8x2048 : Shape := ⟨3, ![4, 8, 2048]⟩
abbrev S4x2048x256 : Shape := ⟨3, ![4, 2048, 256]⟩
abbrev S1x1024 : Shape := ⟨2, ![1, 1024]⟩
abbrev S1x1024x1024 : Shape := ⟨3, ![1, 1024, 1024]⟩
abbrev S2048x16x1024 : Shape := ⟨3, ![2048, 16, 1024]⟩
abbrev S32768x1024 : Shape := ⟨2, ![32768, 1024]⟩
abbrev S1024 : Shape := ⟨1, ![1024]⟩
abbrev S1024x1024 : Shape := ⟨2, ![1024, 1024]⟩
abbrev S512x1024 : Shape := ⟨2, ![512, 1024]⟩
abbrev S2x512x2048 : Shape := ⟨3, ![2, 512, 2048]⟩
abbrev S4x16x2048 : Shape := ⟨3, ![4, 16, 2048]⟩
abbrev S512 : Shape := ⟨1, ![512]⟩
abbrev S512x1 : Shape := ⟨2, ![512, 1]⟩
abbrev S512x256 : Shape := ⟨2, ![512, 256]⟩
abbrev S1x256x2048 : Shape := ⟨3, ![1, 256, 2048]⟩
abbrev S256x2048 : Shape := ⟨2, ![256, 2048]⟩
abbrev S512x2048 : Shape := ⟨2, ![512, 2048]⟩
abbrev S1x512x2048 : Shape := ⟨3, ![1, 512, 2048]⟩
abbrev S1x1x512 : Shape := ⟨3, ![1, 1, 512]⟩
abbrev S1x512 : Shape := ⟨2, ![1, 512]⟩
abbrev S16x512 : Shape := ⟨2, ![16, 512]⟩
abbrev S1x16x512 : Shape := ⟨3, ![1, 16, 512]⟩
abbrev S1x2048x256 : Shape := ⟨3, ![1, 2048, 256]⟩
abbrev S2048x256 : Shape := ⟨2, ![2048, 256]⟩

abbrev nBuf : Space → Nat
  | .hbm => 26
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S4x256x2048, .bf16⟩
  | .hbm, ⟨3, _⟩ => ⟨S4x8x2048, .f32⟩
  | .hbm, ⟨4, _⟩ => ⟨S4x2048x256, .bf16⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S2048x16x1024, .f32⟩
  | .hbm, ⟨11, _⟩ => ⟨S32768x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x256x2048, .bf16⟩
  | .local _ .vmem, ⟨4, _⟩ => ⟨S4x8x2048, .f32⟩
  | .local _ .vmem, ⟨5, _⟩ => ⟨S4x2048x256, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S2x512x2048, .f32⟩
  | .local _ .vmem, ⟨14, _⟩ => ⟨S2x512x2048, .bf16⟩
  | .local _ .vmem, ⟨15, _⟩ => ⟨S4x16x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ScanRefIdeal.lean ====
abbrev S16x2048x1024 : Shape := ⟨3, ![16, 2048, 1024]⟩
abbrev S2x1024 : Shape := ⟨2, ![2, 1024]⟩
abbrev S4x256x2048 : Shape := ⟨3, ![4, 256, 2048]⟩
abbrev S4x8x2048 : Shape := ⟨3, ![4, 8, 2048]⟩
abbrev S4x2048x256 : Shape := ⟨3, ![4, 2048, 256]⟩
abbrev S1x1024 : Shape := ⟨2, ![1, 1024]⟩
abbrev S1x1024x1024 : Shape := ⟨3, ![1, 1024, 1024]⟩
abbrev S2048x16x1024 : Shape := ⟨3, ![2048, 16, 1024]⟩
abbrev S1024 : Shape := ⟨1, ![1024]⟩
abbrev S_ : Shape := ⟨0, ![]⟩
abbrev S2048x16 : Shape := ⟨2, ![2048, 16]⟩
abbrev S2048x16x1 : Shape := ⟨3, ![2048, 16, 1]⟩
abbrev S1x1x1024 : Shape := ⟨3, ![1, 1, 1024]⟩
abbrev S2048x16x4x256 : Shape := ⟨4, ![2048, 16, 4, 256]⟩
abbrev S4x256x1024 : Shape := ⟨3, ![4, 256, 1024]⟩
abbrev S4x1024x256 : Shape := ⟨3, ![4, 1024, 256]⟩
abbrev S4x1x1024 : Shape := ⟨3, ![4, 1, 1024]⟩
abbrev S4x1024 : Shape := ⟨2, ![4, 1024]⟩
abbrev S4x1024x2048x16 : Shape := ⟨4, ![4, 1024, 2048, 16]⟩
abbrev S2048x16x4x1024 : Shape := ⟨4, ![2048, 16, 4, 1024]⟩
abbrev S16x4x1024 : Shape := ⟨3, ![16, 4, 1024]⟩
abbrev S1x16x4x1024 : Shape := ⟨4, ![1, 16, 4, 1024]⟩
abbrev S1x4x1024 : Shape := ⟨3, ![1, 4, 1024]⟩
abbrev S4x256x2048x16 : Shape := ⟨4, ![4, 256, 2048, 16]⟩
abbrev S1024x1024 : Shape := ⟨2, ![1024, 1024]⟩
abbrev S32768x1024 : Shape := ⟨2, ![32768, 1024]⟩

abbrev nBuf : Space → Nat
  | .hbm => 153
  | .vmem => 0
  | .smem => 0
  | _ => 0

abbrev hbmTy0_0 (i : Nat) : BufTy := match i % 128 with
  | 0 => ⟨S16x2048x1024, .f32⟩
  | 1 => ⟨S2x1024, .f32⟩
  | 2 => ⟨S4x256x2048, .bf16⟩
  | 3 => ⟨S4x8x2048, .f32⟩
  | 4 => ⟨S4x2048x256, .bf16⟩
  | 5 => ⟨S1x1024, .f32⟩
  | 6 => ⟨S1x1024x1024, .f32⟩
  | 7 => ⟨S1x1024, .f32⟩
  | 8 => ⟨S1x1024x1024, .f32⟩
  | 9 => ⟨S1x1024, .f32⟩
  | 10 => ⟨S2048x16x1024, .f32⟩
  | 11 => ⟨S1x1024, .f32⟩
  | 12 => ⟨S1024, .f32⟩
  | 13 => ⟨S2048x16x1024, .f32⟩
  | 14 => ⟨S_, .f32⟩
  | 15 => ⟨S2048x16, .f32⟩
  | 16 => ⟨S2048x16x1, .f32⟩
  | 17 => ⟨S_, .f32⟩
  | 18 => ⟨S2048x16x1, .f32⟩
  | 19 => ⟨S2048x16x1, .f32⟩
  | 20 => ⟨S_, .f32⟩
  | 21 => ⟨S2048x16x1, .f32⟩
  | 22 => ⟨S2048x16x1, .f32⟩
  | 23 => ⟨S2048x16x1, .f32⟩
  | 24 => ⟨S2048x16x1024, .f32⟩
  | 25 => ⟨S2048x16x1024, .f32⟩
  | 26 => ⟨S1x1x1024, .f32⟩
  | 27 => ⟨S2048x16x1024, .f32⟩
  | 28 => ⟨S2048x16x1024, .f32⟩
  | 29 => ⟨S2048x16x4x256, .f32⟩
  | 30 => ⟨S4x256x1024, .bf16⟩
  | 31 => ⟨S4x256x1024, .f32⟩
  | 32 => ⟨S4x256x1024, .bf16⟩
  | 33 => ⟨S4x256x1024, .f32⟩
  | 34 => ⟨S4x1024x256, .bf16⟩
  | 35 => ⟨S4x1024x256, .f32⟩
  | 36 => ⟨S4x1024x256, .bf16⟩
  | 37 => ⟨S4x1024x256, .f32⟩
  | 38 => ⟨S4x1x1024, .f32⟩
  | 39 => ⟨S4x1024, .f32⟩
  | 40 => ⟨S4x1x1024, .f32⟩
  | 41 => ⟨S4x1024, .f32⟩
  | 42 => ⟨S4x1024x2048x16, .f32⟩
  | 43 => ⟨S2048x16x4x1024, .f32⟩
  | 44 => ⟨S4x1024x2048x16, .f32⟩
  | 45 => ⟨S2048x16x4x1024, .f32⟩
  | 46 => ⟨S_, .f32⟩
  | 47 => ⟨S16x4x1024, .f32⟩
  | 48 => ⟨S_, .f32⟩
  | 49 => ⟨S2048x16x4x1024, .f32⟩
  | 50 => ⟨S_, .f32⟩
  | 51 => ⟨S2048x16x4x1024, .f32⟩
  | 52 => ⟨S_, .i32⟩
  | 53 => ⟨S2048x16x4x1024, .f32⟩
  | 54 => ⟨S2048x16x4x1024, .f32⟩
  | 55 => ⟨S4x1024, .f32⟩
  | 56 => ⟨S4x1024, .f32⟩
  | 57 => ⟨S_, .i32⟩
  | 58 => ⟨S16x4x1024, .f32⟩
  | 59 => ⟨S16x4x1024, .f32⟩
  | 60 => ⟨S2048x16x4x1024, .f32⟩
  | 61 => ⟨S2048x16x4x1024, .f32⟩
  | 62 => ⟨S_, .i32⟩
  | 63 => ⟨S_, .i1⟩
  | 64 => ⟨S_, .i32⟩
  | 65 => ⟨S_, .i32⟩
  | 66 => ⟨S_, .i32⟩
  | 67 => ⟨S1x16x4x1024, .f32⟩
  | 68 => ⟨S16x4x1024, .f32⟩
  | 69 => ⟨S_, .i32⟩
  | 70 => ⟨S_, .i32⟩
  | 71 => ⟨S_, .i32⟩
  | 72 => ⟨S1x16x4x1024, .f32⟩
  | 73 => ⟨S16x4x1024, .f32⟩
  | 74 => ⟨S1x4x1024, .f32⟩
  | 75 => ⟨S16x4x1024, .f32⟩
  | 76 => ⟨S16x4x1024, .f32⟩
  | 77 => ⟨S1x4x1024, .f32⟩
  | 78 => ⟨S16x4x1024, .f32⟩
  | 79 => ⟨S16x4x1024, .f32⟩
  | 80 => ⟨S16x4x1024, .f32⟩
  | 81 => ⟨S16x4x1024, .f32⟩
  | 82 => ⟨S1x4x1024, .f32⟩
  | 83 => ⟨S16x4x1024, .f32⟩
  | 84 => ⟨S16x4x1024, .f32⟩
  | 85 => ⟨S1x4x1024, .f32⟩
  | 86 => ⟨S16x4x1024, .f32⟩
  | 87 => ⟨S16x4x1024, .f32⟩
  | 88 => ⟨S16x4x1024, .f32⟩
  | 89 => ⟨S16x4x1024, .f32⟩
  | 90 => ⟨S1x16x4x1024, .f32⟩
  | 91 => ⟨S_, .i32⟩
  | 92 => ⟨S_, .i32⟩
  | 93 => ⟨S_, .i32⟩
  | 94 => ⟨S2048x16x4x1024, .f32⟩
  | 95 => ⟨S1x16x4x1024, .f32⟩
  | 96 => ⟨S_, .i32⟩
  | 97 => ⟨S_, .i32⟩
  | 98 => ⟨S_, .i32⟩
  | 99 => ⟨S2048x16x4x1024, .f32⟩
  | 100 => ⟨S_, .i32⟩
  | 101 => ⟨S_, .i32⟩
  | 102 => ⟨S4x256x2048x16, .f32⟩
  | 103 => ⟨S2048x16x4x256, .f32⟩
  | 104 => ⟨S4x256x2048x16, .f32⟩
  | 105 => ⟨S2048x16x4x256, .f32⟩
  | 106 => ⟨S2048x16x4x256, .f32⟩
  | 107 => ⟨S2048x16x1024, .f32⟩
  | 108 => ⟨S1024, .f32⟩
  | 109 => ⟨S1x1x1024, .f32⟩
  | 110 => ⟨S2048x16x1024, .f32⟩
  | 111 => ⟨S2048x16x1024, .f32⟩
  | 112 => ⟨S2048x16x1024, .f32⟩
  | 113 => ⟨S2048x16x1024, .f32⟩
  | 114 => ⟨S2048x16x1024, .f32⟩
  | 115 => ⟨S_, .f32⟩
  | 116 => ⟨S2048x16x1024, .f32⟩
  | 117 => ⟨S2048x16x1024, .f32⟩
  | 118 => ⟨S2048x16x1024, .f32⟩
  | 119 => ⟨S_, .f32⟩
  | 120 => ⟨S2048x16x1024, .f32⟩
  | 121 => ⟨S2048x16x1024, .f32⟩
  | 122 => ⟨S2048x16x1024, .f32⟩
  | 123 => ⟨S_, .f32⟩
  | 124 => ⟨S2048x16x1024, .f32⟩
  | 125 => ⟨S2048x16x1024, .f32⟩
  | 126 => ⟨S_, .f32⟩
  | 127 => ⟨S2048x16x1024, .f32⟩
  | _ => ⟨S16x2048x1024, .f32⟩

abbrev hbmTy0_1 (i : Nat) : BufTy := match i % 128 with
  | 0 => ⟨S2048x16x1024, .f32⟩
  | 1 => ⟨S2048x16x1024, .f32⟩
  | 2 => ⟨S1024x1024, .f32⟩
  | 3 => ⟨S2048x16x1024, .f32⟩
  | 4 => ⟨S1024, .f32⟩
  | 5 => ⟨S1x1x1024, .f32⟩
  | 6 => ⟨S2048x16x1024, .f32⟩
  | 7 => ⟨S2048x16x1024, .f32⟩
  | 8 => ⟨S1024x1024, .f32⟩
  | 9 => ⟨S2048x16x1024, .f32⟩
  | 10 => ⟨S1024, .f32⟩
  | 11 => ⟨S1x1x1024, .f32⟩
  | 12 => ⟨S2048x16x1024, .f32⟩
  | 13 => ⟨S2048x16x1024, .f32⟩
  | 14 => ⟨S2048x16x1024, .f32⟩
  | 15 => ⟨S2048x16x1024, .f32⟩
  | 16 => ⟨S_, .f32⟩
  | 17 => ⟨S2048x16x1024, .f32⟩
  | 18 => ⟨S2048x16x1024, .f32⟩
  | 19 => ⟨S_, .f32⟩
  | 20 => ⟨S2048x16x1024, .f32⟩
  | 21 => ⟨S2048x16x1024, .f32⟩
  | 22 => ⟨S2048x16x1024, .f32⟩
  | 23 => ⟨S2048x16x1024, .f32⟩
  | 24 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_c : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev main_v36_4 : Ref sig .tc := ⟨.hbm, 57, rfl⟩
abbrev main_v36_5 : Ref sig .tc := ⟨.hbm, 58, rfl⟩
abbrev main_v36_6 : Ref sig .tc := ⟨.hbm, 59, rfl⟩
abbrev main_v36_7 : Ref sig .tc := ⟨.hbm, 60, rfl⟩
abbrev main_v36_8 : Ref sig .tc := ⟨.hbm, 61, rfl⟩
abbrev main_while0c_c_19 : Ref sig .tc := ⟨.hbm, 62, rfl⟩
abbrev main_while0c_v82 : Ref sig .tc := ⟨.hbm, 63, rfl⟩
abbrev main_while0b_call0_c : Ref sig .tc := ⟨.hbm, 64, rfl⟩
abbrev main_while0b_call0_c_0 : Ref sig .tc := ⟨.hbm, 65, rfl⟩
abbrev main_while0b_call0_c_1 : Ref sig .tc := ⟨.hbm, 66, rfl⟩
abbrev main_while0b_call0_v0 : Ref sig .tc := ⟨.hbm, 67, rfl⟩
abbrev main_while0b_v82 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_v0 : Ref sig .tc := ⟨.hbm, 72, rfl⟩
abbrev main_while0b_v83 : Ref sig .tc := ⟨.hbm, 73, rfl⟩
abbrev main_while0b_v84 : Ref sig .tc := ⟨.hbm, 74, rfl⟩
abbrev main_while0b_v85 : Ref sig .tc := ⟨.hbm, 75, rfl⟩
abbrev main_while0b_v86 : Ref sig .tc := ⟨.hbm, 76, rfl⟩
abbrev main_while0b_v87 : Ref sig .tc := ⟨.hbm, 77, rfl⟩
abbrev main_while0b_v88 : Ref sig .tc := ⟨.hbm, 78, rfl⟩
abbrev main_while0b_v89 : Ref sig .tc := ⟨.hbm, 79, rfl⟩
abbrev main_while0b_v90 : Ref sig .tc := ⟨.hbm, 80, rfl⟩
abbrev main_while0b_v91 : Ref sig .tc := ⟨.hbm, 81, rfl⟩
abbrev main_while0b_v92 : Ref sig .tc := ⟨.hbm, 82, rfl⟩
abbrev main_while0b_v93 : Ref sig .tc := ⟨.hbm, 83, rfl⟩
abbrev main_while0b_v94 : Ref sig .tc := ⟨.hbm, 84, rfl⟩
abbrev main_while0b_v95 : Ref sig .tc := ⟨.hbm, 85, rfl⟩
abbrev main_while0b_v96 : Ref sig .tc := ⟨.hbm, 86, rfl⟩
abbrev main_while0b_v97 : Ref sig .tc := ⟨.hbm, 87, rfl⟩
abbrev main_while0b_v98 : Ref sig .tc := ⟨.hbm, 88, rfl⟩
abbrev main_while0b_v99 : Ref sig .tc := ⟨.hbm, 89, rfl⟩
abbrev main_while0b_call2_v0 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_c_1 : Ref sig .tc := ⟨.hbm, 93, rfl⟩
abbrev main_while0b_v100 : Ref sig .tc := ⟨.hbm, 94, rfl⟩
abbrev main_while0b_call3_v0 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_v101 : Ref sig .tc := ⟨.hbm, 99, rfl⟩
abbrev main_while0b_c_19 : Ref sig .tc := ⟨.hbm, 100, rfl⟩
abbrev main_while0b_v102 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_5 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_6 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_7 : Ref sig .tc := ⟨.hbm, 123, rfl⟩
abbrev main_v56 : Ref sig .tc := ⟨.hbm, 124, rfl⟩
abbrev main_v57 : Ref sig .tc := ⟨.hbm, 125, rfl⟩
abbrev main_cst_8 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_cst_9 : Ref sig .tc := ⟨.hbm, 144, rfl⟩
abbrev main_v75 : Ref sig .tc := ⟨.hbm, 145, rfl⟩
abbrev main_v76 : Ref sig .tc := ⟨.hbm, 146, rfl⟩
abbrev main_cst_10 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩

abbrev nD : Nat := 1
abbrev τ : Topo := Topo.v7x

variable {F : FTy → Type} [FloatOps F]

abbrev main_while0_count : Scf.Loop 32 := ⟨0#32, 2048#32, 1#32⟩
-- ==== Proj.lean ====
abbrev S16x2048x1024 : Shape := ⟨3, ![16, 2048, 1024]⟩
abbrev S2x1024 : Shape := ⟨2, ![2, 1024]⟩
abbrev S1x1024x4624 : Shape := ⟨3, ![1, 1024, 4624]⟩
abbrev S1024x4624 : Shape := ⟨2, ![1024, 4624]⟩
abbrev S1024x16 : Shape := ⟨2, ![1024, 16]⟩
abbrev S32768x1024 : Shape := ⟨2, ![32768, 1024]⟩
abbrev S1x1024 : Shape := ⟨2, ![1, 1024]⟩
abbrev S1024 : Shape := ⟨1, ![1024]⟩
abbrev S1024x2560 : Shape := ⟨2, ![1024, 2560]⟩
abbrev S1024x2048 : Shape := ⟨2, ![1024, 2048]⟩
abbrev S_ : Shape := ⟨0, ![]⟩
abbrev S1024x128 : Shape := ⟨2, ![1024, 128]⟩
abbrev S16x1024 : Shape := ⟨2, ![16, 1024]⟩
abbrev S32768x1536 : Shape := ⟨2, ![32768, 1536]⟩
abbrev S32768x128 : Shape := ⟨2, ![32768, 128]⟩
abbrev S16x32768 : Shape := ⟨2, ![16, 32768]⟩
abbrev S512x1024 : Shape := ⟨2, ![512, 1024]⟩
abbrev S512x1536 : Shape := ⟨2, ![512, 1536]⟩
abbrev S512x128 : Shape := ⟨2, ![512, 128]⟩
abbrev S16x512 : Shape := ⟨2, ![16, 512]⟩
abbrev S512 : Shape := ⟨1, ![512]⟩
abbrev S512x1 : Shape := ⟨2, ![512, 1]⟩
abbrev S512x2560 : Shape := ⟨2, ![512, 2560]⟩
abbrev S512x2048 : Shape := ⟨2, ![512, 2048]⟩

abbrev nBuf : Space → Nat
  | .hbm => 25
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x4624, .f32⟩
  | .hbm, ⟨3, _⟩ => ⟨S1024x4624, .f32⟩
  | .hbm, ⟨4, _⟩ => ⟨S1024x16, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x2560, .f32⟩
  | .hbm, ⟨10, _⟩ => ⟨S1024x2560, .bf16⟩
  | .hbm, ⟨11, _⟩ => ⟨S1024x2048, .f32⟩
  | .hbm, ⟨12, _⟩ => ⟨S1024x2048, .bf16⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S16x1024, .f32⟩
  | .hbm, ⟨18, _⟩ => ⟨S16x1024, .bf16⟩
  | .hbm, ⟨19, _⟩ => ⟨S32768x1024, .f32⟩
  | .hbm, ⟨20, _⟩ => ⟨S32768x1536, .f32⟩
  | .hbm, ⟨21, _⟩ => ⟨S32768x1024, .f32⟩
  | .hbm, ⟨22, _⟩ => ⟨S32768x1024, .f32⟩
  | .hbm, ⟨23, _⟩ => ⟨S32768x128, .f32⟩
  | .hbm, ⟨24, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2048, .bf16⟩
  | .local _ .vmem, ⟨5, _⟩ => ⟨S1024x128, .bf16⟩
  | .local _ .vmem, ⟨6, _⟩ => ⟨S16x1024, .bf16⟩
  | .local _ .vmem, ⟨7, _⟩ => ⟨S512x1024, .f32⟩
  | .local _ .vmem, ⟨8, _⟩ => ⟨S512x1024, .f32⟩
  | .local _ .vmem, ⟨9, _⟩ => ⟨S512x1536, .f32⟩
  | .local _ .vmem, ⟨10, _⟩ => ⟨S512x1536, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x128, .f32⟩
  | .local _ .vmem, ⟨16, _⟩ => ⟨S512x128, .f32⟩
  | .local _ .vmem, ⟨17, _⟩ => ⟨S16x512, .f32⟩
  | .local _ .vmem, ⟨18, _⟩ => ⟨S16x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev main_v14_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S16x2048x1024 : Shape := ⟨3, ![16, 2048, 1024]⟩
abbrev S2x1024 : Shape := ⟨2, ![2, 1024]⟩
abbrev S1x1024x4624 : Shape := ⟨3, ![1, 1024, 4624]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4624 : Shape := ⟨2, ![1024, 4624]⟩
abbrev S16x2048x4624 : Shape := ⟨3, ![16, 2048, 4624]⟩
abbrev S32768x4624 : Shape := ⟨2, ![32768, 4624]⟩
abbrev S32768x1024 : Shape := ⟨2, ![32768, 1024]⟩
abbrev S32768x1536 : Shape := ⟨2, ![32768, 1536]⟩
abbrev S32768x16 : Shape := ⟨2, ![32768, 16]⟩
abbrev S32768x128 : Shape := ⟨2, ![32768, 128]⟩
abbrev S16x32768 : Shape := ⟨2, ![16, 32768]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x4624, .f32⟩
  | .hbm, ⟨3, _⟩ => ⟨S1x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x4624, .f32⟩
  | .hbm, ⟨22, _⟩ => ⟨S16x2048x4624, .f32⟩
  | .hbm, ⟨23, _⟩ => ⟨S32768x4624, .f32⟩
  | .hbm, ⟨24, _⟩ => ⟨S32768x1024, .f32⟩
  | .hbm, ⟨25, _⟩ => ⟨S32768x1536, .f32⟩
  | .hbm, ⟨26, _⟩ => ⟨S32768x16, .f32⟩
  | .hbm, ⟨27, _⟩ => ⟨S32768x1024, .f32⟩
  | .hbm, ⟨28, _⟩ => ⟨S32768x1024, .f32⟩
  | .hbm, ⟨29, _⟩ => ⟨S_, .i32⟩
  | .hbm, ⟨30, _⟩ => ⟨S_, .f32⟩
  | .hbm, ⟨31, _⟩ => ⟨S32768x128, .f32⟩
  | .hbm, ⟨32, _⟩ => ⟨S16x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.FfnRow.lean ====
/-
  One row of the feed-forward call over the extended reals: root-mean-square norm, gated product, down projection and
  half-weighted residual. The kernel's blocks and the reference's arrays are both read against these functions.
-/
module

public import Idealize.ShloMosaic.PureOps.Ideal
public import Idealize.ShloMosaic.Lib.Pointwise

@[expose] public section

noncomputable section

open Idealize.ShloMosaic
open scoped BigOperators

namespace Cert.FfnRow

/-- The row's normalised entry: `x k / sqrt (mean of squares + eps)`, times the weight. -/
def normed (x w : Fin 1024 → EReal) (k : Fin 1024) : EReal :=
  x k * Ideal.rsqrt (Ideal.div (∑ l, x l * x l) (Ideal.ofBits .f32 0x44800000#32) + Ideal.ofBits .f32 0x358637BD#32) * w k

/-- A projection of the row to hidden unit `j`. -/
def proj (h : Fin 1024 → EReal) (W : Fin 1024 → Fin 2816 → EReal) (j : Fin 2816) : EReal := ∑ k, h k * W k j

/-- The gated hidden unit: `silu (gate) * up`. -/
def hidden (h : Fin 1024 → EReal) (G U : Fin 1024 → Fin 2816 → EReal) (j : Fin 2816) : EReal :=
  proj h G j * Ideal.div (Ideal.ofBits .f32 0x3F800000#32) (Ideal.ofBits .f32 0x3F800000#32 + Ideal.exp (-proj h G j)) * proj h U j

/-- The call's output for one row, at column `c`. -/
def out (x w : Fin 1024 → EReal) (G U : Fin 1024 → Fin 2816 → EReal) (D : Fin 2816 → Fin 1024 → EReal) (c : Fin 1024) : EReal :=
  x c + Ideal.ofBits .f32 0x3F000000#32 * ∑ j, hidden (normed x w) G U j * D j c

/-- Equal rows and weights give equal outputs. -/
theorem out_congr {x x' w w' : Fin 1024 → EReal} {G G' U U' : Fin 1024 → Fin 2816 → EReal} {D D' : Fin 2816 → Fin 1024 → EReal}
    {c c' : Fin 1024} (hx : ∀ k, x k = x' k) (hw : ∀ k, w k = w' k) (hG : ∀ k j, G k j = G' k j) (hU : ∀ k j, U k j = U' k j)
    (hD : ∀ j k, D j k = D' j k) (hc : c = c') : out x w G U D c = out x' w' G' U' D' c' := by
  obtain rfl : x = x' := funext hx
  obtain rfl : w = w' := funext hw
  obtain rfl : G = G' := funext fun k => funext (hG k)
  obtain rfl : U = U' := funext fun k => funext (hU k)
  obtain rfl : D = D' := funext fun k => funext (hD k)
  rw [hc]

end Cert.FfnRow

end
-- ==== Proof.FfnBlock.lean ====
/-
  The feed-forward kernel's block: what one grid point computes from its input blocks, row by row, and the result array
  after the run.
-/
module

public import proofs.«01_k».proof.Proof.FfnRow
public import proofs.«01_k».proof.Proof.Gen.FfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnBlock

open Cert.FfnIdeal Cert.FfnIdeal.Gen

/-- The block of rows the kernel writes at a point, from the point's input blocks: every row by `FfnRow.out`. -/
def blockOut (x : Vec Ideal S1024x1024 .f32) (w : Vec Ideal S1x1024 .f32) (g u : Vec Ideal S1x1024x2816 .bf16)
    (d : Vec Ideal S1x2816x1024 .bf16) (r c : Fin 1024) : EReal :=
  FfnRow.out (fun k => x (ix2 r k)) (fun k => w (ix2 0 k)) (fun k j => g (ix3 0 k j)) (fun k j => u (ix3 0 k j))
    (fun j c => d (ix3 0 j c)) c

/-- The first half's normalised rows. -/
theorem pay5_apply (x : Vec Ideal S1024x1024 .f32) (w : Vec Ideal S1x1024 .f32) (r : Fin 512) (k : Fin 1024) :
    k0_pay5 x w (ix2 r k) = FfnRow.normed (fun k => x (ix2 ⟨r, by omega⟩ k)) (fun k => w (ix2 0 k)) k := by
  pointwise [k0_pay5, k0_pay3, k0_pay2, FfnRow.normed]

/-- The second half's normalised rows. -/
theorem pay6_apply (x : Vec Ideal S1024x1024 .f32) (w : Vec Ideal S1x1024 .f32) (r : Fin 512) (k : Fin 1024) :
    k0_pay6 x w (ix2 r k) = FfnRow.normed (fun k => x (ix2 ⟨512 + r, by omega⟩ k)) (fun k => w (ix2 0 k)) k := by
  pointwise [k0_pay6, k0_pay4, k0_pay2, FfnRow.normed]

/-- The first half's gate products. -/
theorem pay7_apply (x : Vec Ideal S1024x1024 .f32) (w : Vec Ideal S1x1024 .f32) (g : Vec Ideal S1x1024x2816 .bf16) (r : Fin 512) (j : Fin 2816) :
    k0_pay7 x w g (ix2 r j) = FfnRow.proj (fun k => k0_pay5 x w (ix2 r k)) (fun k j => g (ix3 0 k j)) j := by
  pointwise [k0_pay7, FfnRow.proj]

/-- The first half: residual plus half the gated product. -/
theorem pay9_apply (x : Vec Ideal S1024x1024 .f32) (w : Vec Ideal S1x1024 .f32) (g u : Vec Ideal S1x1024x2816 .bf16)
    (d : Vec Ideal S1x2816x1024 .bf16) (r : Fin 512) (c : Fin 1024) :
    k0_pay9 (k0_pay3 x) (k0_pay5 x w) (k0_pay7 x w g) (k0_pay8 x w g) (Scalar.ofBits .f32 0x3F800000#32) u d (ix2 r c)
      = blockOut x w g u d ⟨r, by omega⟩ c := by
  have h7 := pay7_apply x w g r
  have h5 : ∀ k, k0_pay5 x w (ix2 r k) = _ := pay5_apply x w r
  pointwise [k0_pay9, k0_pay8, k0_pay3, k0_pay2, blockOut, FfnRow.out, FfnRow.hidden]
  simp only [h7, h5, zero_sub]
  rfl

/-- The second half's down projection. -/
theorem pay10_apply (x : Vec Ideal S1024x1024 .f32) (w : Vec Ideal S1x1024 .f32) (g u : Vec Ideal S1x1024x2816 .bf16)
    (d : Vec Ideal S1x2816x1024 .bf16) (r : Fin 512) (c : Fin 1024) :
    k0_pay10 (k0_pay6 x w) g u d (ix2 r c)
      = ∑ j, FfnRow.hidden (FfnRow.normed (fun k => x (ix2 ⟨512 + r, by omega⟩ k)) (fun k => w (ix2 0 k))) (fun k j => g (ix3 0 k j)) (fun k j => u (ix3 0 k j)) j * d (ix3 0 j c) := by
  have h6 : ∀ k, k0_pay6 x w (ix2 r k) = _ := pay6_apply x w r
  pointwise [k0_pay10, FfnRow.hidden, FfnRow.proj]
  simp only [h6, zero_sub]

/-- The whole block stored at a point. -/
theorem pay1_apply (x : Vec Ideal S1024x1024 .f32) (w : Vec Ideal S1x1024 .f32) (g u : Vec Ideal S1x1024x2816 .bf16)
    (d : Vec Ideal S1x2816x1024 .bf16) (r c : Fin 1024) :
    k0_pay1 (k0_pay4 x) (k0_pay9 (k0_pay3 x) (k0_pay5 x w) (k0_pay7 x w g) (k0_pay8 x w g) (Scalar.ofBits .f32 0x3F800000#32) u d)
      (k0_pay10 (k0_pay6 x w) g u d) (ix2 r c) = blockOut x w g u d r c := by
  by_cases hr : (r : ℕ) < 512
  · have h := pay9_apply x w g u d ⟨r, hr⟩ c
    generalize k0_pay9 (k0_pay3 x) _ _ _ _ _ _ = P at h ⊢
    pointwise [k0_pay1]
    rw [dif_pos hr]
    exact h
  · have h := pay10_apply x w g u d ⟨r - 512, by omega⟩ c
    pointwise [k0_pay1, k0_pay4, k0_pay2]
    rw [dif_neg hr, h]
    have e : (⟨512 + ((r : ℕ) - 512), by omega⟩ : Fin 1024) = r := Fin.ext (by show 512 + ((r : ℕ) - 512) = r; omega)
    simp only [e]
    rfl

variable (m : (ℓ : Loc nD τ sig) → Buf (Elt Ideal) ℓ)

/-- The call's result array from its arguments: every row of every sequence by `FfnRow.out`. -/
def result (x : FVec Ideal S16x2048x1024 .f32) (w : FVec Ideal S2x1024 .f32) (g u : FVec Ideal S2x1024x2816 .f32)
    (d : FVec Ideal S2x2816x1024 .f32) (i : S32768x1024.Idx) : EReal :=
  FfnRow.out (fun k => x (ix3 ⟨(i 0 : ℕ) / 2048, by have := (i 0).isLt; simp at this; omega⟩ ⟨(i 0 : ℕ) % 2048, by omega⟩ k)) (fun k => w (ix2 0 k))
    (fun k j => g (ix3 0 k j)) (fun k j => u (ix3 0 k j)) (fun j c => d (ix3 0 j c)) (i 1)

/-- The windows' index maps. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The sequences laid out one after another, read at a row. -/
theorem rows_apply (x : FVec Ideal S16x2048x1024 .f32) (a : Fin 32768) (k : Fin 1024) :
    shapeCast S32768x1024 x shapeCasts_S16x2048x1024_S32768x1024 (ix2 a k) = x (ix3 ⟨(a : ℕ) / 2048, by omega⟩ ⟨(a : ℕ) % 2048, by omega⟩ k) := by
  pointwise []

/-- The first layer's norm weight, read at an entry. -/
theorem norm_apply (x : FVec Ideal S2x1024 .f32) (k : Fin 1024) :
    shapeCast S1x1024 (shapeCast S1024 (extractStridedSlice S1x1024 ![0, 0] x slices_S2x1024_S1x1024_0_0)
      shapeCasts_S1x1024_S1024) shapeCasts_S1024_S1x1024 (ix2 0 k) = x (ix2 0 k) := by
  pointwise []

/-- The kernel's rows are the sequences' positions, one after another. -/
theorem entry0 (c : Dev nD) (a : Fin 32768) (k : Fin 1024) : V m c main_v0 (ix2 a k)
    = m ((c : Thread nD τ).loc main_arg0) (ix3 ⟨(a : ℕ) / 2048, by omega⟩ ⟨(a : ℕ) % 2048, by omega⟩ k) := by
  entry_read
  exact rows_apply _ a k

/-- The norm weight is the first layer's. -/
theorem entry3 (c : Dev nD) (k : Fin 1024) : V m c main_v3 (ix2 0 k) = m ((c : Thread nD τ).loc main_arg1) (ix2 0 k) := by
  entry_read
  exact norm_apply _ k

/-- The cast weights are the weights. -/
theorem entry4 (c : Dev nD) (i : S2x1024x2816.Idx) : V m c main_v4 i = m ((c : Thread nD τ).loc main_arg2) i := by
  entry_read; rfl
theorem entry5 (c : Dev nD) (i : S2x1024x2816.Idx) : V m c main_v5 i = m ((c : Thread nD τ).loc main_arg3) i := by
  entry_read; rfl
theorem entry6 (c : Dev nD) (i : S2x2816x1024.Idx) : V m c main_v6 i = m ((c : Thread nD τ).loc main_arg4) i := by
  entry_read; rfl

/-- Point `t`'s block is rows `1024 t` to `1024 t + 1023` of the result. -/
theorem point (c : Dev nD) (t : Fin cfg0.N) (y : S1024x1024.Idx) :
    blockOut (iblk m c 0 t) (iblk m c 1 t) (iblk m c 2 t) (iblk m c 3 t) (iblk m c 4 t) (y 0) (y 1)
      = result (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 32 := t.isLt
  have hy : (y 0 : ℕ) < 1024 := (y 0).isLt
  have e0 : ∀ k : Fin 1024, ((win0_0.blk t).view.emb (ix2 (y 0) k)) = ix2 (⟨t.val * 1024 + (y 0 : ℕ), by omega⟩ : Fin 32768) k := fun k => by blk_ext [idx t]
  have e1 : ∀ k : Fin 1024, ((win0_1.blk t).view.emb (ix2 0 k)) = ix2 0 k := fun k => by blk_ext [idx t]
  have e2 : ∀ (k : Fin 1024) (j : Fin 2816), ((win0_2.blk t).view.emb (ix3 0 k j)) = ix3 0 k j := fun k j => by blk_ext [idx t]
  have e3 : ∀ (k : Fin 1024) (j : Fin 2816), ((win0_3.blk t).view.emb (ix3 0 k j)) = ix3 0 k j := fun k j => by blk_ext [idx t]
  have e4 : ∀ (j : Fin 2816) (k : Fin 1024), ((win0_4.blk t).view.emb (ix3 0 j k)) = ix3 0 j k := fun j k => by blk_ext [idx t]
  have e5 : (win0_5.blk t).view.emb y 1 = y 1 := Fin.ext (by blk_simp [idx t])
  blk_simp [iblk, idx t, blockOut, result]
  simp only [e0, e1, e2, e3, e4, e5]
  exact FfnRow.out_congr (fun k => entry0 m c _ k) (fun k => entry3 m c k) (fun k j => entry4 m c _) (fun k j => entry5 m c _)
    (fun j k => entry6 m c _) rfl

/-- After the run the result array holds `result` of the arguments. -/
theorem final (c : Dev nD) : (dats m 0 c).arrAt 5 (cfgs 0).N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]; frame_out
  have h := pay1_apply (iblk m c 0 t) (iblk m c 1 t) (iblk m c 2 t) (iblk m c 3 t) (iblk m c 4 t) (y 0) (y 1)
  have e : (ix2 (y 0) (y 1) : S1024x1024.Idx) = y := by idx_ext
  exact (congrArg _ e.symm).trans (h.trans (point m c t y))

end Cert.FfnBlock

end
-- ==== Proof.FfnHost.lean ====
/-
  The feed-forward reference's result, read row by row.
-/
module

public import proofs.«01_k».proof.Proof.FfnBlock
public import proofs.«01_k».proof.Proof.Gen.FfnRefIdeal.Run

@[expose] public section

set_option maxRecDepth 16384

noncomputable section

open Idealize.ShloMosaic Idealize.ShloMosaic.TcCoe Idealize.SL.Sem
open scoped BigOperators

namespace Cert.FfnHost

open Cert.FfnRefIdeal Cert.FfnRefIdeal.Gen

variable (x : FVec Ideal S16x2048x1024 .f32) (w : FVec Ideal S2x1024 .f32) (g u : FVec Ideal S2x1024x2816 .f32)
    (d : FVec Ideal S2x2816x1024 .f32)

/-- The reference's normalised activations. -/
def hRef : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 (shapeCast S1024 (extractStridedSlice S1x1024 ![0, 0] w slices_S2x1024_S1x1024_0_0) shapeCasts_S1x1024_S1024)))

/-- A projection to the hidden units by the first layer's matrix. -/
def projRef (h : FVec Ideal S16x2048x1024 .f32) : FVec Ideal S16x2048x2816 .f32 :=
  Host.dotGeneral dot_S16x2048x1024_S1024x2816_S16x2048x2816_2_0_01_1_n_n none h
    (shapeCast S1024x2816 (extractStridedSlice S1x1024x2816 ![0, 0, 0] g slices_S2x1024x2816_S1x1024x2816_0_0_0) shapeCasts_S1x1024x2816_S1024x2816)

/-- The gated hidden units. -/
def actRef (a b : FVec Ideal S16x2048x2816 .f32) : FVec Ideal S16x2048x2816 .f32 :=
  mulf (mulf a (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf a))))) b

/-- The residual plus half the down projection, rows one after another. -/
def outRef (q : FVec Ideal S16x2048x2816 .f32) : FVec Ideal S32768x1024 .f32 :=
  shapeCast S32768x1024 (addf x (mulf (broadcastInDim S16x2048x1024 ![] bcast_S_S16x2048x1024 (constant S_ .f32 0x3F000000#32)) (Host.dotGeneral dot_S16x2048x2816_S2816x1024_S16x2048x1024_2_0_01_1_n_n none q
    (shapeCast S2816x1024 (extractStridedSlice S1x2816x1024 ![0, 0, 0] d slices_S2x2816x1024_S1x2816x1024_0_0_0) shapeCasts_S1x2816x1024_S2816x1024)))) shapeCasts_S16x2048x1024_S32768x1024

theorem hRef_apply (b : Fin 16) (t : Fin 2048) (k : Fin 1024) :
    hRef x w (ix3 b t k) = FfnRow.normed (fun k => x (ix3 b t k)) (fun k => w (ix2 0 k)) k := by
  pointwise [hRef, FfnRow.normed]

theorem projRef_apply (h : FVec Ideal S16x2048x1024 .f32) (b : Fin 16) (t : Fin 2048) (j : Fin 2816) :
    projRef g h (ix3 b t j) = FfnRow.proj (fun k => h (ix3 b t k)) (fun k j => g (ix3 0 k j)) j := by
  pointwise [projRef, FfnRow.proj]

theorem actRef_apply (a b : FVec Ideal S16x2048x2816 .f32) (i : S16x2048x2816.Idx) :
    actRef a b i = a i * Ideal.div (Ideal.ofBits .f32 0x3F800000#32) (Ideal.ofBits .f32 0x3F800000#32 + Ideal.exp (-a i)) * b i := by
  pointwise [actRef]

theorem outRef_apply (q : FVec Ideal S16x2048x2816 .f32) (a : Fin 32768) (c : Fin 1024) :
    outRef x d q (ix2 a c) = x (ix3 ⟨(a : ℕ) / 2048, by omega⟩ ⟨(a : ℕ) % 2048, by omega⟩ c)
      + Ideal.ofBits .f32 0x3F000000#32 * ∑ j : Fin 2816, q (ix3 ⟨(a : ℕ) / 2048, by omega⟩ ⟨(a : ℕ) % 2048, by omega⟩ j) * d (ix3 0 j c) := by
  pointwise [outRef]

/-- The reference's composed term is `FfnBlock.result`. -/
theorem ref_apply (a : Fin 32768) (c : Fin 1024) :
    outRef x d (actRef (projRef g (hRef x w)) (projRef u (hRef x w))) (ix2 a c) = FfnBlock.result x w g u d (ix2 a c) := by
  rw [outRef_apply]
  simp only [actRef_apply, projRef_apply, hRef_apply]
  rfl

theorem ref_eq : outRef x d (actRef (projRef g (hRef x w)) (projRef u (hRef x w))) = FfnBlock.result x w g u d := by
  funext i
  have e : i = (ix2 (i 0) (i 1) : S32768x1024.Idx) := by idx_ext
  rw [e]
  exact ref_apply x w g u d (i 0) (i 1)

end Cert.FfnHost

end
-- ==== Proof.FfnClaim.lean ====
/-
  The five claims about the feed-forward call.
-/
module

public import proofs.«01_k».proof.Defs
public import proofs.«01_k».proof.Proof.FfnHost
public import proofs.«01_k».proof.Proof.Gen.Ffn.Frame
public import Idealize.ShloMosaic.Lib.Quiescent

@[expose] public section

set_option maxRecDepth 16384

noncomputable section

open Idealize.ShloMosaic Idealize.ShloMosaic.TcCoe Idealize.SL.Sem

namespace Cert.FfnClaim

/-- The kernel terminates, faults nowhere and leaves its arguments unchanged, at words and at extended reals. -/
theorem frame_kernel : Cert.quiescent_Ffn := fun m ρ _ => Cert.Ffn.Gen.frame m ρ
theorem frame_ideal : Cert.quiescent_FfnIdeal := fun m ρ _ => Cert.FfnIdeal.Gen.frame m ρ
/-- The reference terminates and leaves its arguments unchanged. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)
/-- The idealized kernel is the kernel's own text. -/
theorem preserves : Cert.preserves_Ffn_FfnIdeal := trivial

/-- At the extended reals the feed-forward kernel computes what its reference computes. -/
theorem algebraic : Cert.algebraic_FfnIdeal_FfnRefIdeal := by
  pair_intro
  · run_from Cert.FfnIdeal.Gen.run_main m g
  · run_from Cert.FfnRefIdeal.Value.run m' g'
    obtain ⟨h0, h1, h2, h3, h4⟩ := hagree c
    refine Eq.trans ?_ (FfnBlock.final m c).symm
    refine Eq.trans ?_ (FfnHost.ref_eq _ _ _ _ _)
    unfold FfnRefIdeal.Value.res_main_v29
    rw [h0, h1, h2, h3, h4]
    rfl

end Cert.FfnClaim

end
-- ==== Proof.MidBlock.lean ====
/-
  The middle feed-forward call's block: what one grid point computes from its input blocks, row by row, how the rows go
  through the scratch into the time-major output, and the result array after the run.
-/
module

public import proofs.«01_k».proof.Proof.FfnRow
public import proofs.«01_k».proof.Proof.Gen.MidIdeal.Value
public import Idealize.ShloMosaic.Lib.Pipeline.ValueKit
public import Idealize.ShloMosaic.Lib.Pipeline.StridedRows
public import Idealize.ShloMosaic.Lib.WholeRead
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MidBlock

open Cert.MidIdeal Cert.MidIdeal.Gen

/-- Sequence `b`'s rows of lane chunk `j`, in the scratch. -/
abbrev box (j b : Fin 8) : Rect S8x1032x128 := StridedRows.tileRect (C := 8) (N := 8) (DP := 129) (D := 128) (L := 128) (by decide) j b

theorem slice_ok (j b : Fin 8) : S1024x1024.Slices ![128 * b.val, 128 * j.val] S128x128 := by
  revert j b; decide
theorem lanes_inb (j : Fin 8) : ∀ a : Fin 4, (![0, 0, 0, 128 * j.val] : Fin 4 → ℕ) a + S128x1x8x128.size a ≤ S128x1x8x1024.size a := by
  revert j; decide
theorem load4_inb : ∀ a : Fin 4, (![0, 0, 0, 0] : Fin 4 → ℕ) a + S1x8x128x1024.size a ≤ S1x8x128x1024.size a := by decide
theorem load1_inb : ∀ a : Fin 2, (![0, 0] : Fin 2 → ℕ) a + S1x1024.size a ≤ S1x1024.size a := by decide
theorem load2_inb : ∀ a : Fin 3, (![0, 0, 0] : Fin 3 → ℕ) a + S1x1024x2816.size a ≤ S1x1024x2816.size a := by decide
theorem load3_inb : ∀ a : Fin 3, (![0, 0, 0] : Fin 3 → ℕ) a + S1x2816x1024.size a ≤ S1x2816x1024.size a := by decide

section
variable {F : FTy → Type} [FloatOps F]

/-- The `n`-th store's lane chunk and sequence. -/
def chunk (n : ℕ) : Fin 8 := ⟨n / 8 % 8, by omega⟩
def seqn (n : ℕ) : Fin 8 := ⟨n % 8, by omega⟩

/-- What a tile store writes: a tile of the block of outputs. -/
def tilePay (X : FVec F S1024x1024 .f32) (j b : Fin 8) : FVec F S1x128x128 .f32 :=
  shapeCast S1x128x128 (extractStridedSlice S128x128 ![128 * b.val, 128 * j.val] X (slice_ok j b)) shapeCasts_S128x128_S1x128x128

/-- The first `n` tile stores, newest first. -/
def tiles (X : FVec F S1024x1024 .f32) : ℕ → List (View.Piece (Elt F) S8x1032x128 .f32)
  | 0 => []
  | n + 1 => ⟨box (chunk n) (seqn n), tilePay X (chunk n) (seqn n)⟩ :: tiles X n

/-- Eight tiles stacked: time, sequence, lane. -/
def stack (T : Fin 8 → Vec F S1x128x128 .f32) : FVec F S128x1x8x128 .f32 :=
  let U : Fin 8 → FVec F S128x1x128 .f32 := fun b => shapeCast S128x1x128 (shapeCast S128x128 (T b) shapeCasts_S1x128x128_S128x128) shapeCasts_S128x128_S128x1x128
  shapeCast S128x1x8x128 (concatenate S128x8x128 1 [⟨S128x1x128, U 0⟩, ⟨S128x1x128, U 1⟩, ⟨S128x1x128, U 2⟩, ⟨S128x1x128, U 3⟩, ⟨S128x1x128, U 4⟩, ⟨S128x1x128, U 5⟩, ⟨S128x1x128, U 6⟩, ⟨S128x1x128, U 7⟩]
    concatenates_S128x1x128_S128x1x128_S128x1x128_S128x1x128_S128x1x128_S128x1x128_S128x1x128_S128x1x128_S128x8x128_d1) shapeCasts_S128x8x128_S128x1x8x128

/-- The first `n` output stores, newest first. -/
def stores (scr : Memref sig .tc .vmem S8x1032x128 .f32) (X : FVec F S1024x1024 .f32) : ℕ → List (View.Piece (Elt F) S128x1x8x1024 .f32)
  | 0 => []
  | n + 1 => ⟨Rect.unit (s := S128x1x8x1024) ![0, 0, 0, 128 * (seqn n).val] S128x1x8x128.size (lanes_inb (seqn n)),
      stack fun b => scr.view.readCov (tiles X 64) (box (seqn n) b).toLoadRect⟩ :: stores scr X n

variable (c : Dev nD) (i : grid0.Coords) (arg2 : Memref sig .tc .vmem S1x8x128x1024 .f32) (harg2 : arg2.IsWhole) (arg3 : Memref sig .tc .vmem S1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole)
  (arg7 : Memref sig .tc .vmem S128x1x8x1024 .f32) (harg7 : arg7.IsWhole) (arg8 : Memref sig .tc .vmem S8x1032x128 .f32) (harg8 : arg8.IsWhole)
  (x0 : Vec F S1x8x128x1024 .f32) (x1 : Vec F S1x1024 .f32) (x2 : Vec F S1x1024x2816 .bf16) (x3 : Vec F S1x1024x2816 .bf16) (x4 : Vec F S1x2816x1024 .bf16)

/-- The block of outputs, from the block's rows and weights. -/
def outOf (x : Vec F S1x8x128x1024 .f32) (w : Vec F S1x1024 .f32) (g u : Vec F S1x1024x2816 .bf16) (d : Vec F S1x2816x1024 .bf16) : FVec F S1024x1024 .f32 :=
  k0_pay11 (k0_pay4 x) (k0_pay9 (k0_pay3 x) (k0_pay5 x w) (k0_pay7 x w g) k0_pay8 u d) (k0_pay10 (k0_pay6 x w) g u) d

/-- The block of outputs the kernel computes. -/
theorem block_eq : kernelRun0_A.sl.r_8 c arg2 harg2 arg3 harg3 arg4 harg4 arg5 harg5 arg6 harg6 x0 x1 x2 x3 x4
    = outOf (arg2.view.readAt (Elt F) (Rect.unit (s := S1x8x128x1024) ![0, 0, 0, 0] S1x8x128x1024.size load4_inb).toLoadRect (harg2.unread x0))
        (arg3.view.readAt (Elt F) (Rect.unit (s := S1x1024) ![0, 0] S1x1024.size load1_inb).toLoadRect (harg3.unread x1))
        (arg4.view.readAt (Elt F) (Rect.unit (s := S1x1024x2816) ![0, 0, 0] S1x1024x2816.size load2_inb).toLoadRect (harg4.unread x2))
        (arg5.view.readAt (Elt F) (Rect.unit (s := S1x1024x2816) ![0, 0, 0] S1x1024x2816.size load2_inb).toLoadRect (harg5.unread x3))
        (arg6.view.readAt (Elt F) (Rect.unit (s := S1x2816x1024) ![0, 0, 0] S1x2816x1024.size load3_inb).toLoadRect (harg6.unread x4)) := by
  sl_kernel_rfl

/-- The body's stores into its output. -/
theorem stored_eq : (kernelRun0_A c i arg2 harg2 arg3 harg3 arg4 harg4 arg5 harg5 arg6 harg6 arg7 harg7 arg8 harg8 x0 x1 x2 x3 x4).1
      = stores arg8 (kernelRun0_A.sl.r_8 c arg2 harg2 arg3 harg3 arg4 harg4 arg5 harg5 arg6 harg6 x0 x1 x2 x3 x4) 8 := by
  sl_kernel_rfl
end

/-- The block of rows the kernel computes at a point, from the point's input blocks: every row by `FfnRow.out`. -/
def blockOut (x : Vec Ideal S1x8x128x1024 .f32) (w : Vec Ideal S1x1024 .f32) (g u : Vec Ideal S1x1024x2816 .bf16)
    (d : Vec Ideal S1x2816x1024 .bf16) (b : Fin 8) (t : Fin 128) (c : Fin 1024) : EReal :=
  FfnRow.out (fun k => x (ix4 0 b t k)) (fun k => w (ix2 0 k)) (fun k j => g (ix3 0 k j)) (fun k j => u (ix3 0 k j))
    (fun j c => d (ix3 0 j c)) c

section
variable (x : Vec Ideal S1x8x128x1024 .f32) (w : Vec Ideal S1x1024 .f32) (g u : Vec Ideal S1x1024x2816 .bf16) (d : Vec Ideal S1x2816x1024 .bf16)

/-- Row `r` of the block, sequence after sequence. -/
def row (r : Fin 1024) (k : Fin 1024) : EReal := x (ix4 0 ⟨r / 128, by omega⟩ ⟨r % 128, by omega⟩ k)

/-- The rows, laid out sequence after sequence. -/
theorem pay2_apply (r k : Fin 1024) : k0_pay2 x (ix2 r k) = row x r k := by
  pointwise [k0_pay2, row]

/-- The first half of the rows. -/
theorem pay3_apply (r : Fin 512) (k : Fin 1024) : k0_pay3 x (ix2 r k) = row x ⟨r, by omega⟩ k := by
  pointwise [k0_pay3]
  exact pay2_apply x _ k

/-- The second half of the rows. -/
theorem pay4_apply (r : Fin 512) (k : Fin 1024) : k0_pay4 x (ix2 r k) = row x ⟨512 + r, by omega⟩ k := by
  pointwise [k0_pay4]
  exact pay2_apply x _ k

/-- The first half's normalised rows. -/
theorem pay5_apply (r : Fin 512) (k : Fin 1024) :
    k0_pay5 x w (ix2 r k) = FfnRow.normed (row x ⟨r, by omega⟩) (fun k => w (ix2 0 k)) k := by
  have h := pay3_apply x r
  pointwise [k0_pay5, FfnRow.normed]
  simp only [h]

/-- The second half's normalised rows. -/
theorem pay6_apply (r : Fin 512) (k : Fin 1024) :
    k0_pay6 x w (ix2 r k) = FfnRow.normed (row x ⟨512 + r, by omega⟩) (fun k => w (ix2 0 k)) k := by
  have h := pay4_apply x r
  pointwise [k0_pay6, FfnRow.normed]
  simp only [h]

/-- The first half's gate products. -/
theorem pay7_apply (r : Fin 512) (j : Fin 2816) :
    k0_pay7 x w g (ix2 r j) = FfnRow.proj (fun k => k0_pay5 x w (ix2 r k)) (fun k j => g (ix3 0 k j)) j := by
  pointwise [k0_pay7, FfnRow.proj]

/-- The first half: residual plus half the gated product. -/
theorem pay9_apply (r : Fin 512) (c : Fin 1024) :
    k0_pay9 (k0_pay3 x) (k0_pay5 x w) (k0_pay7 x w g) k0_pay8 u d (ix2 r c)
      = FfnRow.out (row x ⟨r, by omega⟩) (fun k => w (ix2 0 k)) (fun k j => g (ix3 0 k j)) (fun k j => u (ix3 0 k j)) (fun j c => d (ix3 0 j c)) c := by
  have h7 := pay7_apply x w g r
  have h5 : ∀ k, k0_pay5 x w (ix2 r k) = _ := pay5_apply x w r
  have h3 := pay3_apply x r
  pointwise [k0_pay9, k0_pay8, FfnRow.out, FfnRow.hidden]
  simp only [h7, h5, h3, zero_sub]
  rfl

/-- The second half's gated hidden units. -/
theorem pay10_apply (r : Fin 512) (j : Fin 2816) :
    k0_pay10 (k0_pay6 x w) g u (ix2 r j)
      = FfnRow.hidden (FfnRow.normed (row x ⟨512 + r, by omega⟩) (fun k => w (ix2 0 k))) (fun k j => g (ix3 0 k j)) (fun k j => u (ix3 0 k j)) j := by
  have h6 : ∀ k, k0_pay6 x w (ix2 r k) = _ := pay6_apply x w r
  pointwise [k0_pay10, FfnRow.hidden, FfnRow.proj]
  simp only [h6, zero_sub]

/-- The whole block of outputs. -/
theorem outOf_apply (r c : Fin 1024) : outOf x w g u d (ix2 r c) = blockOut x w g u d ⟨r / 128, by omega⟩ ⟨r % 128, by omega⟩ c := by
  unfold outOf
  by_cases hr : (r : ℕ) < 512
  · have h := pay9_apply x w g u d ⟨r, hr⟩ c
    generalize k0_pay9 (k0_pay3 x) _ _ _ _ _ = P at h ⊢
    pointwise [k0_pay11]
    rw [dif_pos hr]
    exact h
  · have h := pay10_apply x w g u ⟨r - 512, by omega⟩
    have h4 := pay4_apply x ⟨r - 512, by omega⟩ c
    generalize k0_pay10 (k0_pay6 x w) g u = Q at h ⊢
    generalize k0_pay4 x = R at h4 ⊢
    pointwise [k0_pay11]
    rw [dif_neg hr]
    simp only [h, h4]
    have e : (⟨512 + ((r : ℕ) - 512), by omega⟩ : Fin 1024) = r := Fin.ext (by show 512 + ((r : ℕ) - 512) = r; omega)
    simp only [e]
    rfl
end

/-- A tile's entry is the block's at its sequence's row and its chunk's lane. -/
theorem tilePay_apply (X : FVec Ideal S1024x1024 .f32) (j b : Fin 8) (t l : Fin 128) :
    tilePay X j b (ix3 0 t l) = X (ix2 ⟨128 * b + t, by omega⟩ ⟨128 * j + l, by omega⟩) := by
  pointwise [tilePay]

/-- What the scratch holds, by lane chunk, sequence's row and lane. -/
def held (X : FVec Ideal S1024x1024 .f32) (y : S8x1032x128.Idx) : Elt Ideal .f32 :=
  X (ix2 ⟨(128 * ((y 1 : ℕ) / 129) + (y 1 : ℕ) % 129) % 1024, by omega⟩ ⟨(128 * (y 0 : ℕ) + (y 2 : ℕ)) % 1024, by omega⟩)

theorem held_apply (X : FVec Ideal S1024x1024 .f32) (j b : Fin 8) (x : S1x128x128.Idx) :
    held X ((box j b).idx x) = X (ix2 ⟨128 * b + (x 1 : ℕ), by have h : (x 1 : ℕ) < 128 := (x 1).isLt; omega⟩ ⟨128 * j + (x 2 : ℕ), by have h : (x 2 : ℕ) < 128 := (x 2).isLt; omega⟩) := by
  obtain ⟨h0, h1, h2⟩ := StridedRows.tileRect_idx_val (C := 8) (N := 8) (DP := 129) (D := 128) (L := 128) (by decide) j b x
  have e1 : (x 1 : ℕ) < 128 := (x 1).isLt
  have e2 : (x 2 : ℕ) < 128 := (x 2).isLt
  have hj := j.isLt
  have hb := b.isLt
  unfold held
  congr 2
  · exact Fin.ext (show (128 * ((((box j b).idx x) 1 : ℕ) / 129) + (((box j b).idx x) 1 : ℕ) % 129) % 1024 = 128 * b + (x 1 : ℕ) by rw [h1]; omega)
  · exact Fin.ext (show (128 * (((box j b).idx x) 0 : ℕ) + (((box j b).idx x) 2 : ℕ)) % 1024 = 128 * j + (x 2 : ℕ) by rw [h0, h2]; omega)

theorem tiles_held (X : FVec Ideal S1024x1024 .f32) (n : ℕ) : ∀ p ∈ tiles X n, ∀ x : p.1.shape.Idx, p.2 x = held X (p.1.emb x) := by
  induction n with
  | zero => intro p hp; cases hp
  | succ n ih =>
    intro p hp
    rcases List.mem_cons.1 hp with rfl | hp
    · intro x
      have e : (ix3 0 (x 1) (x 2) : S1x128x128.Idx) = x := by idx_ext
      exact (congrArg _ e.symm).trans ((tilePay_apply X _ _ (x 1) (x 2)).trans (held_apply X _ _ x).symm)
    · exact ih p hp

theorem tiles_has (X : FVec Ideal S1024x1024 .f32) (N n : ℕ) (h : n < N) :
    (⟨box (chunk n) (seqn n), tilePay X (chunk n) (seqn n)⟩ : View.Piece (Elt Ideal) S8x1032x128 .f32) ∈ tiles X N := by
  induction N with
  | zero => omega
  | succ N ih =>
    rcases Nat.lt_succ_iff_lt_or_eq.1 h with h | rfl
    · exact List.mem_cons_of_mem _ (ih h)
    · exact List.mem_cons_self

/-- A tile read back from the scratch. -/
theorem tile_read (scr : Memref sig .tc .vmem S8x1032x128 .f32) (X : FVec Ideal S1024x1024 .f32) (j b : Fin 8) (t l : Fin 128) :
    scr.view.readCov (tiles X 64) (box j b).toLoadRect (ix3 0 t l) = X (ix2 ⟨128 * b + t, by omega⟩ ⟨128 * j + l, by omega⟩) := by
  rw [View.readCov_eq_canon']
  have h := tiles_has X 64 (8 * j.val + b.val) (by omega)
  have e1 : chunk (8 * j.val + b.val) = j := Fin.ext (show (8 * j.val + b.val) / 8 % 8 = j.val by omega)
  have e2 : seqn (8 * j.val + b.val) = b := Fin.ext (show (8 * j.val + b.val) % 8 = b.val by omega)
  rw [e1, e2] at h
  exact (View.canon_apply_of_pieces (held X) (tiles X 64) (tiles_held X 64) _ ⟨_, h, LoadRect.idx_mem _ _⟩).trans (held_apply X j b _)

/-- Eight stacked tiles, read at an entry. -/
theorem stack_apply (T : Fin 8 → Vec Ideal S1x128x128 .f32) (t : Fin 128) (b : Fin 8) (l : Fin 128) : stack T (ix4 t 0 b l) = T b (ix3 0 t l) := by
  pointwise [stack]
  fin_cases b <;> rfl

section
variable (scr : Memref sig .tc .vmem S8x1032x128 .f32) (X : FVec Ideal S1024x1024 .f32)

/-- The output block: time first, then sequence. -/
def spread (y : S128x1x8x1024.Idx) : Elt Ideal .f32 :=
  X (ix2 ⟨128 * (y 2 : ℕ) + (y 0 : ℕ), by have h0 : (y 0 : ℕ) < 128 := (y 0).isLt; have h2 : (y 2 : ℕ) < 8 := (y 2).isLt; omega⟩ (y 3))

/-- A stored lane chunk holds its part of the output block. -/
theorem store_spread (j : Fin 8) (x : S128x1x8x128.Idx) :
    stack (fun b => scr.view.readCov (tiles X 64) (box j b).toLoadRect) x
      = spread X ((Rect.unit (s := S128x1x8x1024) ![0, 0, 0, 128 * j.val] S128x1x8x128.size (lanes_inb j)).emb x) := by
  have e : (ix4 (x 0) 0 (x 2) (x 3) : S128x1x8x128.Idx) = x := by idx_ext
  refine (congrArg _ e.symm).trans ((stack_apply _ (x 0) (x 2) (x 3)).trans ((tile_read scr X j (x 2) (x 0) (x 3)).trans ?_))
  unfold spread
  congr 1
  idx_ext

theorem stores_spread (n : ℕ) : ∀ p ∈ stores scr X n, ∀ x : p.1.shape.Idx, p.2 x = spread X (p.1.emb x) := by
  induction n with
  | zero => intro p hp; cases hp
  | succ n ih =>
    intro p hp
    rcases List.mem_cons.1 hp with rfl | hp
    · exact fun x => store_spread scr X (seqn n) x
    · exact ih p hp

theorem stores_has (N n : ℕ) (h : n < N) :
    (⟨Rect.unit (s := S128x1x8x1024) ![0, 0, 0, 128 * (seqn n).val] S128x1x8x128.size (lanes_inb (seqn n)),
      stack fun b => scr.view.readCov (tiles X 64) (box (seqn n) b).toLoadRect⟩ : View.Piece (Elt Ideal) S128x1x8x1024 .f32) ∈ stores scr X N := by
  induction N with
  | zero => omega
  | succ N ih =>
    rcases Nat.lt_succ_iff_lt_or_eq.1 h with h | rfl
    · exact List.mem_cons_of_mem _ (ih h)
    · exact List.mem_cons_self

/-- The eight output stores leave the block of outputs, time first. -/
theorem stores_apply (y : S128x1x8x1024.Idx) : View.canon (stores scr X 8) y = spread X y := by
  have h3 : (y 3 : ℕ) < 1024 := (y 3).isLt
  refine View.canon_apply_of_pieces (spread X) _ (stores_spread scr X 8) y ⟨_, stores_has scr X 8 ((y 3 : ℕ) / 128) (by omega), ?_⟩
  have e : (Rect.unit (s := S128x1x8x1024) ![0, 0, 0, 128 * (seqn ((y 3 : ℕ) / 128)).val] S128x1x8x128.size (lanes_inb (seqn ((y 3 : ℕ) / 128)))).emb
      (ix4 (y 0) 0 (y 2) (⟨(y 3 : ℕ) % 128, by omega⟩ : Fin 128)) = y := by
    have h : (seqn ((y 3 : ℕ) / 128)).val = (y 3 : ℕ) / 128 := show (y 3 : ℕ) / 128 % 8 = _ by omega
    idx_ext
  exact (congrArg (· ∈ (Rect.unit (s := S128x1x8x1024) ![0, 0, 0, 128 * (seqn ((y 3 : ℕ) / 128)).val] S128x1x8x128.size (lanes_inb (seqn ((y 3 : ℕ) / 128)))).set) e).mp (LoadRect.idx_mem _ _)
end

theorem load0 (m : Memref sig .tc .vmem S1x8x128x1024 .f32) (h : m.IsWhole) (x : Vec Ideal S1x8x128x1024 .f32) :
    m.view.readAt (Elt Ideal) (Rect.unit (s := S1x8x128x1024) ![0, 0, 0, 0] S1x8x128x1024.size load4_inb).toLoadRect (h.unread x) = x := by
  funext y
  rw [Memref.IsWhole.readAt_unread]
  congr 1
  idx_ext
theorem load1 (m : Memref sig .tc .vmem S1x1024 .f32) (h : m.IsWhole) (x : Vec Ideal S1x1024 .f32) :
    m.view.readAt (Elt Ideal) (Rect.unit (s := S1x1024) ![0, 0] S1x1024.size load1_inb).toLoadRect (h.unread x) = x := by
  funext y
  rw [Memref.IsWhole.readAt_unread]
  congr 1
  idx_ext
theorem load2 (m : Memref sig .tc .vmem S1x1024x2816 .bf16) (h : m.IsWhole) (x : Vec Ideal S1x1024x2816 .bf16) :
    m.view.readAt (Elt Ideal) (Rect.unit (s := S1x1024x2816) ![0, 0, 0] S1x1024x2816.size load2_inb).toLoadRect (h.unread x) = x := by
  funext y
  rw [Memref.IsWhole.readAt_unread]
  congr 1
  idx_ext
theorem load3 (m : Memref sig .tc .vmem S1x2816x1024 .bf16) (h : m.IsWhole) (x : Vec Ideal S1x2816x1024 .bf16) :
    m.view.readAt (Elt Ideal) (Rect.unit (s := S1x2816x1024) ![0, 0, 0] S1x2816x1024.size load3_inb).toLoadRect (h.unread x) = x := by
  funext y
  rw [Memref.IsWhole.readAt_unread]
  congr 1
  idx_ext

/-- The windows' index maps. -/
theorem idx : ∀ t : Fin cfg0.N, win0_0.index t = ![t.val / 16, 0, t.val % 16, 0] ∧ win0_1.index t = ![0, 0] ∧ win0_2.index t = ![1, 0, 0]
    ∧ win0_3.index t = ![1, 0, 0] ∧ win0_4.index t = ![1, 0, 0] ∧ win0_5.index t = ![t.val % 16, t.val / 16, 0, 0] :=
  (by decide +kernel : ∀ t : Fin grid0.N, _)

/-- What the body leaves in its output, row by row. -/
theorem left_apply (c : Dev nD) (i : grid0.Coords) (arg2 : Memref sig .tc .vmem S1x8x128x1024 .f32) (harg2 : arg2.IsWhole) (arg3 : Memref sig .tc .vmem S1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole)
    (arg7 : Memref sig .tc .vmem S128x1x8x1024 .f32) (harg7 : arg7.IsWhole) (arg8 : Memref sig .tc .vmem S8x1032x128 .f32) (harg8 : arg8.IsWhole)
    (x0 : Vec Ideal S1x8x128x1024 .f32) (x1 : Vec Ideal S1x1024 .f32) (x2 : Vec Ideal S1x1024x2816 .bf16) (x3 : Vec Ideal S1x1024x2816 .bf16) (x4 : Vec Ideal S1x2816x1024 .bf16) (y : S128x1x8x1024.Idx) :
    out0_A_5 c i arg2 harg2 arg3 harg3 arg4 harg4 arg5 harg5 arg6 harg6 arg7 harg7 arg8 harg8 x0 x1 x2 x3 x4 y = blockOut x0 x1 x2 x3 x4 (y 2) (y 0) (y 3) := by
  unfold out0_A_5
  rw [View.read_writes_junk_eq_canon, stored_eq, stores_apply, block_eq, load0, load1, load2, load2, load3]
  have h0 : (y 0 : ℕ) < 128 := (y 0).isLt
  have h2 : (y 2 : ℕ) < 8 := (y 2).isLt
  have e1 : (⟨(128 * (y 2 : ℕ) + (y 0 : ℕ)) / 128, by omega⟩ : Fin 8) = y 2 := Fin.ext (show (128 * (y 2 : ℕ) + (y 0 : ℕ)) / 128 = (y 2 : ℕ) by omega)
  have e2 : (⟨(128 * (y 2 : ℕ) + (y 0 : ℕ)) % 128, by omega⟩ : Fin 128) = y 0 := Fin.ext (show (128 * (y 2 : ℕ) + (y 0 : ℕ)) % 128 = (y 0 : ℕ) by omega)
  exact (outOf_apply x0 x1 x2 x3 x4 _ _).trans (congrArg₂ (fun b t => blockOut x0 x1 x2 x3 x4 b t (y 3)) e1 e2)

variable (m : (ℓ : Loc nD τ sig) → Buf (Elt Ideal) ℓ)

theorem after_apply (c : Dev nD) (t : Fin cfg0.N) (y : S128x1x8x1024.Idx) :
    (outsAt0 m c t : Vec Ideal S128x1x8x1024 .f32) y = blockOut (iblk m c 0 t) (iblk m c 1 t) (iblk m c 2 t) (iblk m c 3 t) (iblk m c 4 t) (y 2) (y 0) (y 3) :=
  left_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ _ _ _ y

/-- The call's result array from its arguments: every row by `FfnRow.out`, time first. -/
def result (x : FVec Ideal S16x2048x1024 .f32) (w : FVec Ideal S2x1024 .f32) (g u : FVec Ideal S2x1024x2816 .f32)
    (d : FVec Ideal S2x2816x1024 .f32) (i : S2048x2x8x1024.Idx) : EReal :=
  FfnRow.out (fun k => x (ix3 ⟨(i 1 : ℕ) * 8 + (i 2 : ℕ), by have h1 : (i 1 : ℕ) < 2 := (i 1).isLt; have h2 : (i 2 : ℕ) < 8 := (i 2).isLt; omega⟩ (i 0) k))
    (fun k => w (ix2 1 k)) (fun k j => g (ix3 1 k j)) (fun k j => u (ix3 1 k j)) (fun j c => d (ix3 1 j c)) (i 3)

/-- The sequences in two groups of eight, read at a row. -/
theorem rows_apply (x : FVec Ideal S16x2048x1024 .f32) (p : Fin 2) (b : Fin 8) (t : Fin 2048) (k : Fin 1024) :
    shapeCast S2x8x2048x1024 x shapeCasts_S16x2048x1024_S2x8x2048x1024 (ix4 p b t k) = x (ix3 ⟨p * 8 + b, by omega⟩ t k) := by
  pointwise []

/-- The second layer's norm weight, read at an entry. -/
theorem norm_apply (x : FVec Ideal S2x1024 .f32) (k : Fin 1024) :
    shapeCast S1x1024 (shapeCast S1024 (extractStridedSlice S1x1024 ![1, 0] x slices_S2x1024_S1x1024_1_0)
      shapeCasts_S1x1024_S1024) shapeCasts_S1024_S1x1024 (ix2 0 k) = x (ix2 1 k) := by
  pointwise []

/-- The kernel's rows are the sequences' positions. -/
theorem entry0 (c : Dev nD) (p : Fin 2) (b : Fin 8) (t : Fin 2048) (k : Fin 1024) : V m c main_v0 (ix4 p b t k)
    = m ((c : Thread nD τ).loc main_arg0) (ix3 ⟨p * 8 + b, by omega⟩ t k) := by
  entry_read
  exact rows_apply _ p b t k

/-- The norm weight is the second layer's. -/
theorem entry3 (c : Dev nD) (k : Fin 1024) : V m c main_v3 (ix2 0 k) = m ((c : Thread nD τ).loc main_arg1) (ix2 1 k) := by
  entry_read
  exact norm_apply _ k

/-- The cast weights are the weights. -/
theorem entry4 (c : Dev nD) (i : S2x1024x2816.Idx) : V m c main_v4 i = m ((c : Thread nD τ).loc main_arg2) i := by
  entry_read; rfl
theorem entry5 (c : Dev nD) (i : S2x1024x2816.Idx) : V m c main_v5 i = m ((c : Thread nD τ).loc main_arg3) i := by
  entry_read; rfl
theorem entry6 (c : Dev nD) (i : S2x2816x1024.Idx) : V m c main_v6 i = m ((c : Thread nD τ).loc main_arg4) i := by
  entry_read; rfl

/-- Point `t`'s block is its 128 positions of its group's sequences. -/
theorem point (c : Dev nD) (t : Fin cfg0.N) (y : S128x1x8x1024.Idx) :
    blockOut (iblk m c 0 t) (iblk m c 1 t) (iblk m c 2 t) (iblk m c 3 t) (iblk m c 4 t) (y 2) (y 0) (y 3)
      = result (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 32 := t.isLt
  have h0 : (y 0 : ℕ) < 128 := (y 0).isLt
  have h1 : (y 1 : ℕ) < 1 := (y 1).isLt
  have h2 : (y 2 : ℕ) < 8 := (y 2).isLt
  have e0 : ∀ k : Fin 1024, ((win0_0.blk t).view.emb (ix4 0 (y 2) (y 0) k)) = ix4 (⟨t.val / 16, by omega⟩ : Fin 2) (y 2) (⟨t.val % 16 * 128 + (y 0 : ℕ), by omega⟩ : Fin 2048) k := fun k => by blk_ext [idx t]
  have e1 : ∀ k : Fin 1024, ((win0_1.blk t).view.emb (ix2 0 k)) = ix2 0 k := fun k => by blk_ext [idx t]
  have e2 : ∀ (k : Fin 1024) (j : Fin 2816), ((win0_2.blk t).view.emb (ix3 0 k j)) = ix3 1 k j := fun k j => by blk_ext [idx t]
  have e3 : ∀ (k : Fin 1024) (j : Fin 2816), ((win0_3.blk t).view.emb (ix3 0 k j)) = ix3 1 k j := fun k j => by blk_ext [idx t]
  have e4 : ∀ (j : Fin 2816) (k : Fin 1024), ((win0_4.blk t).view.emb (ix3 0 j k)) = ix3 1 j k := fun j k => by blk_ext [idx t]
  have e5 : (win0_5.blk t).view.emb y = ix4 (⟨t.val % 16 * 128 + (y 0 : ℕ), by omega⟩ : Fin 2048) (⟨t.val / 16, by omega⟩ : Fin 2) (y 2) (y 3) := by blk_ext [idx t]
  refine Eq.trans ?_ (congrArg _ e5.symm)
  blk_simp [iblk, idx t, blockOut, result]
  simp only [e0, e1, e2, e3, e4]
  exact FfnRow.out_congr (fun k => entry0 m c _ _ _ k) (fun k => entry3 m c k) (fun k j => entry4 m c _) (fun k j => entry5 m c _)
    (fun j k => entry6 m c _) rfl

/-- After the run the result array holds `result` of the arguments. -/
theorem final (c : Dev nD) : (dats m 0 c).arrAt 5 (cfgs 0).N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact (after_apply m c t y).trans (point m c t y)

end Cert.MidBlock

end
-- ==== Proof.MidHost.lean ====
/-
  The reference of the second layer's first feed-forward call, read row by row.
-/
module

public import proofs.«01_k».proof.Proof.MidBlock
public import proofs.«01_k».proof.Proof.Gen.MidRefIdeal.Run

@[expose] public section

set_option maxRecDepth 16384

noncomputable section

open Idealize.ShloMosaic Idealize.ShloMosaic.TcCoe Idealize.SL.Sem
open scoped BigOperators

namespace Cert.MidHost

open Cert.MidRefIdeal Cert.MidRefIdeal.Gen

variable (x : FVec Ideal S16x2048x1024 .f32) (w : FVec Ideal S2x1024 .f32) (g u : FVec Ideal S2x1024x2816 .f32)
    (d : FVec Ideal S2x2816x1024 .f32)

/-- The reference's normalised activations. -/
def hRef : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 (shapeCast S1024 (extractStridedSlice S1x1024 ![1, 0] w slices_S2x1024_S1x1024_1_0) shapeCasts_S1x1024_S1024)))

/-- A projection to the hidden units by the second layer's matrix. -/
def projRef (h : FVec Ideal S16x2048x1024 .f32) : FVec Ideal S16x2048x2816 .f32 :=
  Host.dotGeneral dot_S16x2048x1024_S1024x2816_S16x2048x2816_2_0_01_1_n_n none h
    (shapeCast S1024x2816 (extractStridedSlice S1x1024x2816 ![1, 0, 0] g slices_S2x1024x2816_S1x1024x2816_1_0_0) shapeCasts_S1x1024x2816_S1024x2816)

/-- The gated hidden units. -/
def actRef (a b : FVec Ideal S16x2048x2816 .f32) : FVec Ideal S16x2048x2816 .f32 :=
  mulf (mulf a (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf a))))) b

/-- The residual plus half the down projection. -/
def updRef (q : FVec Ideal S16x2048x2816 .f32) : FVec Ideal S16x2048x1024 .f32 :=
  addf x (mulf (broadcastInDim S16x2048x1024 ![] bcast_S_S16x2048x1024 (constant S_ .f32 0x3F000000#32)) (Host.dotGeneral dot_S16x2048x2816_S2816x1024_S16x2048x1024_2_0_01_1_n_n none q
    (shapeCast S2816x1024 (extractStridedSlice S1x2816x1024 ![1, 0, 0] d slices_S2x2816x1024_S1x2816x1024_1_0_0) shapeCasts_S1x2816x1024_S2816x1024)))

/-- Time first, sequences in two groups of eight. -/
def swapRef (y : FVec Ideal S16x2048x1024 .f32) : FVec Ideal S2048x2x8x1024 .f32 :=
  shapeCast S2048x2x8x1024 (transpose S2048x16x1024 [1, 0, 2] y transposes_S16x2048x1024_S2048x16x1024_1_0_2) shapeCasts_S2048x16x1024_S2048x2x8x1024

/-- The pieces, read at an entry. -/
theorem hRef_apply (b : Fin 16) (t : Fin 2048) (k : Fin 1024) :
    hRef x w (ix3 b t k) = FfnRow.normed (fun k => x (ix3 b t k)) (fun k => w (ix2 1 k)) k := by
  pointwise [hRef, FfnRow.normed]

theorem projRef_apply (h : FVec Ideal S16x2048x1024 .f32) (b : Fin 16) (t : Fin 2048) (j : Fin 2816) :
    projRef g h (ix3 b t j) = FfnRow.proj (fun k => h (ix3 b t k)) (fun k j => g (ix3 1 k j)) j := by
  pointwise [projRef, FfnRow.proj]

theorem actRef_apply (a b : FVec Ideal S16x2048x2816 .f32) (i : S16x2048x2816.Idx) :
    actRef a b i = a i * Ideal.div (Ideal.ofBits .f32 0x3F800000#32) (Ideal.ofBits .f32 0x3F800000#32 + Ideal.exp (-a i)) * b i := by
  pointwise [actRef]

theorem updRef_apply (q : FVec Ideal S16x2048x2816 .f32) (b : Fin 16) (t : Fin 2048) (c : Fin 1024) :
    updRef x d q (ix3 b t c) = x (ix3 b t c) + Ideal.ofBits .f32 0x3F000000#32 * ∑ j : Fin 2816, q (ix3 b t j) * d (ix3 1 j c) := by
  pointwise [updRef]

/-- The updated activations, row by row. -/
theorem upd_apply (b : Fin 16) (t : Fin 2048) (c : Fin 1024) :
    updRef x d (actRef (projRef g (hRef x w)) (projRef u (hRef x w))) (ix3 b t c)
      = FfnRow.out (fun k => x (ix3 b t k)) (fun k => w (ix2 1 k)) (fun k j => g (ix3 1 k j)) (fun k j => u (ix3 1 k j)) (fun j c => d (ix3 1 j c)) c := by
  rw [updRef_apply]
  simp only [actRef_apply, projRef_apply, hRef_apply]
  rfl

theorem swapRef_apply (y : FVec Ideal S16x2048x1024 .f32) (t : Fin 2048) (p : Fin 2) (b : Fin 8) (c : Fin 1024) :
    swapRef y (ix4 t p b c) = y (ix3 ⟨p * 8 + b, by omega⟩ t c) := by
  pointwise [swapRef]

/-- The reference's composed term is `MidBlock.result`. -/
theorem ref_apply (t : Fin 2048) (p : Fin 2) (b : Fin 8) (c : Fin 1024) :
    swapRef (updRef x d (actRef (projRef g (hRef x w)) (projRef u (hRef x w)))) (ix4 t p b c) = MidBlock.result x w g u d (ix4 t p b c) := by
  rw [swapRef_apply, upd_apply]
  rfl

theorem ref_eq : swapRef (updRef x d (actRef (projRef g (hRef x w)) (projRef u (hRef x w)))) = MidBlock.result x w g u d := by
  funext i
  have e : i = (ix4 (i 0) (i 1) (i 2) (i 3) : S2048x2x8x1024.Idx) := by idx_ext
  rw [e]
  exact ref_apply x w g u d (i 0) (i 1) (i 2) (i 3)

end Cert.MidHost

end
-- ==== Proof.MidClaim.lean ====
/-
  The five claims about the second layer's first feed-forward call.
-/
module

public import proofs.«01_k».proof.Defs
public import proofs.«01_k».proof.Proof.MidHost
public import proofs.«01_k».proof.Proof.Gen.Mid.Frame
public import Idealize.ShloMosaic.Lib.Quiescent

@[expose] public section

set_option maxRecDepth 16384

noncomputable section

open Idealize.ShloMosaic Idealize.ShloMosaic.TcCoe Idealize.SL.Sem

namespace Cert.MidClaim

/-- The kernel terminates, faults nowhere and leaves its arguments unchanged, at words and at extended reals. -/
theorem frame_kernel : Cert.quiescent_Mid := fun m ρ _ => Cert.Mid.Gen.frame m ρ
theorem frame_ideal : Cert.quiescent_MidIdeal := fun m ρ _ => Cert.MidIdeal.Gen.frame m ρ
/-- The reference terminates and leaves its arguments unchanged. -/
theorem frame_ref : Cert.quiescent_MidRefIdeal := fun m ρ _ =>
  (θ_run Cert.MidRefIdeal.defs _ _).mono (fun r h => ⟨fun c => (h c).2, Idealize.ShloMosaic.sem_eq_zero_of_no_sems (by decide) r.2⟩)
    (Cert.MidRefIdeal.Value.run (F := Ideal) m ρ)
/-- The idealized kernel is the kernel's own text. -/
theorem preserves : Cert.preserves_Mid_MidIdeal := trivial

/-- At the extended reals the second layer's first feed-forward kernel computes what its reference computes. -/
theorem algebraic : Cert.algebraic_MidIdeal_MidRefIdeal := by
  pair_intro
  · run_from Cert.MidIdeal.Gen.run_main m g
  · run_from Cert.MidRefIdeal.Value.run m' g'
    obtain ⟨h0, h1, h2, h3, h4⟩ := hagree c
    refine Eq.trans ?_ (MidBlock.final m c).symm
    refine Eq.trans ?_ (MidHost.ref_eq _ _ _ _ _)
    unfold MidRefIdeal.Value.res_main_v30
    rw [h0, h1, h2, h3, h4]
    rfl

end Cert.MidClaim

end
-- ==== Proof.LastRows.lean ====
/-
  The closing feed-forward call's scratch: the row stores its body makes, by time and lane chunk.
-/
module

public import proofs.«01_k».proof.Proof.Gen.LastIdeal.Value
public import Idealize.ShloMosaic.Lib.Pipeline.ValueKit
public import Idealize.ShloMosaic.Lib.Pipeline.StridedRows

@[expose] public section

set_option maxRecDepth 100000

noncomputable section

open Idealize.ShloMosaic Idealize.ShloMosaic.TcCoe Idealize.SL.Sem
open Idealize.ShloMosaic.Pipeline (Dat)
open scoped BigOperators

namespace Cert.LastBlock

open Cert.LastIdeal Cert.LastIdeal.Gen

section
variable {F : FTy → Type} [FloatOps F]

/-- The lane chunk and the time position of the `n`-th store. -/
def chunk (n : ℕ) : Fin 8 := ⟨n % 8, by omega⟩
def time (n : ℕ) : Fin 128 := ⟨n / 8 % 128, by omega⟩

theorem load_inb (t : Fin 128) (j : Fin 8) : ∀ a : Fin 4, (![t.val, 0, 0, 128 * j.val] : Fin 4 → ℕ) a + S1x1x8x128.size a ≤ S128x1x8x1024.size a := by
  intro a
  have := t.isLt; have := j.isLt
  match a with
  | ⟨0, _⟩ => show t.val + 1 ≤ 128; omega
  | ⟨1, _⟩ => show 0 + 1 ≤ 1; omega
  | ⟨2, _⟩ => show 0 + 8 ≤ 8; omega
  | ⟨3, _⟩ => show 128 * j.val + 128 ≤ 1024; omega

variable (c : Dev nD) (arg2 : Memref sig .tc .vmem S128x1x8x1024 .f32) (harg2 : arg2.IsWhole) (arg9 : Memref sig .tc .vmem S8x1032x128 .f32)
  (x0 : Vec F S128x1x8x1024 .f32)

/-- What the store of time `t`, lane chunk `j` writes: that time's eight rows, restricted to the chunk. -/
def rowPay (t : Fin 128) (j : Fin 8) : FVec F S1x8x128 .f32 :=
  shapeCast S1x8x128 (shapeCast S8x128
    (arg2.view.readAt (Elt F) (Rect.unit (s := S128x1x8x1024) ![t.val, 0, 0, 128 * j.val] S1x1x8x128.size (load_inb t j)).toLoadRect (harg2.unread x0))
    shapeCasts_S1x1x8x128_S8x128) shapeCasts_S8x128_S1x8x128

/-- The first `n` stores, newest first. -/
def rows : ℕ → List (View.Piece (Elt F) S8x1032x128 .f32)
  | 0 => []
  | n + 1 => ⟨StridedRows.rowRect (C := 8) (N := 8) (DP := 129) (D := 128) (L := 128) (by decide) (chunk n) (time n), rowPay arg2 harg2 x0 (time n) (chunk n)⟩ :: rows n

theorem stores_eq : kernelRun0_A.sl.HS0_1024 c arg2 harg2 x0 = rows arg2 harg2 x0 1024 := by
  sl_kernel_rfl

end

end Cert.LastBlock

end
-- ==== Proof.LastPays.lean ====
/-
  The closing feed-forward call's values: its payloads read at an entry, from the rows it gathers.
-/
module

public import proofs.«01_k».proof.Proof.FfnRow
public import proofs.«01_k».proof.Proof.LastRows
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LastBlock

open Cert.LastIdeal Cert.LastIdeal.Gen

section
variable {C0 C1 C2 C3 C4 C5 C6 : FVec Ideal S1024x128 .f32} {T0 T1 T2 : FVec Ideal S128x128 .f32} {T3 T4 T5 T6 T7 : Vec Ideal S1x128x128 .f32}
  {X : Fin 1024 → Fin 1024 → EReal}
  (hX : ∀ r k, k0_pay1148 C0 C1 C2 C3 C4 C5 C6 T0 T1 T2 T3 T4 T5 T6 T7 (ix2 r k) = X r k)
  (w f : Vec Ideal S1x1024 .f32) (g u : Vec Ideal S1x1024x2816 .bf16) (d : Vec Ideal S1x2816x1024 .bf16)
include hX

/-- The first half of the rows. -/
theorem first_apply (r : Fin 512) (k : Fin 1024) :
    k0_pay1149 C0 C1 C2 C3 C4 C5 C6 T0 T1 T2 T3 T4 T5 T6 T7 (ix2 r k) = X ⟨r, by omega⟩ k := by
  pointwise [k0_pay1149]
  exact hX _ k

/-- The second half of the rows. -/
theorem second_apply (r : Fin 512) (k : Fin 1024) :
    k0_pay1150 C0 C1 C2 C3 C4 C5 C6 T0 T1 T2 T3 T4 T5 T6 T7 (ix2 r k) = X ⟨512 + r, by omega⟩ k := by
  pointwise [k0_pay1150]
  exact hX _ k

/-- The first half's normalised rows. -/
theorem firstNormed_apply (r : Fin 512) (k : Fin 1024) :
    k0_pay1151 C0 C1 C2 C3 C4 C5 C6 T0 T1 T2 T3 T4 T5 T6 T7 w (ix2 r k) = FfnRow.normed (X ⟨r, by omega⟩) (fun k => w (ix2 0 k)) k := by
  have h := first_apply hX r
  pointwise [k0_pay1151, FfnRow.normed]
  simp only [h]

/-- The second half's normalised rows. -/
theorem secondNormed_apply (r : Fin 512) (k : Fin 1024) :
    k0_pay1154 (k0_pay1150 C0 C1 C2 C3 C4 C5 C6 T0 T1 T2 T3 T4 T5 T6 T7) (k0_pay1152 w) (k0_pay1153 C0 C1 C2 C3 C4 C5 C6 T0 T1 T2 T3 T4 T5 T6 T7) (ix2 r k)
      = FfnRow.normed (X ⟨512 + r, by omega⟩) (fun k => w (ix2 0 k)) k := by
  have h := second_apply hX r
  pointwise [k0_pay1154, k0_pay1153, k0_pay1152, FfnRow.normed]
  simp only [h]
omit hX

/-- A row with the residual's update, before the closing norm. -/
theorem firstOut_apply (P : FVec Ideal S512x1024 .f32) (H : FVec Ideal S512x1024 .bf16) (x w' : Fin 1024 → EReal) (r : Fin 512) (hP : ∀ k, P (ix2 r k) = x k)
    (hH : ∀ k, H (ix2 r k) = FfnRow.normed x w' k) (c : Fin 1024) :
    k0_pay1156 P H g u d (ix2 r c)
      = (fun y : Fin 1024 → EReal => y c * Ideal.rsqrt (Ideal.div (∑ l, y l * y l) (Ideal.ofBits .f32 0x44800000#32) + Ideal.ofBits .f32 0x358637BD#32))
        (FfnRow.out x w' (fun k j => g (ix3 0 k j)) (fun k j => u (ix3 0 k j)) (fun j c => d (ix3 0 j c))) := by
  pointwise [k0_pay1156, FfnRow.out, FfnRow.hidden, FfnRow.proj]
  simp only [hP, hH, zero_sub]

theorem one_bits : Ideal.ofBits .f32 0x3F800000#32 = 1 := by
  pointwise []

/-- The closing norm of the updated row. -/
def rowOut (x w f : Fin 1024 → EReal) (G U : Fin 1024 → Fin 2816 → EReal) (D : Fin 2816 → Fin 1024 → EReal) (c : Fin 1024) : EReal :=
  FfnRow.normed (FfnRow.out x w G U D) f c

theorem both_apply (Q : FVec Ideal S512x1024 .f32) (H : FVec Ideal S512x1024 .bf16) (P : FVec Ideal S512x1024 .f32) (Y w' : Fin 1024 → EReal) (r c : Fin 1024)
    (hP : ∀ h : (r : ℕ) < 512, P (ix2 ⟨r, h⟩ c) * f (ix2 0 c) = rowOut Y w' (fun k => f (ix2 0 k)) (fun k j => g (ix3 0 k j)) (fun k j => u (ix3 0 k j)) (fun j c => d (ix3 0 j c)) c)
    (hQ : ∀ h : ¬ (r : ℕ) < 512, ∀ k, Q (ix2 ⟨r - 512, by omega⟩ k) = Y k)
    (hH : ∀ h : ¬ (r : ℕ) < 512, ∀ k, H (ix2 ⟨r - 512, by omega⟩ k) = FfnRow.normed Y w' k) :
    k0_pay1157 Q H (k0_pay1155 f) P g u d f (ix2 r c)
      = rowOut Y w' (fun k => f (ix2 0 k)) (fun k j => g (ix3 0 k j)) (fun k j => u (ix3 0 k j)) (fun j c => d (ix3 0 j c)) c := by
  by_cases hr : (r : ℕ) < 512
  · rw [← hP hr]
    pointwise [k0_pay1157, k0_pay1155]
    rw [dif_pos hr]
  · have hQ := hQ hr
    have hH := hH hr
    pointwise [k0_pay1157, k0_pay1155, rowOut, FfnRow.out, FfnRow.hidden, FfnRow.proj]
    rw [dif_neg hr]
    simp only [hQ, hH, zero_sub, FfnRow.normed, FfnRow.out, FfnRow.hidden, FfnRow.proj, one_bits]

/-- The block's rows. -/
theorem rows_out {C0 C1 C2 C3 C4 C5 C6 : FVec Ideal S1024x128 .f32} {T0 T1 T2 : FVec Ideal S128x128 .f32} {T3 T4 T5 T6 T7 : Vec Ideal S1x128x128 .f32}
  {X : Fin 1024 → Fin 1024 → EReal}
  (hX : ∀ r k, k0_pay1148 C0 C1 C2 C3 C4 C5 C6 T0 T1 T2 T3 T4 T5 T6 T7 (ix2 r k) = X r k) (r c : Fin 1024) :
    k0_pay1157 (k0_pay1150 C0 C1 C2 C3 C4 C5 C6 T0 T1 T2 T3 T4 T5 T6 T7)
      (k0_pay1154 (k0_pay1150 C0 C1 C2 C3 C4 C5 C6 T0 T1 T2 T3 T4 T5 T6 T7) (k0_pay1152 w) (k0_pay1153 C0 C1 C2 C3 C4 C5 C6 T0 T1 T2 T3 T4 T5 T6 T7))
      (k0_pay1155 f)
      (k0_pay1156 (k0_pay1149 C0 C1 C2 C3 C4 C5 C6 T0 T1 T2 T3 T4 T5 T6 T7) (k0_pay1151 C0 C1 C2 C3 C4 C5 C6 T0 T1 T2 T3 T4 T5 T6 T7 w) g u d)
      g u d f (ix2 r c)
      = rowOut (X r) (fun k => w (ix2 0 k)) (fun k => f (ix2 0 k)) (fun k j => g (ix3 0 k j)) (fun k j => u (ix3 0 k j)) (fun j c => d (ix3 0 j c)) c := by
  refine both_apply f g u d _ _ _ (X r) _ r c (fun h => ?_) (fun h k => ?_) (fun h k => ?_)
  · rw [firstOut_apply g u d _ _ (X r) (fun k => w (ix2 0 k)) ⟨r, h⟩ (fun k => first_apply hX _ k) (fun k => firstNormed_apply hX w _ k)]
    rfl
  · rw [second_apply hX]
    exact congrArg (fun r => X r k) (Fin.ext (show 512 + ((r : ℕ) - 512) = r by omega))
  · rw [secondNormed_apply hX]
    exact congrArg (fun r => FfnRow.normed (X r) (fun k => w (ix2 0 k)) k) (Fin.ext (show 512 + ((r : ℕ) - 512) = r by omega))
end

end Cert.LastBlock

end
-- ==== Proof.LastTiles.lean ====
/-
  The closing feed-forward call's gathered rows: what each tile read from the scratch holds, and the block computed from them.
-/
module

public import proofs.«01_k».proof.Proof.LastPays
public import Idealize.ShloMosaic.Lib.WholeRead

@[expose] public section

set_option maxRecDepth 16384

noncomputable section

open Idealize.ShloMosaic Idealize.ShloMosaic.TcCoe Idealize.SL.Sem
open Idealize.ShloMosaic.Pipeline (Dat)
open scoped BigOperators

namespace Cert.LastBlock

open Cert.LastIdeal Cert.LastIdeal.Gen

section
variable {F : FTy → Type} [FloatOps F]
variable (c : Dev nD) (arg2 : Memref sig .tc .vmem S128x1x8x1024 .f32) (harg2 : arg2.IsWhole)
  (arg3 : Memref sig .tc .vmem S1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1024 .f32) (harg7 : arg7.IsWhole)
  (arg9 : Memref sig .tc .vmem S8x1032x128 .f32)
  (x0 : Vec F S128x1x8x1024 .f32) (x1 : Vec F S1x1024 .f32) (x2 : Vec F S1x1024x2816 .bf16) (x3 : Vec F S1x1024x2816 .bf16) (x4 : Vec F S1x2816x1024 .bf16) (x5 : Vec F S1x1024 .f32)

/-- Sequence `b`'s rows of lane chunk `j`, read back from the scratch. -/
def tile (j b : Fin 8) : Vec F S1x128x128 .f32 :=
  arg9.view.readCov (rows arg2 harg2 x0 1024) (StridedRows.tileRect (C := 8) (N := 8) (DP := 129) (D := 128) (L := 128) (by decide) j b).toLoadRect

/-- … without its unit axis. -/
def flat (j b : Fin 8) : FVec F S128x128 .f32 := shapeCast S128x128 (tile arg2 harg2 arg9 x0 j b) shapeCasts_S1x128x128_S128x128

/-- A lane chunk's rows, sequence after sequence. -/
def column (T : Fin 8 → FVec F S128x128 .f32) : FVec F S1024x128 .f32 :=
  concatenate S1024x128 0 [⟨S128x128, T 0⟩, ⟨S128x128, T 1⟩, ⟨S128x128, T 2⟩, ⟨S128x128, T 3⟩, ⟨S128x128, T 4⟩, ⟨S128x128, T 5⟩, ⟨S128x128, T 6⟩, ⟨S128x128, T 7⟩]
    concatenates_S128x128_S128x128_S128x128_S128x128_S128x128_S128x128_S128x128_S128x128_S1024x128_d0

/-- The block's output from its lane chunks and weights. -/
def outOf (C : Fin 7 → FVec F S1024x128 .f32) (T : Fin 3 → FVec F S128x128 .f32) (S : Fin 5 → Vec F S1x128x128 .f32) (w f : Vec F S1x1024 .f32)
    (g u : Vec F S1x1024x2816 .bf16) (d : Vec F S1x2816x1024 .bf16) : FVec F S1024x1024 .f32 :=
  k0_pay1157 (k0_pay1150 (C 0) (C 1) (C 2) (C 3) (C 4) (C 5) (C 6) (T 0) (T 1) (T 2) (S 0) (S 1) (S 2) (S 3) (S 4))
      (k0_pay1154 (k0_pay1150 (C 0) (C 1) (C 2) (C 3) (C 4) (C 5) (C 6) (T 0) (T 1) (T 2) (S 0) (S 1) (S 2) (S 3) (S 4)) (k0_pay1152 w) (k0_pay1153 (C 0) (C 1) (C 2) (C 3) (C 4) (C 5) (C 6) (T 0) (T 1) (T 2) (S 0) (S 1) (S 2) (S 3) (S 4)))
      (k0_pay1155 f)
      (k0_pay1156 (k0_pay1149 (C 0) (C 1) (C 2) (C 3) (C 4) (C 5) (C 6) (T 0) (T 1) (T 2) (S 0) (S 1) (S 2) (S 3) (S 4)) (k0_pay1151 (C 0) (C 1) (C 2) (C 3) (C 4) (C 5) (C 6) (T 0) (T 1) (T 2) (S 0) (S 1) (S 2) (S 3) (S 4) w) g u d)
      g u d f

theorem whole2_inb : ∀ a : Fin 2, (![0, 0] : Fin 2 → ℕ) a + S1x1024.size a ≤ S1x1024.size a := by decide
theorem whole3_inb : ∀ a : Fin 3, (![0, 0, 0] : Fin 3 → ℕ) a + S1x1024x2816.size a ≤ S1x1024x2816.size a := by decide
theorem whole3'_inb : ∀ a : Fin 3, (![0, 0, 0] : Fin 3 → ℕ) a + S1x2816x1024.size a ≤ S1x2816x1024.size a := by decide

/-- The block of outputs the kernel computes, in the scratch read's tiles and the loaded weights. -/
theorem block_eq : kernelRun0_A.sl.r_25 c arg2 harg2 arg3 harg3 arg4 harg4 arg5 harg5 arg6 harg6 arg7 harg7 arg9 x0 x1 x2 x3 x4 x5
    = outOf (fun j => column (flat arg2 harg2 arg9 x0 ⟨j, by omega⟩)) (fun b => flat arg2 harg2 arg9 x0 7 ⟨b, by omega⟩)
        (fun b => tile arg2 harg2 arg9 x0 7 ⟨3 + b, by omega⟩)
        (arg3.view.readAt (Elt F) (Rect.unit (s := S1x1024) ![0, 0] S1x1024.size whole2_inb).toLoadRect (harg3.unread x1))
        (arg7.view.readAt (Elt F) (Rect.unit (s := S1x1024) ![0, 0] S1x1024.size whole2_inb).toLoadRect (harg7.unread x5))
        (arg4.view.readAt (Elt F) (Rect.unit (s := S1x1024x2816) ![0, 0, 0] S1x1024x2816.size whole3_inb).toLoadRect (harg4.unread x2))
        (arg5.view.readAt (Elt F) (Rect.unit (s := S1x1024x2816) ![0, 0, 0] S1x1024x2816.size whole3_inb).toLoadRect (harg5.unread x3))
        (arg6.view.readAt (Elt F) (Rect.unit (s := S1x2816x1024) ![0, 0, 0] S1x2816x1024.size whole3'_inb).toLoadRect (harg6.unread x4)) := by
  sl_kernel_rfl

end

variable (c : Dev nD) (arg2 : Memref sig .tc .vmem S128x1x8x1024 .f32) (harg2 : arg2.IsWhole) (arg9 : Memref sig .tc .vmem S8x1032x128 .f32)
  (x0 : Vec Ideal S128x1x8x1024 .f32)

/-- The stored rows, by lane chunk, time, sequence and lane. -/
def plane (j : Fin 8) (t : Fin 128) (b : Fin 8) (l : Fin 128) : Elt Ideal .f32 := x0 (ix4 t 0 b ⟨128 * j.val + l.val, by omega⟩)

theorem cast_apply (v : Vec Ideal S1x1x8x128 .f32) (b : Fin 8) (l : Fin 128) :
    shapeCast S1x8x128 (shapeCast S8x128 v shapeCasts_S1x1x8x128_S8x128) shapeCasts_S8x128_S1x8x128 (ix3 0 b l) = v (ix4 0 0 b l) := by
  pointwise []

theorem rowPay_apply (t : Fin 128) (j : Fin 8) (x : S1x8x128.Idx) : rowPay arg2 harg2 x0 t j x = plane x0 j t (x 1) (x 2) := by
  have e : x = ix3 0 (x 1) (x 2) := by idx_ext
  refine (congrArg _ e).trans ((cast_apply _ (x 1) (x 2)).trans ?_)
  rw [Memref.IsWhole.readAt_unread]
  unfold plane
  congr 1
  idx_ext

theorem rows_mem (n : ℕ) : ∀ p ∈ rows arg2 harg2 x0 n, ∃ (c : Fin 8) (r : Fin 128) (w : (StridedRows.Row 8 128).Idx → Elt Ideal .f32),
    p = ⟨StridedRows.rowRect (C := 8) (N := 8) (DP := 129) (D := 128) (L := 128) (by decide) c r, w⟩ ∧ ∀ x, w x = plane x0 c r (x 1) (x 2) := by
  induction n with
  | zero => intro p hp; cases hp
  | succ n ih =>
    intro p hp
    rcases List.mem_cons.1 hp with rfl | hp
    · exact ⟨chunk n, time n, _, rfl, fun x => rowPay_apply arg2 harg2 x0 _ _ x⟩
    · exact ih p hp

theorem rows_has (N n : ℕ) (h : n < N) :
    (⟨StridedRows.rowRect (C := 8) (N := 8) (DP := 129) (D := 128) (L := 128) (by decide) (chunk n) (time n), rowPay arg2 harg2 x0 (time n) (chunk n)⟩ : View.Piece (Elt Ideal) S8x1032x128 .f32) ∈ rows arg2 harg2 x0 N := by
  induction N with
  | zero => omega
  | succ N ih =>
    rcases Nat.lt_succ_iff_lt_or_eq.1 h with h | rfl
    · exact List.mem_cons_of_mem _ (ih h)
    · exact List.mem_cons_self

theorem tile_apply (j b : Fin 8) : tile arg2 harg2 arg9 x0 j b = fun x => plane x0 j (x 1) b (x 2) := by
  refine StridedRows.readCov_tile (C := 8) (N := 8) (DP := 129) (D := 128) (L := 128) arg9.view (by decide) (plane x0) _ (rows_mem arg2 harg2 x0 1024) j (fun r => ?_) b
  have h := rows_has arg2 harg2 x0 1024 (8 * r.val + j.val) (by omega)
  have e1 : chunk (8 * r.val + j.val) = j := Fin.ext (show (8 * r.val + j.val) % 8 = j.val by omega)
  have e2 : time (8 * r.val + j.val) = r := Fin.ext (show (8 * r.val + j.val) / 8 % 128 = r.val by omega)
  rw [e1, e2] at h
  exact ⟨_, h⟩

theorem flat_apply (j b : Fin 8) (t l : Fin 128) : flat arg2 harg2 arg9 x0 j b (ix2 t l) = plane x0 j t b l := by
  pointwise [flat]
  rw [tile_apply]
  rfl

theorem column_apply (T : Fin 8 → FVec Ideal S128x128 .f32) (r : Fin 1024) (l : Fin 128) :
    column T (ix2 r l) = T ⟨r / 128, by omega⟩ (ix2 ⟨r % 128, by omega⟩ l) := by
  have key : ∀ (b : Fin 8) (t : ℕ) (ht : t < 128), (r : ℕ) = 128 * b + t → T b (ix2 ⟨t, ht⟩ l) = T ⟨r / 128, by omega⟩ (ix2 ⟨r % 128, by omega⟩ l) := by
    intro b t ht h
    have e1 : (⟨r / 128, by omega⟩ : Fin 8) = b := Fin.ext (show (r : ℕ) / 128 = b by omega)
    have e2 : (⟨r % 128, by omega⟩ : Fin 128) = ⟨t, ht⟩ := Fin.ext (show (r : ℕ) % 128 = t by omega)
    rw [e1, e2]
  pointwise [column]
  split_ifs <;> first
    | (refine key 0 _ _ ?_; show (r : ℕ) = 128 * 0 + _; omega)
    | (refine key 1 _ _ ?_; show (r : ℕ) = 128 * 1 + _; omega)
    | (refine key 2 _ _ ?_; show (r : ℕ) = 128 * 2 + _; omega)
    | (refine key 3 _ _ ?_; show (r : ℕ) = 128 * 3 + _; omega)
    | (refine key 4 _ _ ?_; show (r : ℕ) = 128 * 4 + _; omega)
    | (refine key 5 _ _ ?_; show (r : ℕ) = 128 * 5 + _; omega)
    | (refine key 6 _ _ ?_; show (r : ℕ) = 128 * 6 + _; omega)
    | (refine key 7 _ _ ?_; show (r : ℕ) = 128 * 7 + _; omega)

end Cert.LastBlock

end
-- ==== Proof.LastBlock.lean ====
/-
  The closing feed-forward call's block: what one grid point computes from its input blocks, row by row, and the result array after the run.
-/
module

public import proofs.«01_k».proof.Proof.LastTiles

@[expose] public section

set_option maxRecDepth 16384

noncomputable section

open Idealize.ShloMosaic Idealize.ShloMosaic.TcCoe Idealize.SL.Sem
open Idealize.ShloMosaic.Pipeline (Dat)
open scoped BigOperators

namespace Cert.LastBlock

open Cert.LastIdeal Cert.LastIdeal.Gen

variable (c : Dev nD) (arg2 : Memref sig .tc .vmem S128x1x8x1024 .f32) (harg2 : arg2.IsWhole)
  (arg3 : Memref sig .tc .vmem S1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1024 .f32) (harg7 : arg7.IsWhole)
  (arg9 : Memref sig .tc .vmem S8x1032x128 .f32)
  (x0 : Vec Ideal S128x1x8x1024 .f32) (x1 : Vec Ideal S1x1024 .f32) (x2 : Vec Ideal S1x1024x2816 .bf16) (x3 : Vec Ideal S1x1024x2816 .bf16) (x4 : Vec Ideal S1x2816x1024 .bf16) (x5 : Vec Ideal S1x1024 .f32)

/-- The lane chunks side by side. -/
def beside (C : Fin 8 → FVec Ideal S1024x128 .f32) : FVec Ideal S1024x1024 .f32 :=
  concatenate S1024x1024 1 [⟨S1024x128, C 0⟩, ⟨S1024x128, C 1⟩, ⟨S1024x128, C 2⟩, ⟨S1024x128, C 3⟩, ⟨S1024x128, C 4⟩, ⟨S1024x128, C 5⟩, ⟨S1024x128, C 6⟩, ⟨S1024x128, C 7⟩]
    concatenates_S1024x128_S1024x128_S1024x128_S1024x128_S1024x128_S1024x128_S1024x128_S1024x128_S1024x1024_d1

theorem beside_apply (C : Fin 8 → FVec Ideal S1024x128 .f32) (r k : Fin 1024) :
    beside C (ix2 r k) = C ⟨k / 128, by omega⟩ (ix2 r ⟨k % 128, by omega⟩) := by
  have key : ∀ (j : Fin 8) (l : ℕ) (hl : l < 128), (k : ℕ) = 128 * j + l → C j (ix2 r ⟨l, hl⟩) = C ⟨k / 128, by omega⟩ (ix2 r ⟨k % 128, by omega⟩) := by
    intro j l hl h
    have e1 : (⟨k / 128, by omega⟩ : Fin 8) = j := Fin.ext (show (k : ℕ) / 128 = j by omega)
    have e2 : (⟨k % 128, by omega⟩ : Fin 128) = ⟨l, hl⟩ := Fin.ext (show (k : ℕ) % 128 = l by omega)
    rw [e1, e2]
  pointwise [beside]
  split_ifs <;> first
    | (refine key 0 _ _ ?_; show (k : ℕ) = 128 * 0 + _; omega)
    | (refine key 1 _ _ ?_; show (k : ℕ) = 128 * 1 + _; omega)
    | (refine key 2 _ _ ?_; show (k : ℕ) = 128 * 2 + _; omega)
    | (refine key 3 _ _ ?_; show (k : ℕ) = 128 * 3 + _; omega)
    | (refine key 4 _ _ ?_; show (k : ℕ) = 128 * 4 + _; omega)
    | (refine key 5 _ _ ?_; show (k : ℕ) = 128 * 5 + _; omega)
    | (refine key 6 _ _ ?_; show (k : ℕ) = 128 * 6 + _; omega)
    | (refine key 7 _ _ ?_; show (k : ℕ) = 128 * 7 + _; omega)

/-- The kernel's rows are the lane chunks side by side. -/
theorem gathered : k0_pay1148 (column (flat arg2 harg2 arg9 x0 0)) (column (flat arg2 harg2 arg9 x0 1)) (column (flat arg2 harg2 arg9 x0 2)) (column (flat arg2 harg2 arg9 x0 3))
    (column (flat arg2 harg2 arg9 x0 4)) (column (flat arg2 harg2 arg9 x0 5)) (column (flat arg2 harg2 arg9 x0 6)) (flat arg2 harg2 arg9 x0 7 0) (flat arg2 harg2 arg9 x0 7 1) (flat arg2 harg2 arg9 x0 7 2)
    (tile arg2 harg2 arg9 x0 7 3) (tile arg2 harg2 arg9 x0 7 4) (tile arg2 harg2 arg9 x0 7 5) (tile arg2 harg2 arg9 x0 7 6) (tile arg2 harg2 arg9 x0 7 7)
    = beside fun j => column (flat arg2 harg2 arg9 x0 j) := rfl

theorem gathered_apply (r k : Fin 1024) : (beside fun j => column (flat arg2 harg2 arg9 x0 j)) (ix2 r k) = x0 (ix4 ⟨r % 128, by omega⟩ 0 ⟨r / 128, by omega⟩ k) := by
  rw [beside_apply, column_apply, flat_apply]
  exact congrArg (fun k => x0 (ix4 ⟨r % 128, by omega⟩ 0 ⟨r / 128, by omega⟩ k)) (Fin.ext (show 128 * ((k : ℕ) / 128) + (k : ℕ) % 128 = k by omega))

theorem load1 (m : Memref sig .tc .vmem S1x1024 .f32) (h : m.IsWhole) (x : Vec Ideal S1x1024 .f32) :
    m.view.readAt (Elt Ideal) (Rect.unit (s := S1x1024) ![0, 0] S1x1024.size whole2_inb).toLoadRect (h.unread x) = x := by
  funext y
  rw [Memref.IsWhole.readAt_unread]
  congr 1
  idx_ext
theorem load2 (m : Memref sig .tc .vmem S1x1024x2816 .bf16) (h : m.IsWhole) (x : Vec Ideal S1x1024x2816 .bf16) :
    m.view.readAt (Elt Ideal) (Rect.unit (s := S1x1024x2816) ![0, 0, 0] S1x1024x2816.size whole3_inb).toLoadRect (h.unread x) = x := by
  funext y
  rw [Memref.IsWhole.readAt_unread]
  congr 1
  idx_ext
theorem load3 (m : Memref sig .tc .vmem S1x2816x1024 .bf16) (h : m.IsWhole) (x : Vec Ideal S1x2816x1024 .bf16) :
    m.view.readAt (Elt Ideal) (Rect.unit (s := S1x2816x1024) ![0, 0, 0] S1x2816x1024.size whole3'_inb).toLoadRect (h.unread x) = x := by
  funext y
  rw [Memref.IsWhole.readAt_unread]
  congr 1
  idx_ext

/-- The block of rows the kernel writes at a point, from the point's input blocks: every row by `rowOut`. -/
def blockOut (x : Vec Ideal S128x1x8x1024 .f32) (w : Vec Ideal S1x1024 .f32) (g u : Vec Ideal S1x1024x2816 .bf16)
    (d : Vec Ideal S1x2816x1024 .bf16) (f : Vec Ideal S1x1024 .f32) (b : Fin 8) (t : Fin 128) (c : Fin 1024) : EReal :=
  rowOut (fun k => x (ix4 t 0 b k)) (fun k => w (ix2 0 k)) (fun k => f (ix2 0 k)) (fun k j => g (ix3 0 k j)) (fun k j => u (ix3 0 k j))
    (fun j c => d (ix3 0 j c)) c

theorem out_apply (r k : Fin 1024) :
    kernelRun0_A.sl.r_25 c arg2 harg2 arg3 harg3 arg4 harg4 arg5 harg5 arg6 harg6 arg7 harg7 arg9 x0 x1 x2 x3 x4 x5 (ix2 r k)
      = blockOut x0 x1 x2 x3 x4 x5 ⟨r / 128, by omega⟩ ⟨r % 128, by omega⟩ k := by
  rw [block_eq, load1, load1, load2, load2, load3]
  exact rows_out x1 x5 x2 x3 x4 (X := fun r k => x0 (ix4 ⟨r % 128, by omega⟩ 0 ⟨r / 128, by omega⟩ k))
    (fun r k => (congrFun (gathered arg2 harg2 arg9 x0) (ix2 r k)).trans (gathered_apply arg2 harg2 arg9 x0 r k)) r k

theorem store_apply (O : FVec Ideal S1024x1024 .f32) (b : Fin 8) (t : Fin 128) (k : Fin 1024) :
    k0_pay1 (k0_pay1158 O) (ix4 0 b t k) = O (ix2 ⟨b * 128 + t, by omega⟩ k) := by
  pointwise [k0_pay1, k0_pay1158]

theorem stored_apply (b : Fin 8) (t : Fin 128) (k : Fin 1024) :
    k0_pay1 (kernelRun0_A.sl.r_26 c arg2 harg2 arg3 harg3 arg4 harg4 arg5 harg5 arg6 harg6 arg7 harg7 arg9 x0 x1 x2 x3 x4 x5) (ix4 0 b t k)
      = blockOut x0 x1 x2 x3 x4 x5 b t k := by
  refine (store_apply _ b t k).trans ((out_apply c arg2 harg2 arg3 harg3 arg4 harg4 arg5 harg5 arg6 harg6 arg7 harg7 arg9 x0 x1 x2 x3 x4 x5 _ k).trans ?_)
  have e1 : (⟨((b : ℕ) * 128 + t) / 128, by omega⟩ : Fin 8) = b := Fin.ext (show ((b : ℕ) * 128 + t) / 128 = b by omega)
  have e2 : (⟨((b : ℕ) * 128 + t) % 128, by omega⟩ : Fin 128) = t := Fin.ext (show ((b : ℕ) * 128 + t) % 128 = t by omega)
  exact congrArg₂ (fun b t => blockOut x0 x1 x2 x3 x4 x5 b t k) e1 e2

/-- The windows' index maps. -/
theorem idx : ∀ t : Fin cfg0.N, win0_0.index t = ![t.val % 16, t.val / 16, 0, 0] ∧ win0_1.index t = ![0, 0] ∧ win0_2.index t = ![1, 0, 0]
    ∧ win0_3.index t = ![1, 0, 0] ∧ win0_4.index t = ![1, 0, 0] ∧ win0_5.index t = ![0, 0] ∧ win0_6.index t = ![t.val / 16, 0, t.val % 16, 0] :=
  (by decide +kernel : ∀ t : Fin grid0.N, _)

theorem store_inb : ∀ a : Fin 4, (![0, 0, 0, 0] : Fin 4 → ℕ) a + S1x8x128x1024.size a ≤ S1x8x128x1024.size a := by decide

section
variable {F : FTy → Type} [FloatOps F]

/-- The body's one store into its output. -/
theorem stored_eq (c : Dev nD) (i : grid0.Coords) (arg2 : Memref sig .tc .vmem S128x1x8x1024 .f32) (harg2 : arg2.IsWhole) (arg3 : Memref sig .tc .vmem S1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1024 .f32) (harg7 : arg7.IsWhole) (arg8 : Memref sig .tc .vmem S1x8x128x1024 .f32) (harg8 : arg8.IsWhole) (arg9 : Memref sig .tc .vmem S8x1032x128 .f32) (harg9 : arg9.IsWhole)
    (x0 : Vec F S128x1x8x1024 .f32) (x1 : Vec F S1x1024 .f32) (x2 : Vec F S1x1024x2816 .bf16) (x3 : Vec F S1x1024x2816 .bf16) (x4 : Vec F S1x2816x1024 .bf16) (x5 : Vec F S1x1024 .f32) :
    (kernelRun0_A c i arg2 harg2 arg3 harg3 arg4 harg4 arg5 harg5 arg6 harg6 arg7 harg7 arg8 harg8 arg9 harg9 x0 x1 x2 x3 x4 x5).1
      = [⟨Rect.unit (s := S1x8x128x1024) ![0, 0, 0, 0] S1x8x128x1024.size store_inb, k0_pay1 (kernelRun0_A.sl.r_26 c arg2 harg2 arg3 harg3 arg4 harg4 arg5 harg5 arg6 harg6 arg7 harg7 arg9 x0 x1 x2 x3 x4 x5)⟩] := by
  sl_kernel_rfl
end

/-- What the body leaves in its output, row by row. -/
theorem left_apply (c : Dev nD) (i : grid0.Coords) (arg2 : Memref sig .tc .vmem S128x1x8x1024 .f32) (harg2 : arg2.IsWhole) (arg3 : Memref sig .tc .vmem S1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1024 .f32) (harg7 : arg7.IsWhole) (arg8 : Memref sig .tc .vmem S1x8x128x1024 .f32) (harg8 : arg8.IsWhole) (arg9 : Memref sig .tc .vmem S8x1032x128 .f32) (harg9 : arg9.IsWhole)
    (x0 : Vec Ideal S128x1x8x1024 .f32) (x1 : Vec Ideal S1x1024 .f32) (x2 : Vec Ideal S1x1024x2816 .bf16) (x3 : Vec Ideal S1x1024x2816 .bf16) (x4 : Vec Ideal S1x2816x1024 .bf16) (x5 : Vec Ideal S1x1024 .f32) (y : S1x8x128x1024.Idx) :
    out0_A_6 c i arg2 harg2 arg3 harg3 arg4 harg4 arg5 harg5 arg6 harg6 arg7 harg7 arg8 harg8 arg9 harg9 x0 x1 x2 x3 x4 x5 y = blockOut x0 x1 x2 x3 x4 x5 (y 1) (y 2) (y 3) := by
  unfold out0_A_6
  rw [View.read_writes_junk_eq_canon, stored_eq, View.canon_cons_unit_lit _ _ _ (by decide)]
  have e : (ix4 0 (y 1) (y 2) (y 3) : S1x8x128x1024.Idx) = y := by idx_ext
  exact (congrArg _ e.symm).trans (stored_apply c arg2 harg2 arg3 harg3 arg4 harg4 arg5 harg5 arg6 harg6 arg7 harg7 arg9 x0 x1 x2 x3 x4 x5 (y 1) (y 2) (y 3))

variable (m : (ℓ : Loc nD τ sig) → Buf (Elt Ideal) ℓ)

theorem after_apply (c : Dev nD) (t : Fin cfg0.N) (y : S1x8x128x1024.Idx) :
    (outsAt0 m c t : Vec Ideal S1x8x128x1024 .f32) y = blockOut (iblk m c 0 t) (iblk m c 1 t) (iblk m c 2 t) (iblk m c 3 t) (iblk m c 4 t) (iblk m c 5 t) (y 1) (y 2) (y 3) :=
  left_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ _ _ _ _ y

/-- The call's result array from its arguments: every row by `rowOut`, sequences in two groups of eight. -/
def result (x : FVec Ideal S16x2048x1024 .f32) (w : FVec Ideal S2x1024 .f32) (g u : FVec Ideal S2x1024x2816 .f32)
    (d : FVec Ideal S2x2816x1024 .f32) (f : FVec Ideal S1024 .f32) (i : S2x8x2048x1024.Idx) : EReal :=
  rowOut (fun k => x (ix3 ⟨(i 0 : ℕ) * 8 + (i 1 : ℕ), by have h0 : (i 0 : ℕ) < 2 := (i 0).isLt; have h1 : (i 1 : ℕ) < 8 := (i 1).isLt; omega⟩ (i 2) k))
    (fun k => w (ix2 1 k)) (fun k => f (ix1 k)) (fun k j => g (ix3 1 k j)) (fun k j => u (ix3 1 k j)) (fun j c => d (ix3 1 j c)) (i 3)

/-- Equal rows and weights give equal outputs. -/
theorem rowOut_congr {x x' w w' f f' : Fin 1024 → EReal} {G G' U U' : Fin 1024 → Fin 2816 → EReal} {D D' : Fin 2816 → Fin 1024 → EReal}
    {c c' : Fin 1024} (hx : ∀ k, x k = x' k) (hw : ∀ k, w k = w' k) (hf : ∀ k, f k = f' k) (hG : ∀ k j, G k j = G' k j) (hU : ∀ k j, U k j = U' k j)
    (hD : ∀ j k, D j k = D' j k) (hc : c = c') : rowOut x w f G U D c = rowOut x' w' f' G' U' D' c' := by
  obtain rfl : x = x' := funext hx
  obtain rfl : w = w' := funext hw
  obtain rfl : f = f' := funext hf
  obtain rfl : G = G' := funext fun k => funext (hG k)
  obtain rfl : U = U' := funext fun k => funext (hU k)
  obtain rfl : D = D' := funext fun k => funext (hD k)
  rw [hc]

/-- Time-major rows, read at a row. -/
theorem rows_apply (x : FVec Ideal S16x2048x1024 .f32) (t : Fin 2048) (p : Fin 2) (b : Fin 8) (k : Fin 1024) :
    shapeCast S2048x2x8x1024 (transpose S2048x16x1024 [1, 0, 2] x transposes_S16x2048x1024_S2048x16x1024_1_0_2) shapeCasts_S2048x16x1024_S2048x2x8x1024 (ix4 t p b k)
      = x (ix3 ⟨p * 8 + b, by omega⟩ t k) := by
  pointwise []

/-- The second layer's norm weight, read at an entry. -/
theorem norm_apply (x : FVec Ideal S2x1024 .f32) (k : Fin 1024) :
    shapeCast S1x1024 (shapeCast S1024 (extractStridedSlice S1x1024 ![1, 0] x slices_S2x1024_S1x1024_1_0)
      shapeCasts_S1x1024_S1024) shapeCasts_S1024_S1x1024 (ix2 0 k) = x (ix2 1 k) := by
  pointwise []

/-- The closing norm's weight, read at an entry. -/
theorem closing_apply (x : FVec Ideal S1024 .f32) (k : Fin 1024) : shapeCast S1x1024 x shapeCasts_S1024_S1x1024 (ix2 0 k) = x (ix1 k) := by
  pointwise []

/-- The kernel's rows are the sequences' positions, time first. -/
theorem entry1 (c : Dev nD) (t : Fin 2048) (p : Fin 2) (b : Fin 8) (k : Fin 1024) : V m c main_v1 (ix4 t p b k)
    = m ((c : Thread nD τ).loc main_arg0) (ix3 ⟨p * 8 + b, by omega⟩ t k) := by
  entry_read
  exact rows_apply _ t p b k

theorem entry4 (c : Dev nD) (k : Fin 1024) : V m c main_v4 (ix2 0 k) = m ((c : Thread nD τ).loc main_arg1) (ix2 1 k) := by
  entry_read
  exact norm_apply _ k

/-- The cast weights are the weights. -/
theorem entry5 (c : Dev nD) (i : S2x1024x2816.Idx) : V m c main_v5 i = m ((c : Thread nD τ).loc main_arg2) i := by
  entry_read; rfl
theorem entry6 (c : Dev nD) (i : S2x1024x2816.Idx) : V m c main_v6 i = m ((c : Thread nD τ).loc main_arg3) i := by
  entry_read; rfl
theorem entry7 (c : Dev nD) (i : S2x2816x1024.Idx) : V m c main_v7 i = m ((c : Thread nD τ).loc main_arg4) i := by
  entry_read; rfl
theorem entry8 (c : Dev nD) (k : Fin 1024) : V m c main_v8 (ix2 0 k) = m ((c : Thread nD τ).loc main_arg5) (ix1 k) := by
  entry_read
  exact closing_apply _ k

/-- Point `t`'s block is its group's sequences over its 128 positions of the result. -/
theorem point (c : Dev nD) (t : Fin cfg0.N) (y : S1x8x128x1024.Idx) :
    blockOut (iblk m c 0 t) (iblk m c 1 t) (iblk m c 2 t) (iblk m c 3 t) (iblk m c 4 t) (iblk m c 5 t) (y 1) (y 2) (y 3)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (((cfg0.win 6).blk t).view.emb y) := by
  have ht : t.val < 32 := t.isLt
  have h0 : (y 0 : ℕ) < 1 := (y 0).isLt
  have h1 : (y 1 : ℕ) < 8 := (y 1).isLt
  have h2 : (y 2 : ℕ) < 128 := (y 2).isLt
  have e0 : ∀ k : Fin 1024, ((win0_0.blk t).view.emb (ix4 (y 2) 0 (y 1) k)) = ix4 (⟨t.val % 16 * 128 + (y 2 : ℕ), by omega⟩ : Fin 2048) (⟨t.val / 16, by omega⟩ : Fin 2) (y 1) k := fun k => by blk_ext [idx t]
  have e1 : ∀ k : Fin 1024, ((win0_1.blk t).view.emb (ix2 0 k)) = ix2 0 k := fun k => by blk_ext [idx t]
  have e2 : ∀ (k : Fin 1024) (j : Fin 2816), ((win0_2.blk t).view.emb (ix3 0 k j)) = ix3 1 k j := fun k j => by blk_ext [idx t]
  have e3 : ∀ (k : Fin 1024) (j : Fin 2816), ((win0_3.blk t).view.emb (ix3 0 k j)) = ix3 1 k j := fun k j => by blk_ext [idx t]
  have e4 : ∀ (j : Fin 2816) (k : Fin 1024), ((win0_4.blk t).view.emb (ix3 0 j k)) = ix3 1 j k := fun j k => by blk_ext [idx t]
  have e5 : ∀ k : Fin 1024, ((win0_5.blk t).view.emb (ix2 0 k)) = ix2 0 k := fun k => by blk_ext [idx t]
  have e6 : (win0_6.blk t).view.emb y = ix4 (⟨t.val / 16, by omega⟩ : Fin 2) (y 1) (⟨t.val % 16 * 128 + (y 2 : ℕ), by omega⟩ : Fin 2048) (y 3) := by blk_ext [idx t]
  refine Eq.trans ?_ (congrArg _ e6.symm)
  blk_simp [iblk, idx t, blockOut, result]
  simp only [e0, e1, e2, e3, e4, e5]
  exact rowOut_congr (fun k => entry1 m c _ _ _ k) (fun k => entry4 m c k) (fun k => entry8 m c k) (fun k j => entry5 m c _) (fun k j => entry6 m c _)
    (fun j k => entry7 m c _) rfl

/-- After the run the result array holds `result` of the arguments. -/
theorem final (c : Dev nD) : (dats m 0 c).arrAt 6 (cfgs 0).N
    = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact (after_apply m c t y).trans (point m c t y)

end Cert.LastBlock

end
-- ==== Proof.LastHost.lean ====
/-
  The closing feed-forward reference's result, read row by row.
-/
module

public import proofs.«01_k».proof.Proof.LastBlock
public import proofs.«01_k».proof.Proof.Gen.LastRefIdeal.Run

@[expose] public section

set_option maxRecDepth 16384

noncomputable section

open Idealize.ShloMosaic Idealize.ShloMosaic.TcCoe Idealize.SL.Sem
open scoped BigOperators

namespace Cert.LastHost

open Cert.LastRefIdeal Cert.LastRefIdeal.Gen

variable (x : FVec Ideal S16x2048x1024 .f32) (w : FVec Ideal S2x1024 .f32) (g u : FVec Ideal S2x1024x2816 .f32)
    (d : FVec Ideal S2x2816x1024 .f32)

/-- The reference's normalised activations. -/
def hRef : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 (shapeCast S1024 (extractStridedSlice S1x1024 ![1, 0] w slices_S2x1024_S1x1024_1_0) shapeCasts_S1x1024_S1024)))

/-- A projection to the hidden units by the second layer's matrix. -/
def projRef (h : FVec Ideal S16x2048x1024 .f32) : FVec Ideal S16x2048x2816 .f32 :=
  Host.dotGeneral dot_S16x2048x1024_S1024x2816_S16x2048x2816_2_0_01_1_n_n none h
    (shapeCast S1024x2816 (extractStridedSlice S1x1024x2816 ![1, 0, 0] g slices_S2x1024x2816_S1x1024x2816_1_0_0) shapeCasts_S1x1024x2816_S1024x2816)

/-- The gated hidden units. -/
def actRef (a b : FVec Ideal S16x2048x2816 .f32) : FVec Ideal S16x2048x2816 .f32 :=
  mulf (mulf a (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf a))))) b

/-- The residual plus half the down projection. -/
def updRef (q : FVec Ideal S16x2048x2816 .f32) : FVec Ideal S16x2048x1024 .f32 :=
  addf x (mulf (broadcastInDim S16x2048x1024 ![] bcast_S_S16x2048x1024 (constant S_ .f32 0x3F000000#32)) (Host.dotGeneral dot_S16x2048x2816_S2816x1024_S16x2048x1024_2_0_01_1_n_n none q
    (shapeCast S2816x1024 (extractStridedSlice S1x2816x1024 ![1, 0, 0] d slices_S2x2816x1024_S1x2816x1024_1_0_0) shapeCasts_S1x2816x1024_S2816x1024)))

/-- The closing norm, sequences in two groups of eight. -/
def closeRef (y : FVec Ideal S16x2048x1024 .f32) (f : FVec Ideal S1024 .f32) : FVec Ideal S2x8x2048x1024 .f32 :=
  shapeCast S2x8x2048x1024 (mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 f))) shapeCasts_S16x2048x1024_S2x8x2048x1024

/-- The pieces, read at an entry. -/
theorem hRef_apply (b : Fin 16) (t : Fin 2048) (k : Fin 1024) :
    hRef x w (ix3 b t k) = FfnRow.normed (fun k => x (ix3 b t k)) (fun k => w (ix2 1 k)) k := by
  pointwise [hRef, FfnRow.normed]

theorem projRef_apply (h : FVec Ideal S16x2048x1024 .f32) (b : Fin 16) (t : Fin 2048) (j : Fin 2816) :
    projRef g h (ix3 b t j) = FfnRow.proj (fun k => h (ix3 b t k)) (fun k j => g (ix3 1 k j)) j := by
  pointwise [projRef, FfnRow.proj]

theorem actRef_apply (a b : FVec Ideal S16x2048x2816 .f32) (i : S16x2048x2816.Idx) :
    actRef a b i = a i * Ideal.div (Ideal.ofBits .f32 0x3F800000#32) (Ideal.ofBits .f32 0x3F800000#32 + Ideal.exp (-a i)) * b i := by
  pointwise [actRef]

theorem updRef_apply (q : FVec Ideal S16x2048x2816 .f32) (b : Fin 16) (t : Fin 2048) (c : Fin 1024) :
    updRef x d q (ix3 b t c) = x (ix3 b t c) + Ideal.ofBits .f32 0x3F000000#32 * ∑ j : Fin 2816, q (ix3 b t j) * d (ix3 1 j c) := by
  pointwise [updRef]

/-- The updated activations, row by row. -/
theorem upd_apply (b : Fin 16) (t : Fin 2048) (c : Fin 1024) :
    updRef x d (actRef (projRef g (hRef x w)) (projRef u (hRef x w))) (ix3 b t c)
      = FfnRow.out (fun k => x (ix3 b t k)) (fun k => w (ix2 1 k)) (fun k j => g (ix3 1 k j)) (fun k j => u (ix3 1 k j)) (fun j c => d (ix3 1 j c)) c := by
  rw [updRef_apply]
  simp only [actRef_apply, projRef_apply, hRef_apply]
  rfl

theorem closeRef_apply (y : FVec Ideal S16x2048x1024 .f32) (f : FVec Ideal S1024 .f32) (p : Fin 2) (b : Fin 8) (t : Fin 2048) (c : Fin 1024) :
    closeRef y f (ix4 p b t c) = FfnRow.normed (fun k => y (ix3 ⟨p * 8 + b, by omega⟩ t k)) (fun k => f (ix1 k)) c := by
  pointwise [closeRef, FfnRow.normed]

/-- The reference's composed term is `LastBlock.result`. -/
theorem ref_apply (f : FVec Ideal S1024 .f32) (p : Fin 2) (b : Fin 8) (t : Fin 2048) (c : Fin 1024) :
    closeRef (updRef x d (actRef (projRef g (hRef x w)) (projRef u (hRef x w)))) f (ix4 p b t c) = LastBlock.result x w g u d f (ix4 p b t c) := by
  rw [closeRef_apply]
  simp only [upd_apply]
  rfl

theorem ref_eq (f : FVec Ideal S1024 .f32) :
    closeRef (updRef x d (actRef (projRef g (hRef x w)) (projRef u (hRef x w)))) f = LastBlock.result x w g u d f := by
  funext i
  have e : i = (ix4 (i 0) (i 1) (i 2) (i 3) : S2x8x2048x1024.Idx) := by idx_ext
  rw [e]
  exact ref_apply x w g u d f (i 0) (i 1) (i 2) (i 3)

end Cert.LastHost

end
-- ==== Proof.LastClaim.lean ====
/-
  The five claims about the closing feed-forward call.
-/
module

public import proofs.«01_k».proof.Defs
public import proofs.«01_k».proof.Proof.LastHost
public import proofs.«01_k».proof.Proof.Gen.Last.Frame
public import Idealize.ShloMosaic.Lib.Quiescent

@[expose] public section

set_option maxRecDepth 16384

noncomputable section

open Idealize.ShloMosaic Idealize.ShloMosaic.TcCoe Idealize.SL.Sem

namespace Cert.LastClaim

/-- The kernel terminates, faults nowhere and leaves its arguments unchanged, at words and at extended reals. -/
theorem frame_kernel : Cert.quiescent_Last := fun m ρ _ => Cert.Last.Gen.frame m ρ
theorem frame_ideal : Cert.quiescent_LastIdeal := fun m ρ _ => Cert.LastIdeal.Gen.frame m ρ
/-- The reference terminates and leaves its arguments unchanged. -/
theorem frame_ref : Cert.quiescent_LastRefIdeal := fun m ρ _ =>
  (θ_run Cert.LastRefIdeal.defs _ _).mono (fun r h => ⟨fun c => (h c).2, Idealize.ShloMosaic.sem_eq_zero_of_no_sems (by decide) r.2⟩)
    (Cert.LastRefIdeal.Value.run (F := Ideal) m ρ)
/-- The idealized kernel is the kernel's own text. -/
theorem preserves : Cert.preserves_Last_LastIdeal := trivial

/-- At the extended reals the closing feed-forward kernel computes what its reference computes. -/
theorem algebraic : Cert.algebraic_LastIdeal_LastRefIdeal := by
  pair_intro
  · run_from Cert.LastIdeal.Gen.run_main m g
  · run_from Cert.LastRefIdeal.Value.run m' g'
    obtain ⟨h0, h1, h2, h3, h4, h5⟩ := hagree c
    refine Eq.trans ?_ (LastBlock.final m c).symm
    refine Eq.trans ?_ (LastHost.ref_eq _ _ _ _ _ _)
    unfold LastRefIdeal.Value.res_main_v42
    rw [h0, h1, h2, h3, h4, h5]
    rfl

end Cert.LastClaim

end
-- ==== Proof.ScanRow.lean ====
/-
  The state-space call over the extended reals: one state's recurrence, the product that drives it, and one row of the
  result computed from the row's states. The kernel's blocks and the reference's arrays are both read against these.
-/
module

public import proofs.«01_k».proof.Proof.FfnRow

@[expose] public section

noncomputable section

open Idealize.ShloMosaic
open scoped BigOperators

namespace Cert.ScanRow

/-- The states after `n` steps: a complex state as its two parts, times a complex decay, plus the step's input. -/
def chain (lr li : EReal) (s : EReal × EReal) (br bi : ℕ → EReal) : ℕ → EReal × EReal
  | 0 => s
  | n + 1 => (lr * (chain lr li s br bi n).1 - li * (chain lr li s br bi n).2 + br n,
      lr * (chain lr li s br bi n).2 + li * (chain lr li s br bi n).1 + bi n)

/-- Only the steps taken matter. -/
theorem chain_congr {lr li : EReal} {s : EReal × EReal} {br br' bi bi' : ℕ → EReal} (n : ℕ) (hr : ∀ m < n, br m = br' m) (hi : ∀ m < n, bi m = bi' m) :
    chain lr li s br bi n = chain lr li s br' bi' n := by
  induction n with
  | zero => rfl
  | succ n ih =>
    have h := ih (fun m hm => hr m (by omega)) (fun m hm => hi m (by omega))
    simp only [chain, h, hr n (by omega), hi n (by omega)]

/-- Going on from the states after `a` steps. -/
theorem chain_add (lr li : EReal) (s : EReal × EReal) (br bi : ℕ → EReal) (a n : ℕ) :
    chain lr li s br bi (a + n) = chain lr li (chain lr li s br bi a) (fun m => br (a + m)) (fun m => bi (a + m)) n := by
  induction n with
  | zero => rfl
  | succ n ih =>
    show (lr * (chain lr li s br bi (a + n)).1 - li * (chain lr li s br bi (a + n)).2 + br (a + n), lr * (chain lr li s br bi (a + n)).2 + li * (chain lr li s br bi (a + n)).1 + bi (a + n)) = _
    rw [ih]
    rfl

/-- A group of channels' product with its input weights, for one state. -/
def inProd (u : Fin 1024 → EReal) (B : Fin 256 → EReal) (k : Fin 4) : EReal := ∑ c : Fin 256, u ⟨256 * k + c, by omega⟩ * B c

/-- The tanh form of gelu. -/
def gelu (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * (y * y))))))

/-- Channel `j` of a row read out of the row's states, with the skip weight's share of its input, through gelu. -/
def unit (u : Fin 1024 → EReal) (st : Fin 4 → Fin 1024 → EReal × EReal) (Cr Ci : Fin 4 → Fin 1024 → Fin 256 → EReal) (d : Fin 1024 → EReal) (j : Fin 1024) : EReal :=
  gelu ((∑ n, (st ⟨j / 256, by omega⟩ n).1 * Cr ⟨j / 256, by omega⟩ n ⟨j % 256, by omega⟩)
    + (∑ n, (st ⟨j / 256, by omega⟩ n).2 * Ci ⟨j / 256, by omega⟩ n ⟨j % 256, by omega⟩) + d j * u j)

/-- A row's output: the residual plus the gated pair of projections. -/
def out (x : Fin 1024 → EReal) (g : Fin 1024 → EReal) (Wa : Fin 1024 → Fin 1024 → EReal) (ba : Fin 1024 → EReal) (Wb : Fin 1024 → Fin 1024 → EReal) (bb : Fin 1024 → EReal) (c : Fin 1024) : EReal :=
  x c + ((∑ j, g j * Wa j c) + ba c) * Ideal.div (Ideal.ofBits .f32 0x3F800000#32) (Ideal.ofBits .f32 0x3F800000#32 + Ideal.exp (-((∑ j, g j * Wb j c) + bb c)))

end Cert.ScanRow

end
-- ==== Proof.ScanRun.lean ====
/-
  The scan kernel's run, stated by recursion: the input products, the steps of the recurrence, the stores of the states
  into the scratch, and the block of outputs computed from them.
-/
module

public import proofs.«01_k».proof.Proof.Gen.ScanIdeal.Value
public import Idealize.ShloMosaic.Lib.Pipeline.ValueKit

@[expose] public section

set_option maxRecDepth 100000

noncomputable section

open Idealize.ShloMosaic Idealize.ShloMosaic.TcCoe Idealize.SL.Sem

namespace Cert.ScanBlock

open Cert.ScanIdeal Cert.ScanIdeal.Gen

section
variable {F : FTy → Type} [FloatOps F]

/-- One step of the recurrence on the real parts. -/
def stepRe (lr li xr xi : FVec F S16x512 .f32) (b : Vec F S1x16x512 .f32) : FVec F S16x512 .f32 :=
  addf (subf (mulf lr xr) (mulf li xi)) (shapeCast S16x512 b shapeCasts_S1x16x512_S16x512)
def stepIm (lr li xr xi : FVec F S16x512 .f32) (b : Vec F S1x16x512 .f32) : FVec F S16x512 .f32 :=
  addf (addf (mulf lr xi) (mulf li xr)) (shapeCast S16x512 b shapeCasts_S1x16x512_S16x512)

/-- The states after `n` steps. -/
def states (lr li : FVec F S16x512 .f32) (s : FVec F S16x512 .f32 × FVec F S16x512 .f32) (br bi : ℕ → Vec F S1x16x512 .f32) :
    ℕ → FVec F S16x512 .f32 × FVec F S16x512 .f32
  | 0 => s
  | n + 1 => (stepRe lr li (states lr li s br bi n).1 (states lr li s br bi n).2 (br n), stepIm lr li (states lr li s br bi n).1 (states lr li s br bi n).2 (bi n))

theorem tile_inb (p : Fin 2) (n : ℕ) (o : Fin 4) : ∀ a : Fin 3, (![p.val, 16 * (n % 32), 512 * o.val] : Fin 3 → ℕ) a + S1x16x512.size a ≤ S2x512x2048.size a := by
  intro a
  have := p.isLt; have := o.isLt
  match a with
  | ⟨0, _⟩ => show p.val + 1 ≤ 2; omega
  | ⟨1, _⟩ => show 16 * (n % 32) + 16 ≤ 512; omega
  | ⟨2, _⟩ => show 512 * o.val + 512 ≤ 2048; omega

def tile (p : Fin 2) (n : ℕ) (o : Fin 4) : Rect S2x512x2048 := Rect.unit ![p.val, 16 * (n % 32), 512 * o.val] S1x16x512.size (tile_inb p n o)

def narrow (x : FVec F S16x512 .f32) : FVec F S1x16x512 .bf16 := shapeCast S1x16x512 (truncf .bf16 x bitsLt_bf16_f32) shapeCasts_S16x512_S1x16x512

def pieces (p : Fin 2) (h : Fin 2) (x : ℕ → FVec F S16x512 .f32 × FVec F S16x512 .f32) (L : List (View.Piece (Elt F) S2x512x2048 .bf16)) :
    ℕ → List (View.Piece (Elt F) S2x512x2048 .bf16)
  | 0 => L
  | n + 1 => ⟨tile p n ⟨h.val + 2, by omega⟩, narrow (x (n + 1)).2⟩ :: ⟨tile p n ⟨h.val, by omega⟩, narrow (x (n + 1)).1⟩ :: pieces p h x L n

theorem lam_inb (k : Fin 4) (o : Fin 4) : ∀ a : Fin 3, (![k.val, 0, 512 * o.val] : Fin 3 → ℕ) a + S1x1x512.size a ≤ S4x8x2048.size a := by
  intro a
  have := k.isLt; have := o.isLt
  match a with
  | ⟨0, _⟩ => show k.val + 1 ≤ 4; omega
  | ⟨1, _⟩ => show 0 + 1 ≤ 8; omega
  | ⟨2, _⟩ => show 512 * o.val + 512 ≤ 2048; omega

theorem st_inb (k : Fin 4) (o : Fin 4) : ∀ a : Fin 3, (![k.val, 0, 512 * o.val] : Fin 3 → ℕ) a + S1x16x512.size a ≤ S4x16x2048.size a := by
  intro a
  have := k.isLt; have := o.isLt
  match a with
  | ⟨0, _⟩ => show k.val + 1 ≤ 4; omega
  | ⟨1, _⟩ => show 0 + 16 ≤ 16; omega
  | ⟨2, _⟩ => show 512 * o.val + 512 ≤ 2048; omega

def lamRow (v : Vec F S1x1x512 .f32) : FVec F S16x512 .f32 :=
  broadcastTo S16x512 (shapeCast S1x512 (shapeCast S1x512 v shapeCasts_S1x1x512_S1x512) shapeCasts_S1x512_S1x512) broadcasts_S1x512_S16x512

theorem plane_inb (p : Fin 2) : ∀ a : Fin 3, (![p.val, 0, 0] : Fin 3 → ℕ) a + S1x512x2048.size a ≤ S2x512x2048.size a := by
  revert p; decide
theorem inB_inb (k : Fin 4) : ∀ a : Fin 3, (![k.val, 0, 0] : Fin 3 → ℕ) a + S1x256x2048.size a ≤ S4x256x2048.size a := by
  revert k; decide
theorem outC_inb (k : Fin 4) : ∀ a : Fin 3, (![k.val, 0, 0] : Fin 3 → ℕ) a + S1x2048x256.size a ≤ S4x2048x256.size a := by
  revert k; decide
theorem rows_inb : ∀ a : Fin 2, (![0, 0] : Fin 2 → ℕ) a + S512x1024.size a ≤ S512x1024.size a := by decide
theorem row_inb : ∀ a : Fin 2, (![0, 0] : Fin 2 → ℕ) a + S1x1024.size a ≤ S1x1024.size a := by decide
theorem square_inb : ∀ a : Fin 2, (![0, 0] : Fin 2 → ℕ) a + S1024x1024.size a ≤ S1024x1024.size a := by decide
theorem whole_inb : ∀ a : Fin 3, (![0, 0, 0] : Fin 3 → ℕ) a + S4x16x2048.size a ≤ S4x16x2048.size a := by decide

/-- One of the two slabs of a scratch. -/
abbrev plane (p : Fin 2) : Rect S2x512x2048 := Rect.unit (s := S2x512x2048) ![p.val, 0, 0] S1x512x2048.size (plane_inb p)
/-- A group of channels' slice of the carried state, by group and quarter of the state's lanes. -/
abbrev stRect (k o : Fin 4) : Rect S4x16x2048 := Rect.unit (s := S4x16x2048) ![k.val, 0, 512 * o.val] S1x16x512.size (st_inb k o)

/-- The group `n` counts, and the slab it uses. -/
abbrev grp (n : ℕ) : Fin 4 := ⟨n % 4, by omega⟩
abbrev par (n : ℕ) : Fin 2 := ⟨n % 2, by omega⟩

/-- The input products of the four groups of channels. -/
def buOf (x : Vec F S512x1024 .f32) (w : Vec F S1x1024 .f32) (b : Fin 4 → Vec F S1x256x2048 .bf16) (k : Fin 4) : Vec F S1x512x2048 .f32 :=
  match k with
  | ⟨0, _⟩ => k0_pay6 x w (b 0)
  | ⟨1, _⟩ => k0_pay7 x w (b 1)
  | ⟨2, _⟩ => k0_pay312 (k0_pay5 x w) (b 2)
  | ⟨3, _⟩ => k0_pay617 (k0_pay5 x w) (b 3)

/-- The first `n` stores of input products, newest first. -/
def buList (B : Fin 4 → Vec F S1x512x2048 .f32) : ℕ → List (View.Piece (Elt F) S2x512x2048 .f32)
  | 0 => []
  | n + 1 => ⟨plane (par n), B (grp n)⟩ :: buList B n

/-- The input products stored when group `k` is scanned. -/
def cnt (k : ℕ) : ℕ := if k < 3 then k + 2 else 4

/-- A group's rows of input products at a step, by quarter of the lanes. -/
def bu (arg12 : Memref sig .tc .vmem S2x512x2048 .f32) (L : List (View.Piece (Elt F) S2x512x2048 .f32)) (p : Fin 2) (o : Fin 4) (n : ℕ) : Vec F S1x16x512 .f32 :=
  arg12.view.readCov L (tile p n o).toLoadRect

abbrev re (h : Fin 2) : Fin 4 := ⟨h.val, by omega⟩
abbrev im (h : Fin 2) : Fin 4 := ⟨h.val + 2, by omega⟩

/-- Half a group's states after `n` steps, from the state `st` carried into the block. -/
def slab (Lam st : Fin 4 → Fin 4 → FVec F S16x512 .f32) (arg12 : Memref sig .tc .vmem S2x512x2048 .f32) (B : Fin 4 → Vec F S1x512x2048 .f32) (k : ℕ) (h : Fin 2) (n : ℕ) :
    FVec F S16x512 .f32 × FVec F S16x512 .f32 :=
  states (Lam (grp k) (re h)) (Lam (grp k) (im h)) (st (grp k) (re h), st (grp k) (im h))
    (bu arg12 (buList B (cnt k)) (par k) (re h)) (bu arg12 (buList B (cnt k)) (par k) (im h)) n

/-- Group `k`'s stores of states over the earlier ones. -/
def xsPush (Lam st : Fin 4 → Fin 4 → FVec F S16x512 .f32) (arg12 : Memref sig .tc .vmem S2x512x2048 .f32) (B : Fin 4 → Vec F S1x512x2048 .f32) (k : ℕ)
    (L : List (View.Piece (Elt F) S2x512x2048 .bf16)) : List (View.Piece (Elt F) S2x512x2048 .bf16) :=
  pieces (par k) 1 (slab Lam st arg12 B k 1) (pieces (par k) 0 (slab Lam st arg12 B k 0) L 32) 32

/-- The first `k` groups' stores of states. -/
def xsList (Lam st : Fin 4 → Fin 4 → FVec F S16x512 .f32) (arg12 : Memref sig .tc .vmem S2x512x2048 .f32) (B : Fin 4 → Vec F S1x512x2048 .f32) :
    ℕ → List (View.Piece (Elt F) S2x512x2048 .bf16)
  | 0 => []
  | k + 1 => xsPush Lam st arg12 B k (xsList Lam st arg12 B k)

/-- A half group's two stores into the carried state. -/
def stPush (X : FVec F S16x512 .f32 × FVec F S16x512 .f32) (k : Fin 4) (h : Fin 2) (L : List (View.Piece (Elt F) S4x16x2048 .f32)) : List (View.Piece (Elt F) S4x16x2048 .f32) :=
  ⟨stRect k (im h), shapeCast S1x16x512 X.2 shapeCasts_S16x512_S1x16x512⟩ :: ⟨stRect k (re h), shapeCast S1x16x512 X.1 shapeCasts_S16x512_S1x16x512⟩ :: L

/-- The first `j` half groups' stores into the carried state, over `L`. -/
def stList (X : ℕ → FVec F S16x512 .f32 × FVec F S16x512 .f32) (L : List (View.Piece (Elt F) S4x16x2048 .f32)) : ℕ → List (View.Piece (Elt F) S4x16x2048 .f32)
  | 0 => L
  | j + 1 => stPush (X j) (grp (j / 2)) (par j) (stList X L j)

/-- The block of outputs from the rows, the stored states and the weights. -/
def outOf (x : Vec F S512x1024 .f32) (w : Vec F S1x1024 .f32) (D : Fin 4 → Vec F S1x512x2048 .bf16) (C : Fin 4 → Vec F S1x2048x256 .bf16)
    (d : Vec F S1x1024 .f32) (wa : Vec F S1024x1024 .bf16) (ba : Vec F S1x1024 .f32) (wb : Vec F S1024x1024 .bf16) (bb : Vec F S1x1024 .f32) : FVec F S512x1024 .f32 :=
  k0_pay1 (k0_pay3 x)
    (k0_pay1226 (k0_pay1225 (k0_pay4 x w) (k0_pay311 (D 0) (C 0)) (k0_pay616 (D 1) (C 1)) (k0_pay921 (D 2) (C 2)) (D 3) (C 3) d wa) ba)
    (k0_pay1227 (k0_pay1224 (k0_pay4 x w) (k0_pay311 (D 0) (C 0)) (k0_pay616 (D 1) (C 1)) (k0_pay921 (D 2) (C 2)) (D 3) (C 3) d) wb bb)

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S4x256x2048 .bf16) (harg3 : arg3.IsWhole) (arg4 : Memref sig .tc .vmem S4x8x2048 .f32) (harg4 : arg4.IsWhole)
  (arg5 : Memref sig .tc .vmem S4x2048x256 .bf16) (harg5 : arg5.IsWhole) (arg6 : Memref sig .tc .vmem S1x1024 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S2x512x2048 .f32) (harg12 : arg12.IsWhole)
  (arg13 : Memref sig .tc .vmem S2x512x2048 .bf16) (harg13 : arg13.IsWhole) (arg14 : Memref sig .tc .vmem S4x16x2048 .f32) (harg14 : arg14.IsWhole)
  (x0 : Vec F S512x1024 .f32) (x1 : Vec F S1x1024 .f32) (x2 : Vec F S4x256x2048 .bf16) (x3 : Vec F S4x8x2048 .f32) (x4 : Vec F S4x2048x256 .bf16)
  (x5 : Vec F S1x1024 .f32) (x6 : Vec F S1024x1024 .bf16) (x7 : Vec F S1x1024 .f32) (x8 : Vec F S1024x1024 .bf16) (x9 : Vec F S1x1024 .f32) (xs2 : Vec F S4x16x2048 .f32)

/-- The loads of the inputs. -/
def ldX : Vec F S512x1024 .f32 := arg1.view.readAt (Elt F) (Rect.unit (s := S512x1024) ![0, 0] S512x1024.size rows_inb).toLoadRect (harg1.unread x0)
def ldW : Vec F S1x1024 .f32 := arg2.view.readAt (Elt F) (Rect.unit (s := S1x1024) ![0, 0] S1x1024.size row_inb).toLoadRect (harg2.unread x1)
def ldS : Vec F S1024x1024 .bf16 := arg7.view.readAt (Elt F) (Rect.unit (s := S1024x1024) ![0, 0] S1024x1024.size square_inb).toLoadRect (harg7.unread x6)
def ldB (k : Fin 4) : Vec F S1x256x2048 .bf16 := arg3.view.readAt (Elt F) (Rect.unit (s := S4x256x2048) ![k.val, 0, 0] S1x256x2048.size (inB_inb k)).toLoadRect (harg3.unread x2)
def ldC (k : Fin 4) : Vec F S1x2048x256 .bf16 := arg5.view.readAt (Elt F) (Rect.unit (s := S4x2048x256) ![k.val, 0, 0] S1x2048x256.size (outC_inb k)).toLoadRect (harg5.unread x4)
/-- The decay rows. -/
def lam (k o : Fin 4) : FVec F S16x512 .f32 := lamRow (arg4.view.readAt (Elt F) (Rect.unit (s := S4x8x2048) ![k.val, 0, 512 * o.val] S1x1x512.size (lam_inb k o)).toLoadRect (harg4.unread x3))
/-- The state carried into a later block. -/
def startB (k o : Fin 4) : FVec F S16x512 .f32 := shapeCast S16x512 (arg14.view.readAt (Elt F) (stRect k o).toLoadRect (harg14.unread xs2)) shapeCasts_S1x16x512_S16x512
/-- The block's input products. -/
def buIn : Fin 4 → Vec F S1x512x2048 .f32 := buOf (ldX arg1 harg1 x0) (ldW arg2 harg2 x1) (ldB arg3 harg3 x2)
end

end Cert.ScanBlock

end
-- ==== Proof.ScanStores.lean ====
/-
  The scan kernel's block over the extended reals: the stores of input products and of states read back, the states
  against the recurrence, the state left for the next block, and the block of outputs row by row.
-/
module

public import proofs.«01_k».proof.Proof.ScanRow
public import proofs.«01_k».proof.Proof.ScanRun
public import Idealize.ShloMosaic.Lib.WholeRead

@[expose] public section

set_option maxRecDepth 16384

noncomputable section

open Idealize.ShloMosaic Idealize.ShloMosaic.TcCoe Idealize.SL.Sem
open scoped BigOperators

namespace Cert.ScanBlock

open Cert.ScanIdeal Cert.ScanIdeal.Gen

/-- Lane `l` of quarter `o`. -/
abbrev lane (o : Fin 4) (l : Fin 512) : Fin 2048 := ⟨512 * o + l, by omega⟩

section lists

theorem plane_hit (p : Fin 2) (P : Vec Ideal S1x512x2048 .f32) (L : List (View.Piece (Elt Ideal) S2x512x2048 .f32)) (r : Fin 512) (l : Fin 2048) :
    View.canon (⟨plane p, P⟩ :: L) (ix3 p r l) = P (ix3 0 r l) := by
  have e : (plane p).emb (ix3 0 r l) = ix3 p r l := by idx_ext
  rw [← e]
  exact View.canon_cons_emb _ _ _ _

theorem plane_skip (p q : Fin 2) (h : q ≠ p) (P : Vec Ideal S1x512x2048 .f32) (L : List (View.Piece (Elt Ideal) S2x512x2048 .f32)) (r : Fin 512) (l : Fin 2048) :
    View.canon (⟨plane q, P⟩ :: L) (ix3 p r l) = View.canon L (ix3 p r l) := by
  refine View.canon_cons_of_not_mem _ _ fun H => h ?_
  have H : (ix3 p r l : S2x512x2048.Idx) ∈ (Rect.unit (s := S2x512x2048) ![q.val, 0, 0] S1x512x2048.size (plane_inb q)).set := H
  have H := Rect.mem_set_unit.1 H
  have h0 : (q : ℕ) ≤ p ∧ (p : ℕ) < q + 1 := H 0
  exact Fin.ext (by omega)

/-- A group's products are the last but at most one stored when it is scanned, and the one after them goes to the other slab. -/
theorem buList_apply (B : Fin 4 → Vec Ideal S1x512x2048 .f32) (n k : ℕ) (h : k < n) (hn : n ≤ k + 2) (r : Fin 512) (l : Fin 2048) :
    View.canon (buList B n) (ix3 (par k) r l) = B (grp k) (ix3 0 r l) := by
  obtain rfl | rfl : n = k + 1 ∨ n = k + 2 := by omega
  · exact plane_hit (par k) (B (grp k)) (buList B k) r l
  · refine (plane_skip (par k) (par (k + 1)) (fun e => ?_) (B (grp (k + 1))) (buList B (k + 1)) r l).trans (plane_hit (par k) (B (grp k)) (buList B k) r l)
    have := congrArg Fin.val e
    change (k + 1) % 2 = k % 2 at this
    omega

/-- The products stored when a group is scanned, read at a step's rows. -/
theorem bu_apply (arg12 : Memref sig .tc .vmem S2x512x2048 .f32) (B : Fin 4 → Vec Ideal S1x512x2048 .f32) (k : Fin 4) (o : Fin 4) (n : ℕ) (b : Fin 16) (l : Fin 512) :
    bu arg12 (buList B (cnt k)) (par k) o n (ix3 0 b l) = B k (ix3 0 ⟨16 * (n % 32) + b, by omega⟩ (lane o l)) := by
  unfold bu
  rw [View.readCov_eq_canon']
  have e : (tile (par k) n o).toLoadRect.idx (ix3 0 b l) = ix3 (par k) (⟨16 * (n % 32) + b, by omega⟩ : Fin 512) (lane o l) := by
    unfold tile
    idx_ext
  have ek : grp k = k := Fin.ext (Nat.mod_eq_of_lt k.isLt)
  have hk := k.isLt
  refine (congrArg (View.canon (buList B (cnt k))) e).trans ((buList_apply B (cnt k) k ?_ ?_ _ _).trans ?_)
  · unfold cnt; split <;> omega
  · unfold cnt; split <;> omega
  · rw [ek]

theorem tile_off (p q : Fin 2) (n : ℕ) (o o' : Fin 4) (r : Fin 512) (l : Fin 512) (h : q ≠ p ∨ r.val / 16 ≠ n % 32 ∨ o ≠ o') :
    (ix3 p r (lane o l) : S2x512x2048.Idx) ∉ (tile q n o').set := by
  intro H
  have H := Rect.mem_set_unit.1 H
  have h0 : (q : ℕ) ≤ p ∧ (p : ℕ) < q + 1 := H 0
  have h1 : 16 * (n % 32) ≤ (r : ℕ) ∧ (r : ℕ) < 16 * (n % 32) + 16 := H 1
  have h2 : 512 * (o' : ℕ) ≤ 512 * (o : ℕ) + l ∧ 512 * (o : ℕ) + (l : ℕ) < 512 * (o' : ℕ) + 512 := H 2
  have hl := l.isLt
  rcases h with h | h | h
  · exact h (Fin.ext (by omega))
  · omega
  · exact h (Fin.ext (by omega))

theorem narrow_apply (X : FVec Ideal S16x512 .f32) (b : Fin 16) (l : Fin 512) : narrow X (ix3 0 b l) = X (ix2 b l) := by
  pointwise [narrow]

variable (p : Fin 2) (h : Fin 2) (x : ℕ → FVec Ideal S16x512 .f32 × FVec Ideal S16x512 .f32) (L : List (View.Piece (Elt Ideal) S2x512x2048 .bf16))

theorem tile_hit (n : ℕ) (o : Fin 4) (X : FVec Ideal S16x512 .f32) (r : Fin 512) (hr : r.val / 16 = n % 32) (l : Fin 512) :
    View.canon (⟨tile p n o, narrow X⟩ :: L) (ix3 p r (lane o l)) = X (ix2 ⟨r % 16, by omega⟩ l) := by
  have e : (tile p n o).emb (ix3 0 (⟨r % 16, by omega⟩ : Fin 16) l) = ix3 p r (lane o l) := by
    unfold tile
    idx_ext
  rw [← e]
  exact (View.canon_cons_emb _ _ _ _).trans (narrow_apply X _ l)

theorem tile_skip (q : Fin 2) (n : ℕ) (o o' : Fin 4) (P : FVec Ideal S1x16x512 .bf16) (r l : Fin 512) (hs : q ≠ p ∨ r.val / 16 ≠ n % 32 ∨ o ≠ o') :
    View.canon (⟨tile q n o', P⟩ :: L) (ix3 p r (lane o l)) = View.canon L (ix3 p r (lane o l)) :=
  View.canon_cons_of_not_mem _ _ (tile_off p q n o o' r l hs)

theorem pieces_succ (n : ℕ) : pieces p h x L (n + 1) = ⟨tile p n (im h), narrow (x (n + 1)).2⟩ :: ⟨tile p n (re h), narrow (x (n + 1)).1⟩ :: pieces p h x L n := rfl

/-- A half group's stores leave the other halves' lanes and the other slab alone. -/
theorem pieces_skip (n : ℕ) (q : Fin 2) (o : Fin 4) (r l : Fin 512) (hs : q ≠ p ∨ o.val % 2 ≠ h.val) :
    View.canon (pieces p h x L n) (ix3 q r (lane o l)) = View.canon L (ix3 q r (lane o l)) := by
  induction n with
  | zero => rfl
  | succ n ih =>
    have hh := h.isLt
    rw [pieces_succ, tile_skip, tile_skip, ih]
    · rcases hs with hs | hs
      · exact .inl (Ne.symm hs)
      · refine .inr (.inr fun e => hs ?_)
        rw [e]; show h.val % 2 = h.val; omega
    · rcases hs with hs | hs
      · exact .inl (Ne.symm hs)
      · refine .inr (.inr fun e => hs ?_)
        rw [e]; show (h.val + 2) % 2 = h.val; omega

/-- A half group's stores leave its states, step by step: the real parts. -/
theorem pieces_re (n : ℕ) (hn : n ≤ 32) (r l : Fin 512) (hr : r.val / 16 < n) :
    View.canon (pieces p h x L n) (ix3 p r (lane (re h) l)) = (x (r / 16 + 1)).1 (ix2 ⟨r % 16, by omega⟩ l) := by
  induction n with
  | zero => omega
  | succ n ih =>
    have hne : re h ≠ im h := fun e => by
      have := congrArg Fin.val e
      change h.val = h.val + 2 at this
      omega
    rw [pieces_succ, tile_skip _ _ _ _ _ _ _ _ _ (.inr (.inr hne))]
    rcases Nat.lt_succ_iff_lt_or_eq.1 hr with hr | hr
    · rw [tile_skip _ _ _ _ _ _ _ _ _ (.inr (.inl (by omega)))]
      exact ih (by omega) hr
    · rw [hr]
      exact tile_hit p _ n (re h) _ r (by omega) l

/-- … and the imaginary parts. -/
theorem pieces_im (n : ℕ) (hn : n ≤ 32) (r l : Fin 512) (hr : r.val / 16 < n) :
    View.canon (pieces p h x L n) (ix3 p r (lane (im h) l)) = (x (r / 16 + 1)).2 (ix2 ⟨r % 16, by omega⟩ l) := by
  induction n with
  | zero => omega
  | succ n ih =>
    rw [pieces_succ]
    rcases Nat.lt_succ_iff_lt_or_eq.1 hr with hr | hr
    · rw [tile_skip _ _ _ _ _ _ _ _ _ (.inr (.inl (by omega))), tile_skip _ _ _ _ _ _ _ _ _ (.inr (.inl (by omega)))]
      exact ih (by omega) hr
    · rw [hr]
      exact tile_hit p _ n (im h) _ r (by omega) l
end lists

section states

/-- The step's operations, entry by entry. -/
theorem stepRe_apply (lr li xr xi : FVec Ideal S16x512 .f32) (v : Vec Ideal S1x16x512 .f32) (b : Fin 16) (l : Fin 512) :
    stepRe lr li xr xi v (ix2 b l) = lr (ix2 b l) * xr (ix2 b l) - li (ix2 b l) * xi (ix2 b l) + v (ix3 0 b l) := by
  pointwise [stepRe]
theorem stepIm_apply (lr li xr xi : FVec Ideal S16x512 .f32) (v : Vec Ideal S1x16x512 .f32) (b : Fin 16) (l : Fin 512) :
    stepIm lr li xr xi v (ix2 b l) = lr (ix2 b l) * xi (ix2 b l) + li (ix2 b l) * xr (ix2 b l) + v (ix3 0 b l) := by
  pointwise [stepIm]

/-- The states are the recurrence's, entry by entry. -/
theorem states_apply (lr li : FVec Ideal S16x512 .f32) (s : FVec Ideal S16x512 .f32 × FVec Ideal S16x512 .f32) (br bi : ℕ → Vec Ideal S1x16x512 .f32) (n : ℕ) (b : Fin 16) (l : Fin 512) :
    ((states lr li s br bi n).1 (ix2 b l), (states lr li s br bi n).2 (ix2 b l))
      = ScanRow.chain (lr (ix2 b l)) (li (ix2 b l)) (s.1 (ix2 b l), s.2 (ix2 b l)) (fun m => br m (ix3 0 b l)) (fun m => bi m (ix3 0 b l)) n := by
  induction n with
  | zero => rfl
  | succ n ih =>
    have h1 := congrArg Prod.fst ih
    have h2 := congrArg Prod.snd ih
    simp only at h1 h2
    simp only [states, ScanRow.chain, stepRe_apply, stepIm_apply, h1, h2]

/-- One state of a block after `s` steps, from its decay, its start and the block's input products. -/
def blk (Lm : Fin 4 → Fin 2048 → EReal) (S : Fin 4 → Fin 16 → Fin 2048 → EReal) (BU : Fin 4 → Fin 512 → Fin 2048 → EReal) (k : Fin 4) (b : Fin 16) (n : Fin 1024) (s : ℕ) : EReal × EReal :=
  ScanRow.chain (Lm k ⟨n, by omega⟩) (Lm k ⟨1024 + n, by omega⟩) (S k b ⟨n, by omega⟩, S k b ⟨1024 + n, by omega⟩)
    (fun m => BU k ⟨16 * (m % 32) + b, by omega⟩ ⟨n, by omega⟩) (fun m => BU k ⟨16 * (m % 32) + b, by omega⟩ ⟨1024 + n, by omega⟩) s

variable (Lam st : Fin 4 → Fin 4 → FVec Ideal S16x512 .f32) (arg12 : Memref sig .tc .vmem S2x512x2048 .f32) (B : Fin 4 → Vec Ideal S1x512x2048 .f32)
  (Lm : Fin 4 → Fin 2048 → EReal) (S : Fin 4 → Fin 16 → Fin 2048 → EReal) (BU : Fin 4 → Fin 512 → Fin 2048 → EReal)
  (hL : ∀ k o b l, Lam k o (ix2 b l) = Lm k (lane o l)) (hS : ∀ k o b l, st k o (ix2 b l) = S k b (lane o l))
  (hB : ∀ k r n, B k (ix3 0 r n) = BU k r n)
include hL hS hB

theorem slab_apply (k : Fin 4) (h : Fin 2) (n : ℕ) (b : Fin 16) (l : Fin 512) :
    ((slab Lam st arg12 B k h n).1 (ix2 b l), (slab Lam st arg12 B k h n).2 (ix2 b l)) = blk Lm S BU k b ⟨512 * h + l, by omega⟩ n := by
  have ek : grp k = k := Fin.ext (Nat.mod_eq_of_lt k.isLt)
  have ei : lane (im h) l = ⟨1024 + (512 * h + l), by omega⟩ := Fin.ext (by show 512 * (h.val + 2) + l.val = 1024 + (512 * h.val + l.val); omega)
  unfold slab
  rw [states_apply, ek]
  unfold blk
  simp only [hL, hS, bu_apply, hB, ei]

/-- The block's states, read back from their slab: the real parts in its first 1024 lanes. -/
theorem xs_re (k : Fin 4) (L : List (View.Piece (Elt Ideal) S2x512x2048 .bf16)) (r : Fin 512) (n : Fin 1024) :
    View.canon (xsPush Lam st arg12 B k L) (ix3 (par k) r ⟨n, by omega⟩) = (blk Lm S BU k ⟨r % 16, by omega⟩ n (r / 16 + 1)).1 := by
  unfold xsPush
  rcases Nat.lt_or_ge n.val 512 with hn | hn
  · have e : (⟨n, by omega⟩ : Fin 2048) = lane (re 0) ⟨n, hn⟩ := Fin.ext (by show n.val = 512 * 0 + n.val; omega)
    have e' : n = ⟨512 * (0 : Fin 2) + (⟨n, hn⟩ : Fin 512), by show 512 * 0 + n.val < 1024; omega⟩ := Fin.ext (by show n.val = 512 * 0 + n.val; omega)
    rw [e, pieces_skip _ _ _ _ _ _ _ _ _ (.inr (by decide)), pieces_re _ _ _ _ _ le_rfl _ _ (by omega)]
    have h := congrArg Prod.fst (slab_apply Lam st arg12 B Lm S BU hL hS hB k 0 (r.val / 16 + 1) ⟨r % 16, by omega⟩ ⟨n, by omega⟩)
    rw [← e'] at h
    exact h
  · have e : (⟨n, by omega⟩ : Fin 2048) = lane (re 1) ⟨n - 512, by omega⟩ := Fin.ext (by show n.val = 512 * 1 + (n.val - 512); omega)
    have e' : n = ⟨512 * (1 : Fin 2) + (⟨n - 512, by omega⟩ : Fin 512), by show 512 * 1 + (n.val - 512) < 1024; omega⟩ := Fin.ext (by show n.val = 512 * 1 + (n.val - 512); omega)
    rw [e, pieces_re _ _ _ _ _ le_rfl _ _ (by omega)]
    have h := congrArg Prod.fst (slab_apply Lam st arg12 B Lm S BU hL hS hB k 1 (r.val / 16 + 1) ⟨r % 16, by omega⟩ ⟨n - 512, by omega⟩)
    rw [← e'] at h
    exact h

/-- … and the imaginary parts in the others. -/
theorem xs_im (k : Fin 4) (L : List (View.Piece (Elt Ideal) S2x512x2048 .bf16)) (r : Fin 512) (n : Fin 1024) :
    View.canon (xsPush Lam st arg12 B k L) (ix3 (par k) r ⟨1024 + n, by omega⟩) = (blk Lm S BU k ⟨r % 16, by omega⟩ n (r / 16 + 1)).2 := by
  unfold xsPush
  rcases Nat.lt_or_ge n.val 512 with hn | hn
  · have e : (⟨1024 + n, by omega⟩ : Fin 2048) = lane (im 0) ⟨n, hn⟩ := Fin.ext (by show 1024 + n.val = 512 * (0 + 2) + n.val; omega)
    have e' : n = ⟨512 * (0 : Fin 2) + (⟨n, hn⟩ : Fin 512), by show 512 * 0 + n.val < 1024; omega⟩ := Fin.ext (by show n.val = 512 * 0 + n.val; omega)
    rw [e, pieces_skip _ _ _ _ _ _ _ _ _ (.inr (by decide)), pieces_im _ _ _ _ _ le_rfl _ _ (by omega)]
    have h := congrArg Prod.snd (slab_apply Lam st arg12 B Lm S BU hL hS hB k 0 (r.val / 16 + 1) ⟨r % 16, by omega⟩ ⟨n, by omega⟩)
    rw [← e'] at h
    exact h
  · have e : (⟨1024 + n, by omega⟩ : Fin 2048) = lane (im 1) ⟨n - 512, by omega⟩ := Fin.ext (by show 1024 + n.val = 512 * (1 + 2) + (n.val - 512); omega)
    have e' : n = ⟨512 * (1 : Fin 2) + (⟨n - 512, by omega⟩ : Fin 512), by show 512 * 1 + (n.val - 512) < 1024; omega⟩ := Fin.ext (by show n.val = 512 * 1 + (n.val - 512); omega)
    rw [e, pieces_im _ _ _ _ _ le_rfl _ _ (by omega)]
    have h := congrArg Prod.snd (slab_apply Lam st arg12 B Lm S BU hL hS hB k 1 (r.val / 16 + 1) ⟨r % 16, by omega⟩ ⟨n - 512, by omega⟩)
    rw [← e'] at h
    exact h
end states

section carried

variable (X : FVec Ideal S16x512 .f32 × FVec Ideal S16x512 .f32) (k : Fin 4) (h : Fin 2) (L : List (View.Piece (Elt Ideal) S4x16x2048 .f32))

theorem st_off (k k' o o' : Fin 4) (b : Fin 16) (l : Fin 512) (h : k ≠ k' ∨ o ≠ o') : (ix3 k b (lane o l) : S4x16x2048.Idx) ∉ (stRect k' o').set := by
  intro H
  have H := Rect.mem_set_unit.1 H
  have h0 : (k' : ℕ) ≤ k ∧ (k : ℕ) < k' + 1 := H 0
  have h2 : 512 * (o' : ℕ) ≤ 512 * (o : ℕ) + l ∧ 512 * (o : ℕ) + (l : ℕ) < 512 * (o' : ℕ) + 512 := H 2
  have hl := l.isLt
  rcases h with h | h
  · exact h (Fin.ext (by omega))
  · exact h (Fin.ext (by omega))

theorem widen_apply (Y : FVec Ideal S16x512 .f32) (b : Fin 16) (l : Fin 512) : shapeCast S1x16x512 Y shapeCasts_S16x512_S1x16x512 (ix3 0 b l) = Y (ix2 b l) := by
  pointwise []

theorem st_hit (k o : Fin 4) (Y : FVec Ideal S16x512 .f32) (b : Fin 16) (l : Fin 512) :
    View.canon (⟨stRect k o, shapeCast S1x16x512 Y shapeCasts_S16x512_S1x16x512⟩ :: L) (ix3 k b (lane o l)) = Y (ix2 b l) := by
  have e : (stRect k o).emb (ix3 0 b l) = ix3 k b (lane o l) := by idx_ext
  rw [← e]
  exact (View.canon_cons_emb _ _ _ _).trans (widen_apply Y b l)

theorem st_skip (k k' o o' : Fin 4) (P : FVec Ideal S1x16x512 .f32) (b : Fin 16) (l : Fin 512) (h : k ≠ k' ∨ o ≠ o') :
    View.canon (⟨stRect k' o', P⟩ :: L) (ix3 k b (lane o l)) = View.canon L (ix3 k b (lane o l)) :=
  View.canon_cons_of_not_mem _ _ (st_off k k' o o' b l h)

theorem push_eq : stPush X k h L = ⟨stRect k (im h), shapeCast S1x16x512 X.2 shapeCasts_S16x512_S1x16x512⟩ :: ⟨stRect k (re h), shapeCast S1x16x512 X.1 shapeCasts_S16x512_S1x16x512⟩ :: L := rfl

/-- A half group's stores leave the other half groups' states alone. -/
theorem push_skip (k' o : Fin 4) (b : Fin 16) (l : Fin 512) (hs : k' ≠ k ∨ o.val % 2 ≠ h.val) :
    View.canon (stPush X k h L) (ix3 k' b (lane o l)) = View.canon L (ix3 k' b (lane o l)) := by
  have hh := h.isLt
  rw [push_eq, st_skip, st_skip]
  · refine hs.imp id fun hs e => hs ?_
    rw [e]; show h.val % 2 = h.val; omega
  · refine hs.imp id fun hs e => hs ?_
    rw [e]; show (h.val + 2) % 2 = h.val; omega

theorem push_re (b : Fin 16) (l : Fin 512) : View.canon (stPush X k h L) (ix3 k b (lane (re h) l)) = X.1 (ix2 b l) := by
  have hne : re h ≠ im h := fun e => by
    have := congrArg Fin.val e
    change h.val = h.val + 2 at this
    omega
  rw [push_eq, st_skip _ _ _ _ _ _ _ _ (.inr hne)]
  exact st_hit L k (re h) X.1 b l

theorem push_im (b : Fin 16) (l : Fin 512) : View.canon (stPush X k h L) (ix3 k b (lane (im h) l)) = X.2 (ix2 b l) :=
  st_hit _ k (im h) X.2 b l

variable (Y : ℕ → FVec Ideal S16x512 .f32 × FVec Ideal S16x512 .f32) (M : ℕ → List (View.Piece (Elt Ideal) S4x16x2048 .f32))
  (hM : ∀ j < 8, M (j + 1) = stPush (Y j) (grp (j / 2)) (par j) (M j))
include hM

/-- Before its half group stores, a lane holds what was there at first. -/
theorem list_skip (n : ℕ) (hn : n ≤ 8) (k o : Fin 4) (b : Fin 16) (l : Fin 512) (hk : n ≤ 2 * k.val + o.val % 2) :
    View.canon (M n) (ix3 k b (lane o l)) = View.canon (M 0) (ix3 k b (lane o l)) := by
  induction n with
  | zero => rfl
  | succ n ih =>
    rw [hM n (by omega), push_skip, ih (by omega) (by omega)]
    by_cases e : k = grp (n / 2)
    · refine .inr ?_
      have e := congrArg Fin.val e
      change k.val = n / 2 % 4 at e
      show o.val % 2 ≠ n % 2
      omega
    · exact .inl e

/-- After it, what the half group stored. -/
theorem list_hit (n : ℕ) (hn : n ≤ 8) (k : Fin 4) (h : Fin 2) (b : Fin 16) (l : Fin 512) (hk : 2 * k.val + h.val < n) :
    View.canon (M n) (ix3 k b (lane (re h) l)) = (Y (2 * k + h)).1 (ix2 b l) ∧ View.canon (M n) (ix3 k b (lane (im h) l)) = (Y (2 * k + h)).2 (ix2 b l) := by
  induction n with
  | zero => omega
  | succ n ih =>
    rw [hM n (by omega)]
    have hh := h.isLt
    rcases Nat.lt_succ_iff_lt_or_eq.1 hk with hk | hk
    · have hs : ∀ o : Fin 4, o.val % 2 = h.val → (k ≠ grp (n / 2) ∨ o.val % 2 ≠ (par n).val) := fun o ho => by
        by_cases e : k = grp (n / 2)
        · refine .inr ?_
          have e := congrArg Fin.val e
          change k.val = n / 2 % 4 at e
          show o.val % 2 ≠ n % 2
          omega
        · exact .inl e
      rw [push_skip _ _ _ _ _ _ _ _ (hs (re h) (by show h.val % 2 = h.val; omega)), push_skip _ _ _ _ _ _ _ _ (hs (im h) (by show (h.val + 2) % 2 = h.val; omega))]
      exact ih (by omega) hk
    · have e1 : grp (n / 2) = k := Fin.ext (by show n / 2 % 4 = k.val; omega)
      have e2 : par n = h := Fin.ext (by show n % 2 = h.val; omega)
      rw [e1, e2, hk]
      exact ⟨push_re _ _ _ _ _ _, push_im _ _ _ _ _ _⟩
end carried

end Cert.ScanBlock

end
-- ==== Proof.ScanArith.lean ====
/-
  The scan kernel's arithmetic over the extended reals: the products that drive the recurrence and the block of outputs,
  row by row.
-/
module

public import proofs.«01_k».proof.Proof.ScanRow
public import proofs.«01_k».proof.Proof.ScanRun

@[expose] public section

set_option maxRecDepth 16384

noncomputable section

open Idealize.ShloMosaic Idealize.ShloMosaic.TcCoe Idealize.SL.Sem
open scoped BigOperators

namespace Cert.ScanBlock

open Cert.ScanIdeal Cert.ScanIdeal.Gen

section
variable (x : Vec Ideal S512x1024 .f32) (w : Vec Ideal S1x1024 .f32)

/-- The row's normalised entries. -/
def rowU (r : Fin 512) : Fin 1024 → EReal := FfnRow.normed (fun k => x (ix2 r k)) (fun k => w (ix2 0 k))

theorem pay3_apply (r : Fin 512) (k : Fin 1024) : k0_pay3 x (ix2 r k) = x (ix2 r k) := by
  pointwise [k0_pay3]

theorem pay4_apply (r : Fin 512) (k : Fin 1024) : k0_pay4 x w (ix2 r k) = rowU x w r k := by
  have h := pay3_apply x r
  pointwise [k0_pay4, rowU, FfnRow.normed]
  simp only [h]

theorem pay5_apply (r : Fin 512) (k : Fin 1024) : k0_pay5 x w (ix2 r k) = rowU x w r k := by
  have h := pay4_apply x w r
  pointwise [k0_pay5]
  simp only [h]

/-- The products of the four groups of channels. -/
theorem buOf_apply (b : Fin 4 → Vec Ideal S1x256x2048 .bf16) (k : Fin 4) (r : Fin 512) (n : Fin 2048) :
    buOf x w b k (ix3 0 r n) = ScanRow.inProd (rowU x w r) (fun c => b k (ix3 0 c n)) k := by
  have h := pay5_apply x w r
  match k with
  | ⟨0, _⟩ =>
    show k0_pay6 x w (b 0) (ix3 0 r n) = _
    pointwise [k0_pay6, ScanRow.inProd]
    simp only [h]
  | ⟨1, _⟩ =>
    show k0_pay7 x w (b 1) (ix3 0 r n) = _
    pointwise [k0_pay7, ScanRow.inProd]
    simp only [h]
  | ⟨2, _⟩ =>
    show k0_pay312 (k0_pay5 x w) (b 2) (ix3 0 r n) = _
    generalize k0_pay5 x w = Z at h ⊢
    pointwise [k0_pay312, ScanRow.inProd]
    simp only [h]
  | ⟨3, _⟩ =>
    show k0_pay617 (k0_pay5 x w) (b 3) (ix3 0 r n) = _
    generalize k0_pay5 x w = Z at h ⊢
    pointwise [k0_pay617, ScanRow.inProd]
    simp only [h]

/-- A group's states against its output weights. -/
def read (D : Vec Ideal S1x512x2048 .bf16) (C : Vec Ideal S1x2048x256 .bf16) (r : Fin 512) (c : Fin 256) : EReal := ∑ n : Fin 2048, D (ix3 0 r n) * C (ix3 0 n c)

theorem pay311_apply (D : Vec Ideal S1x512x2048 .bf16) (C : Vec Ideal S1x2048x256 .bf16) (r : Fin 512) (c : Fin 256) : k0_pay311 D C (ix2 r c) = read D C r c := by
  pointwise [k0_pay311, read]
theorem pay616_apply (D : Vec Ideal S1x512x2048 .bf16) (C : Vec Ideal S1x2048x256 .bf16) (r : Fin 512) (c : Fin 256) : k0_pay616 D C (ix2 r c) = read D C r c := by
  pointwise [k0_pay616, read]
theorem pay921_apply (D : Vec Ideal S1x512x2048 .bf16) (C : Vec Ideal S1x2048x256 .bf16) (r : Fin 512) (c : Fin 256) : k0_pay921 D C (ix2 r c) = read D C r c := by
  pointwise [k0_pay921, read]

/-- The channels' activations. -/
theorem pay1224_apply (u : FVec Ideal S512x1024 .f32) (p0 p1 p2 : FVec Ideal S512x256 .f32) (D : Vec Ideal S1x512x2048 .bf16) (C : Vec Ideal S1x2048x256 .bf16) (d : Vec Ideal S1x1024 .f32) (r : Fin 512) (j : Fin 1024) :
    k0_pay1224 u p0 p1 p2 D C d (ix2 r j)
      = ScanRow.gelu ((![fun c => p0 (ix2 r c), fun c => p1 (ix2 r c), fun c => p2 (ix2 r c), fun c => read D C r c] : Fin 4 → Fin 256 → EReal) ⟨j / 256, by omega⟩ ⟨j % 256, by omega⟩ + d (ix2 0 j) * u (ix2 r j)) := by
  have key : ∀ q0 q1 q2 q3 : Fin 256 → EReal, (![q0, q1, q2, q3] : Fin 4 → Fin 256 → EReal) ⟨j / 256, by omega⟩ ⟨j % 256, by omega⟩
      = if h : (j : ℕ) < 256 then q0 ⟨j, h⟩ else if h : (j : ℕ) - 256 < 256 then q1 ⟨j - 256, h⟩ else if h : (j : ℕ) - 256 - 256 < 256 then q2 ⟨j - 256 - 256, h⟩
        else q3 ⟨j - 256 - 256 - 256, by omega⟩ := fun q0 q1 q2 q3 => by
    split_ifs with h0 h1 h2
    · have e : (⟨j / 256, by omega⟩ : Fin 4) = 0 := Fin.ext (by show (j : ℕ) / 256 = 0; omega)
      rw [e]; exact congrArg q0 (Fin.ext (by show (j : ℕ) % 256 = j; omega))
    · have e : (⟨j / 256, by omega⟩ : Fin 4) = 1 := Fin.ext (by show (j : ℕ) / 256 = 1; omega)
      rw [e]; exact congrArg q1 (Fin.ext (by show (j : ℕ) % 256 = j - 256; omega))
    · have e : (⟨j / 256, by omega⟩ : Fin 4) = 2 := Fin.ext (by show (j : ℕ) / 256 = 2; omega)
      rw [e]; exact congrArg q2 (Fin.ext (by show (j : ℕ) % 256 = j - 256 - 256; omega))
    · have e : (⟨j / 256, by omega⟩ : Fin 4) = 3 := Fin.ext (by show (j : ℕ) / 256 = 3; omega)
      rw [e]; exact congrArg q3 (Fin.ext (by show (j : ℕ) % 256 = j - 256 - 256 - 256; omega))
  rw [key]
  pointwise [k0_pay1224, ScanRow.gelu, read]

/-- The two projections of the activations. -/
theorem pay1225_apply (u : FVec Ideal S512x1024 .f32) (p0 p1 p2 : FVec Ideal S512x256 .f32) (D : Vec Ideal S1x512x2048 .bf16) (C : Vec Ideal S1x2048x256 .bf16) (d : Vec Ideal S1x1024 .f32)
    (wa : Vec Ideal S1024x1024 .bf16) (r : Fin 512) (c : Fin 1024) :
    k0_pay1225 u p0 p1 p2 D C d wa (ix2 r c) = ∑ j : Fin 1024, k0_pay1224 u p0 p1 p2 D C d (ix2 r j) * wa (ix2 j c) := by
  pointwise [k0_pay1225]
theorem pay1226_apply (z : FVec Ideal S512x1024 .f32) (ba : Vec Ideal S1x1024 .f32) (r : Fin 512) (c : Fin 1024) :
    k0_pay1226 z ba (ix2 r c) = z (ix2 r c) + ba (ix2 0 c) := by
  pointwise [k0_pay1226]
theorem pay1227_apply (g : FVec Ideal S512x1024 .bf16) (wb : Vec Ideal S1024x1024 .bf16) (bb : Vec Ideal S1x1024 .f32) (r : Fin 512) (c : Fin 1024) :
    k0_pay1227 g wb bb (ix2 r c) = Ideal.div (Ideal.ofBits .f32 0x3F800000#32) (Ideal.ofBits .f32 0x3F800000#32 + Ideal.exp (-((∑ j : Fin 1024, g (ix2 r j) * wb (ix2 j c)) + bb (ix2 0 c)))) := by
  pointwise [k0_pay1227]
  simp only [zero_sub]

theorem pay1_apply (a p q : FVec Ideal S512x1024 .f32) (r : Fin 512) (c : Fin 1024) : k0_pay1 a p q (ix2 r c) = a (ix2 r c) + p (ix2 r c) * q (ix2 r c) := by
  pointwise [k0_pay1]

/-- A product over a group's 2048 state lanes, as real parts and imaginary parts. -/
theorem read_split (D : Vec Ideal S1x512x2048 .bf16) (C : Vec Ideal S1x2048x256 .bf16) (r : Fin 512) (c : Fin 256) (st : Fin 1024 → EReal × EReal)
    (hr : ∀ n : Fin 1024, D (ix3 0 r ⟨n, by omega⟩) = (st n).1) (hi : ∀ n : Fin 1024, D (ix3 0 r ⟨1024 + n, by omega⟩) = (st n).2) :
    read D C r c = (∑ n : Fin 1024, (st n).1 * C (ix3 0 ⟨n, by omega⟩ c)) + ∑ n : Fin 1024, (st n).2 * C (ix3 0 ⟨1024 + n, by omega⟩ c) := by
  refine (Fin.sum_univ_add (a := 1024) (b := 1024) (fun n : Fin 2048 => D (ix3 0 r n) * C (ix3 0 n c))).trans ?_
  exact congrArg₂ (· + ·) (Finset.sum_congr rfl fun n _ => congrArg (· * _) (hr n)) (Finset.sum_congr rfl fun n _ => congrArg (· * _) (hi n))

/-- The block of outputs, row by row, from the rows' states. -/
theorem outOf_apply (D : Fin 4 → Vec Ideal S1x512x2048 .bf16) (C : Fin 4 → Vec Ideal S1x2048x256 .bf16) (d : Vec Ideal S1x1024 .f32)
    (wa : Vec Ideal S1024x1024 .bf16) (ba : Vec Ideal S1x1024 .f32) (wb : Vec Ideal S1024x1024 .bf16) (bb : Vec Ideal S1x1024 .f32)
    (st : Fin 512 → Fin 4 → Fin 1024 → EReal × EReal)
    (hr : ∀ (k : Fin 4) (r : Fin 512) (n : Fin 1024), D k (ix3 0 r ⟨n, by omega⟩) = (st r k n).1) (hi : ∀ (k : Fin 4) (r : Fin 512) (n : Fin 1024), D k (ix3 0 r ⟨1024 + n, by omega⟩) = (st r k n).2)
    (r : Fin 512) (c : Fin 1024) :
    outOf x w D C d wa ba wb bb (ix2 r c)
      = ScanRow.out (fun k => x (ix2 r k))
          (ScanRow.unit (rowU x w r) (st r) (fun k n c => C k (ix3 0 ⟨n, by omega⟩ c)) (fun k n c => C k (ix3 0 ⟨1024 + n, by omega⟩ c)) (fun j => d (ix2 0 j)))
          (fun j c => wa (ix2 j c)) (fun c => ba (ix2 0 c)) (fun j c => wb (ix2 j c)) (fun c => bb (ix2 0 c)) c := by
  have hg : ∀ j : Fin 1024, k0_pay1224 (k0_pay4 x w) (k0_pay311 (D 0) (C 0)) (k0_pay616 (D 1) (C 1)) (k0_pay921 (D 2) (C 2)) (D 3) (C 3) d (ix2 r j)
      = ScanRow.unit (rowU x w r) (st r) (fun k n c => C k (ix3 0 ⟨n, by omega⟩ c)) (fun k n c => C k (ix3 0 ⟨1024 + n, by omega⟩ c)) (fun j => d (ix2 0 j)) j := fun j => by
    rw [pay1224_apply, pay4_apply]
    unfold ScanRow.unit
    congr 2
    have hk : ∀ (k : Fin 4) (c : Fin 256), (![fun c => k0_pay311 (D 0) (C 0) (ix2 r c), fun c => k0_pay616 (D 1) (C 1) (ix2 r c), fun c => k0_pay921 (D 2) (C 2) (ix2 r c), fun c => read (D 3) (C 3) r c] : Fin 4 → Fin 256 → EReal) k c
        = read (D k) (C k) r c := fun k c => by
      match k with
      | ⟨0, _⟩ => exact pay311_apply _ _ _ _
      | ⟨1, _⟩ => exact pay616_apply _ _ _ _
      | ⟨2, _⟩ => exact pay921_apply _ _ _ _
      | ⟨3, _⟩ => rfl
    rw [hk]
    exact read_split _ _ _ _ _ (fun n => hr _ r n) (fun n => hi _ r n)
  unfold outOf
  rw [pay1_apply, pay3_apply, pay1226_apply, pay1225_apply, pay1227_apply]
  simp only [hg]
  rfl
end

end Cert.ScanBlock

end
-- ==== Proof.ScanRunA.lean ====
/-
  The scan kernel's run, stated by recursion: the input products, the steps of the recurrence, the stores of the states
  into the scratch, and the block of outputs computed from them.
-/
module

public import proofs.«01_k».proof.Proof.ScanRun

@[expose] public section

set_option maxRecDepth 100000

noncomputable section

open Idealize.ShloMosaic Idealize.ShloMosaic.TcCoe Idealize.SL.Sem

namespace Cert.ScanBlock

open Cert.ScanIdeal Cert.ScanIdeal.Gen

section
variable {F : FTy → Type} [FloatOps F]

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S4x256x2048 .bf16) (harg3 : arg3.IsWhole) (arg4 : Memref sig .tc .vmem S4x8x2048 .f32) (harg4 : arg4.IsWhole)
  (arg5 : Memref sig .tc .vmem S4x2048x256 .bf16) (harg5 : arg5.IsWhole) (arg6 : Memref sig .tc .vmem S1x1024 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S2x512x2048 .f32) (harg12 : arg12.IsWhole)
  (arg13 : Memref sig .tc .vmem S2x512x2048 .bf16) (harg13 : arg13.IsWhole) (arg14 : Memref sig .tc .vmem S4x16x2048 .f32) (harg14 : arg14.IsWhole)
  (x0 : Vec F S512x1024 .f32) (x1 : Vec F S1x1024 .f32) (x2 : Vec F S4x256x2048 .bf16) (x3 : Vec F S4x8x2048 .f32) (x4 : Vec F S4x2048x256 .bf16)
  (x5 : Vec F S1x1024 .f32) (x6 : Vec F S1024x1024 .bf16) (x7 : Vec F S1x1024 .f32) (x8 : Vec F S1024x1024 .bf16) (x9 : Vec F S1x1024 .f32) (xs2 : Vec F S4x16x2048 .f32)

/-- The first block's stores into the carried state when its half group `j` starts. -/
def stA (j : ℕ) : List (View.Piece (Elt F) S4x16x2048 .f32) :=
  match j with
  | 0 => kernelRun0_A.sl.HS2_1
  | 1 => kernelRun0_A.sl.HS2_3 c arg1 harg1 arg2 harg2 arg3 harg3 arg4 harg4 arg12 arg14 x0 x1 x2 x3
  | 2 => kernelRun0_A.sl.HS2_5 c arg1 harg1 arg2 harg2 arg3 harg3 arg4 harg4 arg12 arg14 x0 x1 x2 x3
  | 3 => kernelRun0_A.sl.HS2_7 c arg1 harg1 arg2 harg2 arg3 harg3 arg4 harg4 arg12 arg14 x0 x1 x2 x3
  | 4 => kernelRun0_A.sl.HS2_9 c arg1 harg1 arg2 harg2 arg3 harg3 arg4 harg4 arg12 arg14 x0 x1 x2 x3
  | 5 => kernelRun0_A.sl.HS2_11 c arg1 harg1 arg2 harg2 arg3 harg3 arg4 harg4 arg12 arg14 x0 x1 x2 x3
  | 6 => kernelRun0_A.sl.HS2_13 c arg1 harg1 arg2 harg2 arg3 harg3 arg4 harg4 arg12 arg14 x0 x1 x2 x3
  | _ => kernelRun0_A.sl.HS2_15 c arg1 harg1 arg2 harg2 arg3 harg3 arg4 harg4 arg12 arg14 x0 x1 x2 x3

/-- The state the first block's half groups start from. -/
def startA (k o : Fin 4) : FVec F S16x512 .f32 :=
  shapeCast S16x512 (arg14.view.readCov (stA c arg1 harg1 arg2 harg2 arg3 harg3 arg4 harg4 arg12 arg14 x0 x1 x2 x3 (2 * k.val + o.val % 2)) (stRect k o).toLoadRect) shapeCasts_S1x16x512_S16x512

theorem hs0_2_A : kernelRun0_A.sl.HS0_2 c arg1 harg1 arg2 harg2 arg3 harg3 x0 x1 x2 = buList (buIn arg1 harg1 arg2 harg2 arg3 harg3 x0 x1 x2) 2 := by
  sl_kernel_rfl

theorem hs0_3_A : kernelRun0_A.sl.HS0_3 c arg1 harg1 arg2 harg2 arg3 harg3 x0 x1 x2 = buList (buIn arg1 harg1 arg2 harg2 arg3 harg3 x0 x1 x2) 3 := by
  sl_kernel_rfl

theorem hs0_4_A : kernelRun0_A.sl.HS0_4 c arg1 harg1 arg2 harg2 arg3 harg3 x0 x1 x2 = buList (buIn arg1 harg1 arg2 harg2 arg3 harg3 x0 x1 x2) 4 := by
  sl_kernel_rfl

theorem hs1_128_A : kernelRun0_A.sl.HS1_128 c arg1 harg1 arg2 harg2 arg3 harg3 arg4 harg4 arg12 arg14 x0 x1 x2 x3 = xsPush (lam arg4 harg4 x3) (startA c arg1 harg1 arg2 harg2 arg3 harg3 arg4 harg4 arg12 arg14 x0 x1 x2 x3) arg12 (buIn arg1 harg1 arg2 harg2 arg3 harg3 x0 x1 x2) 0 [] := by
  sl_kernel_rfl

theorem hs1_256_A : kernelRun0_A.sl.HS1_256 c arg1 harg1 arg2 harg2 arg3 harg3 arg4 harg4 arg12 arg14 x0 x1 x2 x3 = xsPush (lam arg4 harg4 x3) (startA c arg1 harg1 arg2 harg2 arg3 harg3 arg4 harg4 arg12 arg14 x0 x1 x2 x3) arg12 (buIn arg1 harg1 arg2 harg2 arg3 harg3 x0 x1 x2) 1 (kernelRun0_A.sl.HS1_128 c arg1 harg1 arg2 harg2 arg3 harg3 arg4 harg4 arg12 arg14 x0 x1 x2 x3) := by
  sl_kernel_rfl

theorem hs1_384_A : kernelRun0_A.sl.HS1_384 c arg1 harg1 arg2 harg2 arg3 harg3 arg4 harg4 arg12 arg14 x0 x1 x2 x3 = xsPush (lam arg4 harg4 x3) (startA c arg1 harg1 arg2 harg2 arg3 harg3 arg4 harg4 arg12 arg14 x0 x1 x2 x3) arg12 (buIn arg1 harg1 arg2 harg2 arg3 harg3 x0 x1 x2) 2 (kernelRun0_A.sl.HS1_256 c arg1 harg1 arg2 harg2 arg3 harg3 arg4 harg4 arg12 arg14 x0 x1 x2 x3) := by
  sl_kernel_rfl

theorem hs1_512_A : kernelRun0_A.sl.HS1_512 c arg1 harg1 arg2 harg2 arg3 harg3 arg4 harg4 arg12 arg14 x0 x1 x2 x3 = xsPush (lam arg4 harg4 x3) (startA c arg1 harg1 arg2 harg2 arg3 harg3 arg4 harg4 arg12 arg14 x0 x1 x2 x3) arg12 (buIn arg1 harg1 arg2 harg2 arg3 harg3 x0 x1 x2) 3 (kernelRun0_A.sl.HS1_384 c arg1 harg1 arg2 harg2 arg3 harg3 arg4 harg4 arg12 arg14 x0 x1 x2 x3) := by
  sl_kernel_rfl

theorem stA_1 : stA c arg1 harg1 arg2 harg2 arg3 harg3 arg4 harg4 arg12 arg14 x0 x1 x2 x3 1 = stPush (slab (lam arg4 harg4 x3) (startA c arg1 harg1 arg2 harg2 arg3 harg3 arg4 harg4 arg12 arg14 x0 x1 x2 x3) arg12 (buIn arg1 harg1 arg2 harg2 arg3 harg3 x0 x1 x2) 0 0 32) 0 0 (stA c arg1 harg1 arg2 harg2 arg3 harg3 arg4 harg4 arg12 arg14 x0 x1 x2 x3 0) := by
  sl_kernel_rfl

theorem stA_2 : stA c arg1 harg1 arg2 harg2 arg3 harg3 arg4 harg4 arg12 arg14 x0 x1 x2 x3 2 = stPush (slab (lam arg4 harg4 x3) (startA c arg1 harg1 arg2 harg2 arg3 harg3 arg4 harg4 arg12 arg14 x0 x1 x2 x3) arg12 (buIn arg1 harg1 arg2 harg2 arg3 harg3 x0 x1 x2) 0 1 32) 0 1 (stA c arg1 harg1 arg2 harg2 arg3 harg3 arg4 harg4 arg12 arg14 x0 x1 x2 x3 1) := by
  sl_kernel_rfl

theorem stA_3 : stA c arg1 harg1 arg2 harg2 arg3 harg3 arg4 harg4 arg12 arg14 x0 x1 x2 x3 3 = stPush (slab (lam arg4 harg4 x3) (startA c arg1 harg1 arg2 harg2 arg3 harg3 arg4 harg4 arg12 arg14 x0 x1 x2 x3) arg12 (buIn arg1 harg1 arg2 harg2 arg3 harg3 x0 x1 x2) 1 0 32) 1 0 (stA c arg1 harg1 arg2 harg2 arg3 harg3 arg4 harg4 arg12 arg14 x0 x1 x2 x3 2) := by
  sl_kernel_rfl

theorem stA_4 : stA c arg1 harg1 arg2 harg2 arg3 harg3 arg4 harg4 arg12 arg14 x0 x1 x2 x3 4 = stPush (slab (lam arg4 harg4 x3) (startA c arg1 harg1 arg2 harg2 arg3 harg3 arg4 harg4 arg12 arg14 x0 x1 x2 x3) arg12 (buIn arg1 harg1 arg2 harg2 arg3 harg3 x0 x1 x2) 1 1 32) 1 1 (stA c arg1 harg1 arg2 harg2 arg3 harg3 arg4 harg4 arg12 arg14 x0 x1 x2 x3 3) := by
  sl_kernel_rfl

theorem stA_5 : stA c arg1 harg1 arg2 harg2 arg3 harg3 arg4 harg4 arg12 arg14 x0 x1 x2 x3 5 = stPush (slab (lam arg4 harg4 x3) (startA c arg1 harg1 arg2 harg2 arg3 harg3 arg4 harg4 arg12 arg14 x0 x1 x2 x3) arg12 (buIn arg1 harg1 arg2 harg2 arg3 harg3 x0 x1 x2) 2 0 32) 2 0 (stA c arg1 harg1 arg2 harg2 arg3 harg3 arg4 harg4 arg12 arg14 x0 x1 x2 x3 4) := by
  sl_kernel_rfl

theorem stA_6 : stA c arg1 harg1 arg2 harg2 arg3 harg3 arg4 harg4 arg12 arg14 x0 x1 x2 x3 6 = stPush (slab (lam arg4 harg4 x3) (startA c arg1 harg1 arg2 harg2 arg3 harg3 arg4 harg4 arg12 arg14 x0 x1 x2 x3) arg12 (buIn arg1 harg1 arg2 harg2 arg3 harg3 x0 x1 x2) 2 1 32) 2 1 (stA c arg1 harg1 arg2 harg2 arg3 harg3 arg4 harg4 arg12 arg14 x0 x1 x2 x3 5) := by
  sl_kernel_rfl

theorem stA_7 : stA c arg1 harg1 arg2 harg2 arg3 harg3 arg4 harg4 arg12 arg14 x0 x1 x2 x3 7 = stPush (slab (lam arg4 harg4 x3) (startA c arg1 harg1 arg2 harg2 arg3 harg3 arg4 harg4 arg12 arg14 x0 x1 x2 x3) arg12 (buIn arg1 harg1 arg2 harg2 arg3 harg3 x0 x1 x2) 3 0 32) 3 0 (stA c arg1 harg1 arg2 harg2 arg3 harg3 arg4 harg4 arg12 arg14 x0 x1 x2 x3 6) := by
  sl_kernel_rfl

theorem left_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 = stPush (slab (lam arg4 harg4 x3) (startA c arg1 harg1 arg2 harg2 arg3 harg3 arg4 harg4 arg12 arg14 x0 x1 x2 x3) arg12 (buIn arg1 harg1 arg2 harg2 arg3 harg3 x0 x1 x2) 3 1 32) 3 1 (stA c arg1 harg1 arg2 harg2 arg3 harg3 arg4 harg4 arg12 arg14 x0 x1 x2 x3 7) := by
  sl_kernel_rfl

theorem stored_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1
    = [⟨Rect.unit (s := S512x1024) ![0, 0] S512x1024.size rows_inb, outOf (ldX arg1 harg1 x0) (ldW arg2 harg2 x1)
        ![arg13.view.readCov (kernelRun0_A.sl.HS1_128 c arg1 harg1 arg2 harg2 arg3 harg3 arg4 harg4 arg12 arg14 x0 x1 x2 x3) (plane 0).toLoadRect, arg13.view.readCov (kernelRun0_A.sl.HS1_256 c arg1 harg1 arg2 harg2 arg3 harg3 arg4 harg4 arg12 arg14 x0 x1 x2 x3) (plane 1).toLoadRect, arg13.view.readCov (kernelRun0_A.sl.HS1_384 c arg1 harg1 arg2 harg2 arg3 harg3 arg4 harg4 arg12 arg14 x0 x1 x2 x3) (plane 0).toLoadRect, arg13.view.readCov (kernelRun0_A.sl.HS1_512 c arg1 harg1 arg2 harg2 arg3 harg3 arg4 harg4 arg12 arg14 x0 x1 x2 x3) (plane 1).toLoadRect]
        (ldC arg5 harg5 x4) (ldW arg6 harg6 x5) (ldS arg7 harg7 x6) (ldW arg8 harg8 x7) (ldS arg9 harg9 x8) (ldW arg10 harg10 x9)⟩] := by
  sl_kernel_rfl
end

end Cert.ScanBlock

end
-- ==== Proof.ScanRunB.lean ====
/-
  The scan kernel's run, stated by recursion: the input products, the steps of the recurrence, the stores of the states
  into the scratch, and the block of outputs computed from them.
-/
module

public import proofs.«01_k».proof.Proof.ScanRun

@[expose] public section

set_option maxRecDepth 100000

noncomputable section

open Idealize.ShloMosaic Idealize.ShloMosaic.TcCoe Idealize.SL.Sem

namespace Cert.ScanBlock

open Cert.ScanIdeal Cert.ScanIdeal.Gen

section
variable {F : FTy → Type} [FloatOps F]

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S4x256x2048 .bf16) (harg3 : arg3.IsWhole) (arg4 : Memref sig .tc .vmem S4x8x2048 .f32) (harg4 : arg4.IsWhole)
  (arg5 : Memref sig .tc .vmem S4x2048x256 .bf16) (harg5 : arg5.IsWhole) (arg6 : Memref sig .tc .vmem S1x1024 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S2x512x2048 .f32) (harg12 : arg12.IsWhole)
  (arg13 : Memref sig .tc .vmem S2x512x2048 .bf16) (harg13 : arg13.IsWhole) (arg14 : Memref sig .tc .vmem S4x16x2048 .f32) (harg14 : arg14.IsWhole)
  (x0 : Vec F S512x1024 .f32) (x1 : Vec F S1x1024 .f32) (x2 : Vec F S4x256x2048 .bf16) (x3 : Vec F S4x8x2048 .f32) (x4 : Vec F S4x2048x256 .bf16)
  (x5 : Vec F S1x1024 .f32) (x6 : Vec F S1024x1024 .bf16) (x7 : Vec F S1x1024 .f32) (x8 : Vec F S1024x1024 .bf16) (x9 : Vec F S1x1024 .f32) (xs2 : Vec F S4x16x2048 .f32)

theorem hs0_2_B : kernelRun0_B.sl.HS0_2 c arg1 harg1 arg2 harg2 arg3 harg3 x0 x1 x2 = buList (buIn arg1 harg1 arg2 harg2 arg3 harg3 x0 x1 x2) 2 := by
  sl_kernel_rfl

theorem hs0_3_B : kernelRun0_B.sl.HS0_3 c arg1 harg1 arg2 harg2 arg3 harg3 x0 x1 x2 = buList (buIn arg1 harg1 arg2 harg2 arg3 harg3 x0 x1 x2) 3 := by
  sl_kernel_rfl

theorem hs0_4_B : kernelRun0_B.sl.HS0_4 c arg1 harg1 arg2 harg2 arg3 harg3 x0 x1 x2 = buList (buIn arg1 harg1 arg2 harg2 arg3 harg3 x0 x1 x2) 4 := by
  sl_kernel_rfl

theorem hs1_128_B : kernelRun0_B.sl.HS1_128 c arg1 harg1 arg2 harg2 arg3 harg3 arg4 harg4 arg12 arg14 harg14 x0 x1 x2 x3 xs2 = xsPush (lam arg4 harg4 x3) (startB arg14 harg14 xs2) arg12 (buIn arg1 harg1 arg2 harg2 arg3 harg3 x0 x1 x2) 0 [] := by
  sl_kernel_rfl

theorem hs1_256_B : kernelRun0_B.sl.HS1_256 c arg1 harg1 arg2 harg2 arg3 harg3 arg4 harg4 arg12 arg14 harg14 x0 x1 x2 x3 xs2 = xsPush (lam arg4 harg4 x3) (startB arg14 harg14 xs2) arg12 (buIn arg1 harg1 arg2 harg2 arg3 harg3 x0 x1 x2) 1 (kernelRun0_B.sl.HS1_128 c arg1 harg1 arg2 harg2 arg3 harg3 arg4 harg4 arg12 arg14 harg14 x0 x1 x2 x3 xs2) := by
  sl_kernel_rfl

theorem hs1_384_B : kernelRun0_B.sl.HS1_384 c arg1 harg1 arg2 harg2 arg3 harg3 arg4 harg4 arg12 arg14 harg14 x0 x1 x2 x3 xs2 = xsPush (lam arg4 harg4 x3) (startB arg14 harg14 xs2) arg12 (buIn arg1 harg1 arg2 harg2 arg3 harg3 x0 x1 x2) 2 (kernelRun0_B.sl.HS1_256 c arg1 harg1 arg2 harg2 arg3 harg3 arg4 harg4 arg12 arg14 harg14 x0 x1 x2 x3 xs2) := by
  sl_kernel_rfl

theorem hs1_512_B : kernelRun0_B.sl.HS1_512 c arg1 harg1 arg2 harg2 arg3 harg3 arg4 harg4 arg12 arg14 harg14 x0 x1 x2 x3 xs2 = xsPush (lam arg4 harg4 x3) (startB arg14 harg14 xs2) arg12 (buIn arg1 harg1 arg2 harg2 arg3 harg3 x0 x1 x2) 3 (kernelRun0_B.sl.HS1_384 c arg1 harg1 arg2 harg2 arg3 harg3 arg4 harg4 arg12 arg14 harg14 x0 x1 x2 x3 xs2) := by
  sl_kernel_rfl

theorem left_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs2).2.1 = stList (fun j => slab (lam arg4 harg4 x3) (startB arg14 harg14 xs2) arg12 (buIn arg1 harg1 arg2 harg2 arg3 harg3 x0 x1 x2) (j / 2) (par j) 32) [] 8 := by
  sl_kernel_rfl

theorem stored_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs2).1
    = [⟨Rect.unit (s := S512x1024) ![0, 0] S512x1024.size rows_inb, outOf (ldX arg1 harg1 x0) (ldW arg2 harg2 x1)
        ![arg13.view.readCov (kernelRun0_B.sl.HS1_128 c arg1 harg1 arg2 harg2 arg3 harg3 arg4 harg4 arg12 arg14 harg14 x0 x1 x2 x3 xs2) (plane 0).toLoadRect, arg13.view.readCov (kernelRun0_B.sl.HS1_256 c arg1 harg1 arg2 harg2 arg3 harg3 arg4 harg4 arg12 arg14 harg14 x0 x1 x2 x3 xs2) (plane 1).toLoadRect, arg13.view.readCov (kernelRun0_B.sl.HS1_384 c arg1 harg1 arg2 harg2 arg3 harg3 arg4 harg4 arg12 arg14 harg14 x0 x1 x2 x3 xs2) (plane 0).toLoadRect, arg13.view.readCov (kernelRun0_B.sl.HS1_512 c arg1 harg1 arg2 harg2 arg3 harg3 arg4 harg4 arg12 arg14 harg14 x0 x1 x2 x3 xs2) (plane 1).toLoadRect]
        (ldC arg5 harg5 x4) (ldW arg6 harg6 x5) (ldS arg7 harg7 x6) (ldW arg8 harg8 x7) (ldS arg9 harg9 x8) (ldW arg10 harg10 x9)⟩] := by
  sl_kernel_rfl
end

end Cert.ScanBlock

end
-- ==== Proof.ScanPoint.lean ====
/-
  What one grid point of the scan kernel leaves, over the extended reals: its block of outputs row by row and the state
  it carries to the next point, from its input blocks and the state carried into it.
-/
module

public import proofs.«01_k».proof.Proof.ScanStores
public import proofs.«01_k».proof.Proof.ScanArith
public import proofs.«01_k».proof.Proof.ScanRunA
public import proofs.«01_k».proof.Proof.ScanRunB

@[expose] public section

set_option maxRecDepth 16384

noncomputable section

open Idealize.ShloMosaic Idealize.ShloMosaic.TcCoe Idealize.SL.Sem
open scoped BigOperators

namespace Cert.ScanBlock

open Cert.ScanIdeal Cert.ScanIdeal.Gen

section loads
theorem ldX_eq (g : Memref sig .tc .vmem S512x1024 .f32) (h : g.IsWhole) (x : Vec Ideal S512x1024 .f32) : ldX g h x = x := by
  funext y
  unfold ldX
  rw [Memref.IsWhole.readAt_unread]
  congr 1
  idx_ext
theorem ldW_eq (g : Memref sig .tc .vmem S1x1024 .f32) (h : g.IsWhole) (x : Vec Ideal S1x1024 .f32) : ldW g h x = x := by
  funext y
  unfold ldW
  rw [Memref.IsWhole.readAt_unread]
  congr 1
  idx_ext
theorem ldS_eq (g : Memref sig .tc .vmem S1024x1024 .bf16) (h : g.IsWhole) (x : Vec Ideal S1024x1024 .bf16) : ldS g h x = x := by
  funext y
  unfold ldS
  rw [Memref.IsWhole.readAt_unread]
  congr 1
  idx_ext
theorem ldB_apply (g : Memref sig .tc .vmem S4x256x2048 .bf16) (h : g.IsWhole) (x : Vec Ideal S4x256x2048 .bf16) (k : Fin 4) (c : Fin 256) (n : Fin 2048) :
    ldB g h x k (ix3 0 c n) = x (ix3 k c n) := by
  unfold ldB
  rw [Memref.IsWhole.readAt_unread]
  congr 1
  idx_ext
theorem ldC_apply (g : Memref sig .tc .vmem S4x2048x256 .bf16) (h : g.IsWhole) (x : Vec Ideal S4x2048x256 .bf16) (k : Fin 4) (n : Fin 2048) (c : Fin 256) :
    ldC g h x k (ix3 0 n c) = x (ix3 k n c) := by
  unfold ldC
  rw [Memref.IsWhole.readAt_unread]
  congr 1
  idx_ext
theorem lamRow_apply (v : Vec Ideal S1x1x512 .f32) (b : Fin 16) (l : Fin 512) : lamRow v (ix2 b l) = v (ix3 0 0 l) := by
  pointwise [lamRow]
theorem flat_apply (v : Vec Ideal S1x16x512 .f32) (b : Fin 16) (l : Fin 512) : shapeCast S16x512 v shapeCasts_S1x16x512_S16x512 (ix2 b l) = v (ix3 0 b l) := by
  pointwise []
theorem lam_apply (g : Memref sig .tc .vmem S4x8x2048 .f32) (h : g.IsWhole) (x : Vec Ideal S4x8x2048 .f32) (k o : Fin 4) (b : Fin 16) (l : Fin 512) :
    lam g h x k o (ix2 b l) = x (ix3 k 0 (lane o l)) := by
  unfold lam
  rw [lamRow_apply, Memref.IsWhole.readAt_unread]
  congr 1
  idx_ext
theorem startB_apply (g : Memref sig .tc .vmem S4x16x2048 .f32) (h : g.IsWhole) (x : Vec Ideal S4x16x2048 .f32) (k o : Fin 4) (b : Fin 16) (l : Fin 512) :
    startB g h x k o (ix2 b l) = x (ix3 k b (lane o l)) := by
  unfold startB
  rw [flat_apply, Memref.IsWhole.readAt_unread]
  congr 1
  idx_ext

/-- A slab of stored states read back. -/
theorem plane_read (g : Memref sig .tc .vmem S2x512x2048 .bf16) (L : List (View.Piece (Elt Ideal) S2x512x2048 .bf16)) (p : Fin 2) (r : Fin 512) (n : Fin 2048) :
    g.view.readCov L (plane p).toLoadRect (ix3 0 r n) = View.canon L (ix3 p r n) := by
  rw [View.readCov_eq_canon']
  refine congrArg (View.canon L) ?_
  idx_ext
end loads

section abstract
variable (Lam st : Fin 4 → Fin 4 → FVec Ideal S16x512 .f32) (arg12 : Memref sig .tc .vmem S2x512x2048 .f32) (B : Fin 4 → Vec Ideal S1x512x2048 .f32)
  (Lm : Fin 4 → Fin 2048 → EReal) (S : Fin 4 → Fin 16 → Fin 2048 → EReal) (BU : Fin 4 → Fin 512 → Fin 2048 → EReal)
  (hL : ∀ k o b l, Lam k o (ix2 b l) = Lm k (lane o l)) (hS : ∀ k o b l, st k o (ix2 b l) = S k b (lane o l))
  (hB : ∀ k r n, B k (ix3 0 r n) = BU k r n)
include hL hS hB

/-- The state a block leaves: every state after the block's 32 steps. -/
theorem carried_apply (M : ℕ → List (View.Piece (Elt Ideal) S4x16x2048 .f32))
    (hM : ∀ j < 8, M (j + 1) = stPush (slab Lam st arg12 B (j / 2) (par j) 32) (grp (j / 2)) (par j) (M j)) (k : Fin 4) (b : Fin 16) (n : Fin 1024) :
    View.canon (M 8) (ix3 k b ⟨n, by omega⟩) = (blk Lm S BU k b n 32).1 ∧ View.canon (M 8) (ix3 k b ⟨1024 + n, by omega⟩) = (blk Lm S BU k b n 32).2 := by
  have main : ∀ (h : Fin 2) (l : Fin 512) (e : n.val = 512 * h.val + l.val),
      View.canon (M 8) (ix3 k b ⟨n, by omega⟩) = (blk Lm S BU k b n 32).1 ∧ View.canon (M 8) (ix3 k b ⟨1024 + n, by omega⟩) = (blk Lm S BU k b n 32).2 := fun h l e => by
    have hh := h.isLt
    have H := list_hit (fun j => slab Lam st arg12 B (j / 2) (par j) 32) M hM 8 le_rfl k h b l (by omega)
    have e1 : (2 * k.val + h.val) / 2 = k.val := by omega
    have e2 : par (2 * k.val + h.val) = h := Fin.ext (by show (2 * k.val + h.val) % 2 = h.val; omega)
    have e3 : (⟨n, by omega⟩ : Fin 2048) = lane (re h) l := Fin.ext e
    have e4 : (⟨1024 + n, by omega⟩ : Fin 2048) = lane (im h) l := Fin.ext (by show 1024 + n.val = 512 * (h.val + 2) + l.val; omega)
    have e5 : (⟨512 * h + l, by omega⟩ : Fin 1024) = n := Fin.ext e.symm
    have Q := slab_apply Lam st arg12 B Lm S BU hL hS hB k h 32 b l
    simp only [e1, e2] at H
    rw [e5] at Q
    rw [e3, e4, H.1, H.2]
    exact ⟨congrArg Prod.fst Q, congrArg Prod.snd Q⟩
  rcases Nat.lt_or_ge n.val 512 with hn | hn
  · exact main 0 ⟨n, hn⟩ (by show n.val = 512 * 0 + n.val; omega)
  · exact main 1 ⟨n - 512, by omega⟩ (by show n.val = 512 * 1 + (n.val - 512); omega)

/-- The block of outputs, row by row, when the slabs read hold the groups' stored states. -/
theorem block_apply (H P : Fin 4 → List (View.Piece (Elt Ideal) S2x512x2048 .bf16)) (hH : ∀ k : Fin 4, H k = xsPush Lam st arg12 B k (P k))
    (D : Fin 4 → Vec Ideal S1x512x2048 .bf16) (hD : ∀ (k : Fin 4) (r : Fin 512) (n : Fin 2048), D k (ix3 0 r n) = View.canon (H k) (ix3 (par k) r n))
    (x : Vec Ideal S512x1024 .f32) (w : Vec Ideal S1x1024 .f32) (C : Fin 4 → Vec Ideal S1x2048x256 .bf16) (d : Vec Ideal S1x1024 .f32)
    (wa : Vec Ideal S1024x1024 .bf16) (ba : Vec Ideal S1x1024 .f32) (wb : Vec Ideal S1024x1024 .bf16) (bb : Vec Ideal S1x1024 .f32) (r : Fin 512) (c : Fin 1024) :
    outOf x w D C d wa ba wb bb (ix2 r c)
      = ScanRow.out (fun k => x (ix2 r k))
          (ScanRow.unit (rowU x w r) (fun k n => blk Lm S BU k ⟨r % 16, by omega⟩ n (r / 16 + 1)) (fun k n c => C k (ix3 0 ⟨n, by omega⟩ c)) (fun k n c => C k (ix3 0 ⟨1024 + n, by omega⟩ c)) (fun j => d (ix2 0 j)))
          (fun j c => wa (ix2 j c)) (fun c => ba (ix2 0 c)) (fun j c => wb (ix2 j c)) (fun c => bb (ix2 0 c)) c := by
  refine outOf_apply x w D C d wa ba wb bb (fun r k n => blk Lm S BU k ⟨r % 16, by omega⟩ n (r / 16 + 1)) ?_ ?_ r c
  · intro k r n
    rw [hD, hH]
    exact xs_re Lam st arg12 B Lm S BU hL hS hB k (P k) r n
  · intro k r n
    rw [hD, hH]
    exact xs_im Lam st arg12 B Lm S BU hL hS hB k (P k) r n

/-- … when the four groups' states are stored one after the other into the two slabs, and each read back before its slab is used again. -/
theorem block_apply4 (arg13 : Memref sig .tc .vmem S2x512x2048 .bf16) (H0 H1 H2 H3 : List (View.Piece (Elt Ideal) S2x512x2048 .bf16))
    (h0 : H0 = xsPush Lam st arg12 B 0 []) (h1 : H1 = xsPush Lam st arg12 B 1 H0) (h2 : H2 = xsPush Lam st arg12 B 2 H1) (h3 : H3 = xsPush Lam st arg12 B 3 H2)
    (x : Vec Ideal S512x1024 .f32) (w : Vec Ideal S1x1024 .f32) (C : Fin 4 → Vec Ideal S1x2048x256 .bf16) (d : Vec Ideal S1x1024 .f32)
    (wa : Vec Ideal S1024x1024 .bf16) (ba : Vec Ideal S1x1024 .f32) (wb : Vec Ideal S1024x1024 .bf16) (bb : Vec Ideal S1x1024 .f32) (r : Fin 512) (c : Fin 1024) :
    outOf x w ![arg13.view.readCov H0 (plane 0).toLoadRect, arg13.view.readCov H1 (plane 1).toLoadRect, arg13.view.readCov H2 (plane 0).toLoadRect, arg13.view.readCov H3 (plane 1).toLoadRect]
        C d wa ba wb bb (ix2 r c)
      = ScanRow.out (fun k => x (ix2 r k))
          (ScanRow.unit (rowU x w r) (fun k n => blk Lm S BU k ⟨r % 16, by omega⟩ n (r / 16 + 1)) (fun k n c => C k (ix3 0 ⟨n, by omega⟩ c)) (fun k n c => C k (ix3 0 ⟨1024 + n, by omega⟩ c)) (fun j => d (ix2 0 j)))
          (fun j c => wa (ix2 j c)) (fun c => ba (ix2 0 c)) (fun j c => wb (ix2 j c)) (fun c => bb (ix2 0 c)) c := by
  refine block_apply Lam st arg12 B Lm S BU hL hS hB ![H0, H1, H2, H3] ![[], H0, H1, H2] (fun k => ?_) _ (fun k r n => ?_) x w C d wa ba wb bb r c
  · match k with
    | ⟨0, _⟩ => exact h0
    | ⟨1, _⟩ => exact h1
    | ⟨2, _⟩ => exact h2
    | ⟨3, _⟩ => exact h3
  · match k with
    | ⟨0, _⟩ => exact plane_read arg13 H0 0 r n
    | ⟨1, _⟩ => exact plane_read arg13 H1 1 r n
    | ⟨2, _⟩ =>
      have e : par 2 = 0 := rfl
      show arg13.view.readCov H2 (plane 0).toLoadRect (ix3 0 r n) = View.canon H2 (ix3 (par 2) r n)
      rw [e]
      exact plane_read arg13 H2 0 r n
    | ⟨3, _⟩ =>
      have e : par 3 = 1 := rfl
      show arg13.view.readCov H3 (plane 1).toLoadRect (ix3 0 r n) = View.canon H3 (ix3 (par 3) r n)
      rw [e]
      exact plane_read arg13 H3 1 r n
end abstract

section
variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S4x256x2048 .bf16) (harg3 : arg3.IsWhole) (arg4 : Memref sig .tc .vmem S4x8x2048 .f32) (harg4 : arg4.IsWhole)
  (arg5 : Memref sig .tc .vmem S4x2048x256 .bf16) (harg5 : arg5.IsWhole) (arg6 : Memref sig .tc .vmem S1x1024 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S2x512x2048 .f32) (harg12 : arg12.IsWhole)
  (arg13 : Memref sig .tc .vmem S2x512x2048 .bf16) (harg13 : arg13.IsWhole) (arg14 : Memref sig .tc .vmem S4x16x2048 .f32) (harg14 : arg14.IsWhole)
  (x0 : Vec Ideal S512x1024 .f32) (x1 : Vec Ideal S1x1024 .f32) (x2 : Vec Ideal S4x256x2048 .bf16) (x3 : Vec Ideal S4x8x2048 .f32) (x4 : Vec Ideal S4x2048x256 .bf16)
  (x5 : Vec Ideal S1x1024 .f32) (x6 : Vec Ideal S1024x1024 .bf16) (x7 : Vec Ideal S1x1024 .f32) (x8 : Vec Ideal S1024x1024 .bf16) (x9 : Vec Ideal S1x1024 .f32) (xs2 : Vec Ideal S4x16x2048 .f32)

/-- A block's states, from its input blocks and the state `S` carried into it. -/
def stateOf (S : Fin 4 → Fin 16 → Fin 2048 → EReal) (k : Fin 4) (b : Fin 16) (n : Fin 1024) (s : ℕ) : EReal × EReal :=
  blk (fun k n => x3 (ix3 k 0 n)) S (fun k r n => ScanRow.inProd (rowU x0 x1 r) (fun c => x2 (ix3 k c n)) k) k b n s

/-- A block's outputs, from its input blocks and the state `S` carried into it. -/
def blockOut (S : Fin 4 → Fin 16 → Fin 2048 → EReal) (r : Fin 512) (c : Fin 1024) : EReal :=
  ScanRow.out (fun k => x0 (ix2 r k))
    (ScanRow.unit (rowU x0 x1 r) (fun k n => stateOf x0 x1 x2 x3 S k ⟨r % 16, by omega⟩ n (r / 16 + 1))
      (fun k n c => x4 (ix3 k ⟨n, by omega⟩ c)) (fun k n c => x4 (ix3 k ⟨1024 + n, by omega⟩ c)) (fun j => x5 (ix2 0 j)))
    (fun j c => x6 (ix2 j c)) (fun c => x7 (ix2 0 c)) (fun j c => x8 (ix2 j c)) (fun c => x9 (ix2 0 c)) c

theorem buIn_apply (k : Fin 4) (r : Fin 512) (n : Fin 2048) :
    buIn arg1 harg1 arg2 harg2 arg3 harg3 x0 x1 x2 k (ix3 0 r n) = ScanRow.inProd (rowU x0 x1 r) (fun c => x2 (ix3 k c n)) k := by
  unfold buIn
  rw [buOf_apply, ldX_eq, ldW_eq]
  simp only [ldB_apply]

theorem out_B (hc0 : ¬cond0_0 i) (r : Fin 512) (j : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs2 (ix2 r j)
      = blockOut x0 x1 x2 x3 x4 x5 x6 x7 x8 x9 (fun k b n => xs2 (ix3 k b n)) r j := by
  unfold out0_B_10
  rw [View.read_writes_junk_eq_canon, stored_B, View.canon_cons_unit_lit _ _ _ (by decide), ldX_eq, ldW_eq, ldW_eq, ldS_eq, ldW_eq, ldS_eq, ldW_eq]
  refine (block_apply4 (lam arg4 harg4 x3) (startB arg14 harg14 xs2) arg12 (buIn arg1 harg1 arg2 harg2 arg3 harg3 x0 x1 x2)
    (fun k n => x3 (ix3 k 0 n)) (fun k b n => xs2 (ix3 k b n)) (fun k r n => ScanRow.inProd (rowU x0 x1 r) (fun c => x2 (ix3 k c n)) k)
    (fun k o b l => lam_apply arg4 harg4 x3 k o b l) (fun k o b l => startB_apply arg14 harg14 xs2 k o b l) (fun k r n => buIn_apply arg1 harg1 arg2 harg2 arg3 harg3 x0 x1 x2 k r n)
    arg13 _ _ _ _ (hs1_128_B c arg1 harg1 arg2 harg2 arg3 harg3 arg4 harg4 arg12 arg14 harg14 x0 x1 x2 x3 xs2)
    (hs1_256_B c arg1 harg1 arg2 harg2 arg3 harg3 arg4 harg4 arg12 arg14 harg14 x0 x1 x2 x3 xs2)
    (hs1_384_B c arg1 harg1 arg2 harg2 arg3 harg3 arg4 harg4 arg12 arg14 harg14 x0 x1 x2 x3 xs2)
    (hs1_512_B c arg1 harg1 arg2 harg2 arg3 harg3 arg4 harg4 arg12 arg14 harg14 x0 x1 x2 x3 xs2)
    x0 x1 (ldC arg5 harg5 x4) x5 x6 x7 x8 x9 r j).trans ?_
  simp only [ldC_apply]
  rfl

theorem sout_B (hc0 : ¬cond0_0 i) (k : Fin 4) (b : Fin 16) (n : Fin 1024) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs2 (ix3 k b ⟨n, by omega⟩)
        = (stateOf x0 x1 x2 x3 (fun k b n => xs2 (ix3 k b n)) k b n 32).1
      ∧ sout0_B_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs2 (ix3 k b ⟨1024 + n, by omega⟩)
        = (stateOf x0 x1 x2 x3 (fun k b n => xs2 (ix3 k b n)) k b n 32).2 := by
  unfold sout0_B_2
  rw [View.read_writes_junk_eq_canon, left_B]
  exact carried_apply (lam arg4 harg4 x3) (startB arg14 harg14 xs2) arg12 (buIn arg1 harg1 arg2 harg2 arg3 harg3 x0 x1 x2)
    (fun k n => x3 (ix3 k 0 n)) (fun k b n => xs2 (ix3 k b n)) (fun k r n => ScanRow.inProd (rowU x0 x1 r) (fun c => x2 (ix3 k c n)) k)
    (fun k o b l => lam_apply arg4 harg4 x3 k o b l) (fun k o b l => startB_apply arg14 harg14 xs2 k o b l) (fun k r n => buIn_apply arg1 harg1 arg2 harg2 arg3 harg3 x0 x1 x2 k r n)
    (stList (fun j => slab (lam arg4 harg4 x3) (startB arg14 harg14 xs2) arg12 (buIn arg1 harg1 arg2 harg2 arg3 harg3 x0 x1 x2) (j / 2) (par j) 32) [])
    (fun j _ => rfl) k b n

/-- The first block's half groups start from zero. -/
theorem startA_apply (M : ℕ → List (View.Piece (Elt Ideal) S4x16x2048 .f32))
    (hM : ∀ j < 8, M (j + 1) = stPush (slab (lam arg4 harg4 x3) (startA c arg1 harg1 arg2 harg2 arg3 harg3 arg4 harg4 arg12 arg14 x0 x1 x2 x3) arg12 (buIn arg1 harg1 arg2 harg2 arg3 harg3 x0 x1 x2) (j / 2) (par j) 32) (grp (j / 2)) (par j) (M j))
    (hs : ∀ j < 8, M j = stA c arg1 harg1 arg2 harg2 arg3 harg3 arg4 harg4 arg12 arg14 x0 x1 x2 x3 j) (k o : Fin 4) (b : Fin 16) (l : Fin 512) :
    startA c arg1 harg1 arg2 harg2 arg3 harg3 arg4 harg4 arg12 arg14 x0 x1 x2 x3 k o (ix2 b l) = 0 := by
  have hk : 2 * k.val + o.val % 2 < 8 := by omega
  have h0 : M 0 = [⟨Rect.unit (s := S4x16x2048) ![0, 0, 0] S4x16x2048.size whole_inb, (k0_pay2 : FVec Ideal S4x16x2048 .f32)⟩] := hs 0 (by decide)
  unfold startA
  rw [flat_apply, View.readCov_eq_canon', ← hs _ hk]
  have e : (stRect k o).toLoadRect.idx (ix3 0 b l) = ix3 k b (lane o l) := by idx_ext
  refine (congrArg (View.canon (M (2 * k.val + o.val % 2))) e).trans ?_
  rw [list_skip _ M hM _ hk.le k o b l le_rfl, h0, View.canon_cons_unit_lit _ _ _ (by decide)]
  pointwise [k0_pay2]

/-- The first block's stores into the carried state. -/
def stAll (j : ℕ) : List (View.Piece (Elt Ideal) S4x16x2048 .f32) :=
  if j = 8 then stPush (slab (lam arg4 harg4 x3) (startA c arg1 harg1 arg2 harg2 arg3 harg3 arg4 harg4 arg12 arg14 x0 x1 x2 x3) arg12 (buIn arg1 harg1 arg2 harg2 arg3 harg3 x0 x1 x2) 3 1 32) 3 1 (stA c arg1 harg1 arg2 harg2 arg3 harg3 arg4 harg4 arg12 arg14 x0 x1 x2 x3 7)
  else stA c arg1 harg1 arg2 harg2 arg3 harg3 arg4 harg4 arg12 arg14 x0 x1 x2 x3 j

theorem stAll_lt (j : ℕ) (hj : j < 8) : stAll c arg1 harg1 arg2 harg2 arg3 harg3 arg4 harg4 arg12 arg14 x0 x1 x2 x3 j = stA c arg1 harg1 arg2 harg2 arg3 harg3 arg4 harg4 arg12 arg14 x0 x1 x2 x3 j := by
  unfold stAll
  rw [if_neg (by omega)]

theorem stAll_succ (j : ℕ) (hj : j < 8) : stAll c arg1 harg1 arg2 harg2 arg3 harg3 arg4 harg4 arg12 arg14 x0 x1 x2 x3 (j + 1)
    = stPush (slab (lam arg4 harg4 x3) (startA c arg1 harg1 arg2 harg2 arg3 harg3 arg4 harg4 arg12 arg14 x0 x1 x2 x3) arg12 (buIn arg1 harg1 arg2 harg2 arg3 harg3 x0 x1 x2) (j / 2) (par j) 32) (grp (j / 2)) (par j) (stAll c arg1 harg1 arg2 harg2 arg3 harg3 arg4 harg4 arg12 arg14 x0 x1 x2 x3 j) := by
  rw [stAll_lt _ _ _ _ _ _ _ _ _ _ _ _ _ _ _ j hj]
  rcases Nat.lt_or_ge j 7 with h | h
  · rw [stAll_lt _ _ _ _ _ _ _ _ _ _ _ _ _ _ _ (j + 1) (by omega)]
    match j, h with
    | 0, _ => exact stA_1 c arg1 harg1 arg2 harg2 arg3 harg3 arg4 harg4 arg12 arg14 x0 x1 x2 x3
    | 1, _ => exact stA_2 c arg1 harg1 arg2 harg2 arg3 harg3 arg4 harg4 arg12 arg14 x0 x1 x2 x3
    | 2, _ => exact stA_3 c arg1 harg1 arg2 harg2 arg3 harg3 arg4 harg4 arg12 arg14 x0 x1 x2 x3
    | 3, _ => exact stA_4 c arg1 harg1 arg2 harg2 arg3 harg3 arg4 harg4 arg12 arg14 x0 x1 x2 x3
    | 4, _ => exact stA_5 c arg1 harg1 arg2 harg2 arg3 harg3 arg4 harg4 arg12 arg14 x0 x1 x2 x3
    | 5, _ => exact stA_6 c arg1 harg1 arg2 harg2 arg3 harg3 arg4 harg4 arg12 arg14 x0 x1 x2 x3
    | 6, _ => exact stA_7 c arg1 harg1 arg2 harg2 arg3 harg3 arg4 harg4 arg12 arg14 x0 x1 x2 x3
  · obtain rfl : j = 7 := by omega
    rfl

theorem out_A (hc0 : cond0_0 i) (r : Fin 512) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r j)
      = blockOut x0 x1 x2 x3 x4 x5 x6 x7 x8 x9 (fun _ _ _ => 0) r j := by
  unfold out0_A_10
  rw [View.read_writes_junk_eq_canon, stored_A, View.canon_cons_unit_lit _ _ _ (by decide), ldX_eq, ldW_eq, ldW_eq, ldS_eq, ldW_eq, ldS_eq, ldW_eq]
  refine (block_apply4 (lam arg4 harg4 x3) (startA c arg1 harg1 arg2 harg2 arg3 harg3 arg4 harg4 arg12 arg14 x0 x1 x2 x3) arg12 (buIn arg1 harg1 arg2 harg2 arg3 harg3 x0 x1 x2)
    (fun k n => x3 (ix3 k 0 n)) (fun _ _ _ => 0) (fun k r n => ScanRow.inProd (rowU x0 x1 r) (fun c => x2 (ix3 k c n)) k)
    (fun k o b l => lam_apply arg4 harg4 x3 k o b l)
    (fun k o b l => startA_apply c arg1 harg1 arg2 harg2 arg3 harg3 arg4 harg4 arg12 arg14 x0 x1 x2 x3 _ (stAll_succ c arg1 harg1 arg2 harg2 arg3 harg3 arg4 harg4 arg12 arg14 x0 x1 x2 x3) (stAll_lt c arg1 harg1 arg2 harg2 arg3 harg3 arg4 harg4 arg12 arg14 x0 x1 x2 x3) k o b l)
    (fun k r n => buIn_apply arg1 harg1 arg2 harg2 arg3 harg3 x0 x1 x2 k r n)
    arg13 _ _ _ _ (hs1_128_A c arg1 harg1 arg2 harg2 arg3 harg3 arg4 harg4 arg12 arg14 x0 x1 x2 x3)
    (hs1_256_A c arg1 harg1 arg2 harg2 arg3 harg3 arg4 harg4 arg12 arg14 x0 x1 x2 x3)
    (hs1_384_A c arg1 harg1 arg2 harg2 arg3 harg3 arg4 harg4 arg12 arg14 x0 x1 x2 x3)
    (hs1_512_A c arg1 harg1 arg2 harg2 arg3 harg3 arg4 harg4 arg12 arg14 x0 x1 x2 x3)
    x0 x1 (ldC arg5 harg5 x4) x5 x6 x7 x8 x9 r j).trans ?_
  simp only [ldC_apply]
  rfl

theorem sout_A (hc0 : cond0_0 i) (k : Fin 4) (b : Fin 16) (n : Fin 1024) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 k b ⟨n, by omega⟩)
        = (stateOf x0 x1 x2 x3 (fun _ _ _ => 0) k b n 32).1
      ∧ sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 k b ⟨1024 + n, by omega⟩)
        = (stateOf x0 x1 x2 x3 (fun _ _ _ => 0) k b n 32).2 := by
  unfold sout0_A_2
  rw [View.read_writes_junk_eq_canon, left_A]
  exact carried_apply (lam arg4 harg4 x3) (startA c arg1 harg1 arg2 harg2 arg3 harg3 arg4 harg4 arg12 arg14 x0 x1 x2 x3) arg12 (buIn arg1 harg1 arg2 harg2 arg3 harg3 x0 x1 x2)
    (fun k n => x3 (ix3 k 0 n)) (fun _ _ _ => 0) (fun k r n => ScanRow.inProd (rowU x0 x1 r) (fun c => x2 (ix3 k c n)) k)
    (fun k o b l => lam_apply arg4 harg4 x3 k o b l)
    (fun k o b l => startA_apply c arg1 harg1 arg2 harg2 arg3 harg3 arg4 harg4 arg12 arg14 x0 x1 x2 x3 _ (stAll_succ c arg1 harg1 arg2 harg2 arg3 harg3 arg4 harg4 arg12 arg14 x0 x1 x2 x3) (stAll_lt c arg1 harg1 arg2 harg2 arg3 harg3 arg4 harg4 arg12 arg14 x0 x1 x2 x3) k o b l)
    (fun k r n => buIn_apply arg1 harg1 arg2 harg2 arg3 harg3 x0 x1 x2 k r n)
    (stAll c arg1 harg1 arg2 harg2 arg3 harg3 arg4 harg4 arg12 arg14 x0 x1 x2 x3) (stAll_succ c arg1 harg1 arg2 harg2 arg3 harg3 arg4 harg4 arg12 arg14 x0 x1 x2 x3) k b n
end

end Cert.ScanBlock

end
-- ==== Proof.ScanWhole.lean ====
/-
  The state-space call over whole sequences: the states after any number of steps from rest, and one position's output.
-/
module

public import proofs.«01_k».proof.Proof.ScanRow

@[expose] public section

noncomputable section

open Idealize.ShloMosaic
open scoped BigOperators

namespace Cert.ScanRow

variable (X : Fin 16 → Fin 2048 → Fin 1024 → EReal) (w : Fin 1024 → EReal) (B : Fin 4 → Fin 256 → Fin 2048 → EReal) (L : Fin 4 → Fin 2048 → EReal)

/-- What drives part `n` of group `k`'s states of sequence `b` at step `m`. -/
def drive (k : Fin 4) (b : Fin 16) (n : Fin 2048) (m : ℕ) : EReal :=
  inProd (FfnRow.normed (X b ⟨m % 2048, by omega⟩) w) (fun c => B k c n) k

/-- Sequence `b`'s state `n` of group `k` after `s` steps from rest. -/
def state (k : Fin 4) (b : Fin 16) (n : Fin 1024) (s : ℕ) : EReal × EReal :=
  chain (L k ⟨n, by omega⟩) (L k ⟨1024 + n, by omega⟩) (0, 0) (drive X w B k b ⟨n, by omega⟩) (drive X w B k b ⟨1024 + n, by omega⟩) s

variable (C : Fin 4 → Fin 2048 → Fin 256 → EReal) (d : Fin 1024 → EReal) (Wa : Fin 1024 → Fin 1024 → EReal) (ba : Fin 1024 → EReal)
  (Wb : Fin 1024 → Fin 1024 → EReal) (bb : Fin 1024 → EReal)

/-- Sequence `b`'s output at position `t`: the row's output, from the states after the position's step. -/
def position (b : Fin 16) (t : Fin 2048) (c : Fin 1024) : EReal :=
  out (X b t) (unit (FfnRow.normed (X b t) w) (fun k n => state X w B L k b n (t + 1))
    (fun k n c => C k ⟨n, by omega⟩ c) (fun k n c => C k ⟨1024 + n, by omega⟩ c) d) Wa ba Wb bb c

end Cert.ScanRow

end
-- ==== Proof.ScanBlock.lean ====
/-
  The scan kernel's blocks as parts of the whole sequences: from block to block the states go on, and the result array
  after the run.
-/
module

public import proofs.«01_k».proof.Proof.ScanPoint
public import proofs.«01_k».proof.Proof.ScanWhole
public import proofs.«01_k».proof.Proof.Gen.ScanIdeal.Value
public import Idealize.ShloMosaic.Lib.Pipeline.ValueKit
public import Idealize.ShloMosaic.Lib.WholeRead
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ScanBlock

open Cert.ScanIdeal Cert.ScanIdeal.Gen

section
variable (x0 : Vec Ideal S512x1024 .f32) (x1 : Vec Ideal S1x1024 .f32) (x2 : Vec Ideal S4x256x2048 .bf16) (x3 : Vec Ideal S4x8x2048 .f32) (x4 : Vec Ideal S4x2048x256 .bf16)
  (x5 : Vec Ideal S1x1024 .f32) (x6 : Vec Ideal S1024x1024 .bf16) (x7 : Vec Ideal S1x1024 .f32) (x8 : Vec Ideal S1024x1024 .bf16) (x9 : Vec Ideal S1x1024 .f32)
  (X : Fin 16 → Fin 2048 → Fin 1024 → EReal) (w : Fin 1024 → EReal) (B : Fin 4 → Fin 256 → Fin 2048 → EReal) (L : Fin 4 → Fin 2048 → EReal)
  (C : Fin 4 → Fin 2048 → Fin 256 → EReal) (d : Fin 1024 → EReal) (Wa : Fin 1024 → Fin 1024 → EReal) (ba : Fin 1024 → EReal)
  (Wb : Fin 1024 → Fin 1024 → EReal) (bb : Fin 1024 → EReal)
  (t : Fin 64) (S : Fin 4 → Fin 16 → Fin 2048 → EReal)

/-- A row of the block is a position of a sequence. -/
abbrev seqOf (r : Fin 512) : Fin 16 := ⟨r % 16, by omega⟩
abbrev timeOf (r : Fin 512) : Fin 2048 := ⟨32 * t + r / 16, by omega⟩

/-- The states in a block are the sequences' states from the block's first step on. -/
theorem stateOf_eq (h0 : ∀ r k, x0 (ix2 r k) = X (seqOf r) (timeOf t r) k) (h1 : ∀ k, x1 (ix2 0 k) = w k) (h2 : ∀ k c n, x2 (ix3 k c n) = B k c n)
    (h3 : ∀ k n, x3 (ix3 k 0 n) = L k n)
    (hr : ∀ k b (n : Fin 1024), S k b ⟨n, by omega⟩ = (ScanRow.state X w B L k b n (32 * t)).1)
    (hi : ∀ k b (n : Fin 1024), S k b ⟨1024 + n, by omega⟩ = (ScanRow.state X w B L k b n (32 * t)).2)
    (k : Fin 4) (b : Fin 16) (n : Fin 1024) (s : ℕ) (hs : s ≤ 32) :
    stateOf x0 x1 x2 x3 S k b n s = ScanRow.state X w B L k b n (32 * t + s) := by
  have hd : ∀ (n : Fin 2048) (m : ℕ), m < s → ScanRow.inProd (rowU x0 x1 ⟨16 * (m % 32) + b, by omega⟩) (fun c => x2 (ix3 k c n)) k = ScanRow.drive X w B k b n (32 * t + m) := by
    intro n m hm
    have e1 : seqOf (⟨16 * (m % 32) + b, by omega⟩ : Fin 512) = b := Fin.ext (show (16 * (m % 32) + b.val) % 16 = b.val by omega)
    have e2 : timeOf t (⟨16 * (m % 32) + b, by omega⟩ : Fin 512) = ⟨(32 * t + m) % 2048, by omega⟩ :=
      Fin.ext (show 32 * t.val + (16 * (m % 32) + b.val) / 16 = (32 * t.val + m) % 2048 by omega)
    unfold rowU ScanRow.drive
    simp only [h0, h1, h2, e1, e2]
  unfold ScanRow.state
  rw [ScanRow.chain_add]
  unfold stateOf blk
  beta_reduce
  rw [h3, h3, hr, hi]
  exact ScanRow.chain_congr s (fun m hm => hd _ m hm) (fun m hm => hd _ m hm)

/-- The block's outputs are its positions' outputs. -/
theorem blockOut_eq (h0 : ∀ r k, x0 (ix2 r k) = X (seqOf r) (timeOf t r) k) (h1 : ∀ k, x1 (ix2 0 k) = w k) (h2 : ∀ k c n, x2 (ix3 k c n) = B k c n)
    (h3 : ∀ k n, x3 (ix3 k 0 n) = L k n) (h4 : ∀ k n c, x4 (ix3 k n c) = C k n c) (h5 : ∀ j, x5 (ix2 0 j) = d j) (h6 : ∀ j c, x6 (ix2 j c) = Wa j c)
    (h7 : ∀ c, x7 (ix2 0 c) = ba c) (h8 : ∀ j c, x8 (ix2 j c) = Wb j c) (h9 : ∀ c, x9 (ix2 0 c) = bb c)
    (hr : ∀ k b (n : Fin 1024), S k b ⟨n, by omega⟩ = (ScanRow.state X w B L k b n (32 * t)).1)
    (hi : ∀ k b (n : Fin 1024), S k b ⟨1024 + n, by omega⟩ = (ScanRow.state X w B L k b n (32 * t)).2)
    (r : Fin 512) (c : Fin 1024) :
    blockOut x0 x1 x2 x3 x4 x5 x6 x7 x8 x9 S r c = ScanRow.position X w B L C d Wa ba Wb bb (seqOf r) (timeOf t r) c := by
  have hst : ∀ (k : Fin 4) (n : Fin 1024), stateOf x0 x1 x2 x3 S k ⟨r % 16, by omega⟩ n (r / 16 + 1) = ScanRow.state X w B L k (seqOf r) n ((timeOf t r : ℕ) + 1) := fun k n =>
    stateOf_eq x0 x1 x2 x3 X w B L t S h0 h1 h2 h3 hr hi k (seqOf r) n (r / 16 + 1) (by omega)
  unfold blockOut ScanRow.position rowU
  simp only [hst, h0, h1, h4, h5, h6, h7, h8, h9]
end

/-- The windows' index maps. -/
theorem idx : ∀ t : Fin cfg0.N, win0_0.index t = ![t.val, 0] ∧ win0_1.index t = ![0, 0] ∧ win0_2.index t = ![0, 0, 0] ∧ win0_3.index t = ![0, 0, 0]
    ∧ win0_4.index t = ![0, 0, 0] ∧ win0_5.index t = ![0, 0] ∧ win0_6.index t = ![0, 0] ∧ win0_7.index t = ![0, 0] ∧ win0_8.index t = ![0, 0]
    ∧ win0_9.index t = ![0, 0] ∧ win0_10.index t = ![t.val, 0] :=
  (by decide +kernel : ∀ t : Fin grid0.N, _)

/-- A pair's parts. -/
theorem fst_eq {α β : Type} {p : α × β} {a : α} {b : β} (h : p = (a, b)) : p.1 = a := by rw [h]
theorem snd_eq {α β : Type} {p : α × β} {a : α} {b : β} (h : p = (a, b)) : p.2 = b := by rw [h]

section
variable (m : (ℓ : Loc nD τ sig) → Buf (Elt Ideal) ℓ) (c : Dev nD)

/-- The arrays the kernel is launched on, as functions. -/
def rowsV (b : Fin 16) (t : Fin 2048) (k : Fin 1024) : EReal := (V m c main_v1 : FVec Ideal S32768x1024 .f32) (ix2 ⟨16 * t + b, by omega⟩ k)
def normV (k : Fin 1024) : EReal := (V m c main_v4 : FVec Ideal S1x1024 .f32) (ix2 0 k)
def inV (k : Fin 4) (a : Fin 256) (n : Fin 2048) : EReal := (V m c main_arg2 : FVec Ideal S4x256x2048 .bf16) (ix3 k a n)
def decayV (k : Fin 4) (n : Fin 2048) : EReal := (V m c main_arg3 : FVec Ideal S4x8x2048 .f32) (ix3 k 0 n)
def readV (k : Fin 4) (n : Fin 2048) (a : Fin 256) : EReal := (V m c main_arg4 : FVec Ideal S4x2048x256 .bf16) (ix3 k n a)
def skipV (k : Fin 1024) : EReal := (V m c main_v6 : FVec Ideal S1x1024 .f32) (ix2 0 k)
def waV (j k : Fin 1024) : EReal := (V m c main_v8 : FVec Ideal S1024x1024 .bf16) (ix2 j k)
def baV (k : Fin 1024) : EReal := (V m c main_v10 : FVec Ideal S1x1024 .f32) (ix2 0 k)
def wbV (j k : Fin 1024) : EReal := (V m c main_v12 : FVec Ideal S1024x1024 .bf16) (ix2 j k)
def bbV (k : Fin 1024) : EReal := (V m c main_v14 : FVec Ideal S1x1024 .f32) (ix2 0 k)

/-- The states of the sequences the kernel is launched on. -/
abbrev stateV := ScanRow.state (rowsV m c) (normV m c) (inV m c) (decayV m c)

/-- A point's input blocks, entry by entry. -/
theorem in0 (t : Fin cfg0.N) (r : Fin 512) (k : Fin 1024) : (iblk m c 0 t : Vec Ideal S512x1024 .f32) (ix2 r k) = rowsV m c (seqOf r) (timeOf t r) k := by
  have ht : t.val < 64 := t.isLt
  have e : (win0_0.blk t).view.emb (ix2 r k) = ix2 (⟨16 * (32 * t.val + r / 16) + r % 16, by omega⟩ : Fin 32768) k := by blk_ext [idx t]
  blk_simp [iblk, idx t, rowsV]
  rw [e]
theorem in1 (t : Fin cfg0.N) (k : Fin 1024) : (iblk m c 1 t : Vec Ideal S1x1024 .f32) (ix2 0 k) = normV m c k := by
  have e : (win0_1.blk t).view.emb (ix2 0 k) = ix2 0 k := by blk_ext [idx t]
  blk_simp [iblk, idx t, normV]
  rw [e]
theorem in2 (t : Fin cfg0.N) (k : Fin 4) (a : Fin 256) (n : Fin 2048) : (iblk m c 2 t : Vec Ideal S4x256x2048 .bf16) (ix3 k a n) = inV m c k a n := by
  have e : (win0_2.blk t).view.emb (ix3 k a n) = ix3 k a n := by blk_ext [idx t]
  blk_simp [iblk, idx t, inV]
  rw [e]
theorem in3 (t : Fin cfg0.N) (k : Fin 4) (n : Fin 2048) : (iblk m c 3 t : Vec Ideal S4x8x2048 .f32) (ix3 k 0 n) = decayV m c k n := by
  have e : (win0_3.blk t).view.emb (ix3 k 0 n) = ix3 k 0 n := by blk_ext [idx t]
  blk_simp [iblk, idx t, decayV]
  rw [e]
theorem in4 (t : Fin cfg0.N) (k : Fin 4) (n : Fin 2048) (a : Fin 256) : (iblk m c 4 t : Vec Ideal S4x2048x256 .bf16) (ix3 k n a) = readV m c k n a := by
  have e : (win0_4.blk t).view.emb (ix3 k n a) = ix3 k n a := by blk_ext [idx t]
  blk_simp [iblk, idx t, readV]
  rw [e]
theorem in5 (t : Fin cfg0.N) (k : Fin 1024) : (iblk m c 5 t : Vec Ideal S1x1024 .f32) (ix2 0 k) = skipV m c k := by
  have e : (win0_5.blk t).view.emb (ix2 0 k) = ix2 0 k := by blk_ext [idx t]
  blk_simp [iblk, idx t, skipV]
  rw [e]
theorem in6 (t : Fin cfg0.N) (j k : Fin 1024) : (iblk m c 6 t : Vec Ideal S1024x1024 .bf16) (ix2 j k) = waV m c j k := by
  have e : (win0_6.blk t).view.emb (ix2 j k) = ix2 j k := by blk_ext [idx t]
  blk_simp [iblk, idx t, waV]
  rw [e]
theorem in7 (t : Fin cfg0.N) (k : Fin 1024) : (iblk m c 7 t : Vec Ideal S1x1024 .f32) (ix2 0 k) = baV m c k := by
  have e : (win0_7.blk t).view.emb (ix2 0 k) = ix2 0 k := by blk_ext [idx t]
  blk_simp [iblk, idx t, baV]
  rw [e]
theorem in8 (t : Fin cfg0.N) (j k : Fin 1024) : (iblk m c 8 t : Vec Ideal S1024x1024 .bf16) (ix2 j k) = wbV m c j k := by
  have e : (win0_8.blk t).view.emb (ix2 j k) = ix2 j k := by blk_ext [idx t]
  blk_simp [iblk, idx t, wbV]
  rw [e]
theorem in9 (t : Fin cfg0.N) (k : Fin 1024) : (iblk m c 9 t : Vec Ideal S1x1024 .f32) (ix2 0 k) = bbV m c k := by
  have e : (win0_9.blk t).view.emb (ix2 0 k) = ix2 0 k := by blk_ext [idx t]
  blk_simp [iblk, idx t, bbV]
  rw [e]

/-- The states from rest, before any step. -/
theorem state_zero (k : Fin 4) (b : Fin 16) (n : Fin 1024) : stateV m c k b n 0 = (0, 0) := rfl

/-- After point `t` the carried state is the states after the point's last step. -/
theorem carried (n : ℕ) (hn : n < cfg0.N) (k : Fin 4) (b : Fin 16) (j : Fin 1024) :
    ((outsAt0 m c n hn).2 : Vec Ideal S4x16x2048 .f32) (ix3 k b ⟨j, by omega⟩) = (stateV m c k b j (32 * (n + 1))).1
      ∧ ((outsAt0 m c n hn).2 : Vec Ideal S4x16x2048 .f32) (ix3 k b ⟨1024 + j, by omega⟩) = (stateV m c k b j (32 * (n + 1))).2 := by
  induction n generalizing k b j with
  | zero =>
    have e := outsAt0_A m c ⟨0, hn⟩ (Nat.zero_mod 64)
    have h := stateOf_eq (iblk m c 0 ⟨0, hn⟩) (iblk m c 1 ⟨0, hn⟩) (iblk m c 2 ⟨0, hn⟩) (iblk m c 3 ⟨0, hn⟩) (rowsV m c) (normV m c) (inV m c) (decayV m c) ⟨0, hn⟩ (fun _ _ _ => 0)
      (in0 m c ⟨0, hn⟩) (in1 m c ⟨0, hn⟩) (in2 m c ⟨0, hn⟩) (in3 m c ⟨0, hn⟩) (fun _ _ _ => rfl) (fun _ _ _ => rfl) k b j 32 le_rfl
    have h' := sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩)
      (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩)
      (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _)
      (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
      (iblk m c 8 ⟨0, hn⟩) (iblk m c 9 ⟨0, hn⟩) ((hcond0_0 ⟨0, hn⟩).mpr (Nat.zero_mod 64)) k b j
    rw [h] at h'
    have e2 := snd_eq e
    refine ⟨(congrFun e2 _).trans h'.1, (congrFun e2 _).trans h'.2⟩
  | succ n ih =>
    have hN : n + 1 < 64 := hn
    have h0 : ¬((⟨n + 1, hn⟩ : Fin cfg0.N).val % 64 = 0) := show ¬((n + 1) % 64 = 0) by omega
    have e := outsAt0_B m c ⟨n + 1, hn⟩ h0
    have ihr := fun k b j => (ih (Nat.lt_of_succ_lt hn) k b j).1
    have ihi := fun k b j => (ih (Nat.lt_of_succ_lt hn) k b j).2
    have h := stateOf_eq (iblk m c 0 ⟨n + 1, hn⟩) (iblk m c 1 ⟨n + 1, hn⟩) (iblk m c 2 ⟨n + 1, hn⟩) (iblk m c 3 ⟨n + 1, hn⟩) (rowsV m c) (normV m c) (inV m c) (decayV m c) ⟨n + 1, hn⟩
      (fun k b j => ((outsAt0 m c n (Nat.lt_of_succ_lt hn)).2 : Vec Ideal S4x16x2048 .f32) (ix3 k b j))
      (in0 m c ⟨n + 1, hn⟩) (in1 m c ⟨n + 1, hn⟩) (in2 m c ⟨n + 1, hn⟩) (in3 m c ⟨n + 1, hn⟩) ihr ihi k b j 32 le_rfl
    have h' := sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
      (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩)
      (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _)
      (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      (iblk m c 8 ⟨n + 1, hn⟩) (iblk m c 9 ⟨n + 1, hn⟩) (outsAt0 m c n (Nat.lt_of_succ_lt hn)).2 (fun h => h0 ((hcond0_0 ⟨n + 1, hn⟩).mp h)) k b j
    rw [h] at h'
    have e2 := snd_eq e
    refine ⟨(congrFun e2 _).trans h'.1, (congrFun e2 _).trans h'.2⟩

/-- The output of the sequences the kernel is launched on. -/
abbrev positionV := ScanRow.position (rowsV m c) (normV m c) (inV m c) (decayV m c) (readV m c) (skipV m c) (waV m c) (baV m c) (wbV m c) (bbV m c)

/-- What point `t` leaves in its output block. -/
theorem block_at (t : Fin cfg0.N) (r : Fin 512) (j : Fin 1024) :
    ((outsAt0 m c t.val t.isLt).1 : Vec Ideal S512x1024 .f32) (ix2 r j) = positionV m c (seqOf r) (timeOf t r) j := by
  by_cases h0 : t.val % 64 = 0
  · have ht : t.val < 64 := t.isLt
    have ht0 : t.val = 0 := by omega
    have e2 := fst_eq (outsAt0_A m c t h0)
    refine (congrFun e2 _).trans ((out_A c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) ((hcond0_0 t).mpr h0) r j).trans ?_)
    exact blockOut_eq (iblk m c 0 t) (iblk m c 1 t) (iblk m c 2 t) (iblk m c 3 t) (iblk m c 4 t) (iblk m c 5 t) (iblk m c 6 t) (iblk m c 7 t)
      (iblk m c 8 t) (iblk m c 9 t) (rowsV m c) (normV m c) (inV m c) (decayV m c) (readV m c) (skipV m c) (waV m c) (baV m c) (wbV m c) (bbV m c) t (fun _ _ _ => 0)
      (in0 m c t) (in1 m c t) (in2 m c t) (in3 m c t) (in4 m c t) (in5 m c t) (in6 m c t) (in7 m c t) (in8 m c t) (in9 m c t)
      (fun k b n => by rw [ht0]; rfl) (fun k b n => by rw [ht0]; rfl) r j
  · have e2 := fst_eq (outsAt0_B m c t h0)
    have ht : t.val - 1 + 1 = t.val := by omega
    refine (congrFun e2 _).trans ((out_B c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t)
      (iblk m c 8 t) (iblk m c 9 t) (outsAt0 m c (t.val - 1) (Nat.lt_of_le_of_lt (Nat.sub_le _ _) t.isLt)).2 (fun h => h0 ((hcond0_0 t).mp h)) r j).trans ?_)
    refine blockOut_eq (iblk m c 0 t) (iblk m c 1 t) (iblk m c 2 t) (iblk m c 3 t) (iblk m c 4 t) (iblk m c 5 t) (iblk m c 6 t) (iblk m c 7 t)
      (iblk m c 8 t) (iblk m c 9 t) (rowsV m c) (normV m c) (inV m c) (decayV m c) (readV m c) (skipV m c) (waV m c) (baV m c) (wbV m c) (bbV m c) t
      (fun k b j => ((outsAt0 m c (t.val - 1) (Nat.lt_of_le_of_lt (Nat.sub_le _ _) t.isLt)).2 : Vec Ideal S4x16x2048 .f32) (ix3 k b j))
      (in0 m c t) (in1 m c t) (in2 m c t) (in3 m c t) (in4 m c t) (in5 m c t) (in6 m c t) (in7 m c t) (in8 m c t) (in9 m c t)
      (fun k b n => ?_) (fun k b n => ?_) r j
    · exact ((carried m c (t.val - 1) (Nat.lt_of_le_of_lt (Nat.sub_le _ _) t.isLt) k b n).1).trans (by rw [ht])
    · exact ((carried m c (t.val - 1) (Nat.lt_of_le_of_lt (Nat.sub_le _ _) t.isLt) k b n).2).trans (by rw [ht])

/-- The result array: row `i` is sequence `i % 16` at position `i / 16`. -/
def resultV (i : S32768x1024.Idx) : EReal :=
  positionV m c ⟨(i 0 : ℕ) % 16, by omega⟩ ⟨(i 0 : ℕ) / 16, by have h : (i 0 : ℕ) < 32768 := (i 0).isLt; omega⟩ (i 1)

/-- After the run the result array holds every position's output. -/
theorem finalV : (dats m 0 c).arrAt 10 (cfgs 0).N = resultV m c := by
  refine (dats m 0 c).arrAt_eq_of_covers 10 _ (by decide +kernel) fun t _ y => ?_
  have ht : t.val < 64 := t.isLt
  have h0 : (y 0 : ℕ) < 512 := (y 0).isLt
  have e : (win0_10.blk t).view.emb y = ix2 (⟨512 * t.val + (y 0 : ℕ), by omega⟩ : Fin 32768) (y 1) := by blk_ext [idx t]
  blk_simp
  rw [after0_10]
  have ey : y = (ix2 (y 0) (y 1) : S512x1024.Idx) := by idx_ext
  refine Eq.trans ?_ (congrArg (resultV m c) e.symm)
  refine (congrArg ((outsAt0 m c t.val t.isLt).1 : Vec Ideal S512x1024 .f32) ey).trans ((block_at m c t (y 0) (y 1)).trans ?_)
  unfold resultV
  have e1 : seqOf (y 0) = (⟨(512 * t.val + (y 0 : ℕ)) % 16, by omega⟩ : Fin 16) := Fin.ext (show (y 0 : ℕ) % 16 = (512 * t.val + (y 0 : ℕ)) % 16 by omega)
  have e2 : timeOf t (y 0) = (⟨(512 * t.val + (y 0 : ℕ)) / 16, by omega⟩ : Fin 2048) := Fin.ext (show 32 * t.val + (y 0 : ℕ) / 16 = (512 * t.val + (y 0 : ℕ)) / 16 by omega)
  rw [e1, e2]
  rfl
end

/-- The call's result array from its arguments: row `i` is sequence `i % 16` at position `i / 16`. -/
def result (x : FVec Ideal S16x2048x1024 .f32) (w : FVec Ideal S2x1024 .f32) (B : FVec Ideal S4x256x2048 .bf16) (L : FVec Ideal S4x8x2048 .f32)
    (C : FVec Ideal S4x2048x256 .bf16) (d : FVec Ideal S1x1024 .f32) (wa : FVec Ideal S1x1024x1024 .f32) (ba : FVec Ideal S1x1024 .f32)
    (wb : FVec Ideal S1x1024x1024 .f32) (bb : FVec Ideal S1x1024 .f32) (i : S32768x1024.Idx) : EReal :=
  ScanRow.position (fun b t k => x (ix3 b t k)) (fun k => w (ix2 1 k)) (fun k a n => B (ix3 k a n)) (fun k n => L (ix3 k 0 n)) (fun k n a => C (ix3 k n a))
    (fun k => d (ix2 0 k)) (fun j k => wa (ix3 0 j k)) (fun k => ba (ix2 0 k)) (fun j k => wb (ix3 0 j k)) (fun k => bb (ix2 0 k))
    ⟨(i 0 : ℕ) % 16, by omega⟩ ⟨(i 0 : ℕ) / 16, by have h : (i 0 : ℕ) < 32768 := (i 0).isLt; omega⟩ (i 1)

/-- The sequences laid out position after position, read at a row. -/
theorem rows_apply (x : FVec Ideal S16x2048x1024 .f32) (b : Fin 16) (t : Fin 2048) (k : Fin 1024) :
    shapeCast S32768x1024 (transpose S2048x16x1024 [1, 0, 2] x transposes_S16x2048x1024_S2048x16x1024_1_0_2) shapeCasts_S2048x16x1024_S32768x1024
      (ix2 ⟨16 * t + b, by omega⟩ k) = x (ix3 b t k) := by
  pointwise []

/-- The mixer's norm weight, read at an entry. -/
theorem norm_apply (x : FVec Ideal S2x1024 .f32) (k : Fin 1024) :
    shapeCast S1x1024 (shapeCast S1024 (extractStridedSlice S1x1024 ![1, 0] x slices_S2x1024_S1x1024_1_0)
      shapeCasts_S1x1024_S1024) shapeCasts_S1024_S1x1024 (ix2 0 k) = x (ix2 1 k) := by
  pointwise []

/-- A row of one, and a weight matrix of one layer, read at an entry. -/
theorem one_apply (x : FVec Ideal S1x1024 .f32) (k : Fin 1024) :
    shapeCast S1x1024 (shapeCast S1024 x shapeCasts_S1x1024_S1024) shapeCasts_S1024_S1x1024 (ix2 0 k) = x (ix2 0 k) := by
  pointwise []
theorem mat_apply (x : FVec Ideal S1x1024x1024 .f32) (j k : Fin 1024) :
    truncf .bf16 (shapeCast S1024x1024 x shapeCasts_S1x1024x1024_S1024x1024) bitsLt_bf16_f32 (ix2 j k) = x (ix3 0 j k) := by
  pointwise []

section
variable (m : (ℓ : Loc nD τ sig) → Buf (Elt Ideal) ℓ) (c : Dev nD)

/-- The arrays the kernel is launched on, from the call's arguments. -/
theorem rowsV_eq : rowsV m c = fun b t k => (m ((c : Thread nD τ).loc main_arg0) : FVec Ideal S16x2048x1024 .f32) (ix3 b t k) := by
  funext b t k
  unfold rowsV
  entry_read
  exact rows_apply _ b t k
theorem normV_eq : normV m c = fun k => (m ((c : Thread nD τ).loc main_arg1) : FVec Ideal S2x1024 .f32) (ix2 1 k) := by
  funext k
  unfold normV
  entry_read
  exact norm_apply _ k
theorem inV_eq : inV m c = fun k a n => (m ((c : Thread nD τ).loc main_arg2) : FVec Ideal S4x256x2048 .bf16) (ix3 k a n) := by
  funext k a n
  unfold inV
  entry_read
  try rfl
theorem decayV_eq : decayV m c = fun k n => (m ((c : Thread nD τ).loc main_arg3) : FVec Ideal S4x8x2048 .f32) (ix3 k 0 n) := by
  funext k n
  unfold decayV
  entry_read
  try rfl
theorem readV_eq : readV m c = fun k n a => (m ((c : Thread nD τ).loc main_arg4) : FVec Ideal S4x2048x256 .bf16) (ix3 k n a) := by
  funext k n a
  unfold readV
  entry_read
  try rfl
theorem skipV_eq : skipV m c = fun k => (m ((c : Thread nD τ).loc main_arg5) : FVec Ideal S1x1024 .f32) (ix2 0 k) := by
  funext k
  unfold skipV
  entry_read
  exact one_apply _ k
theorem waV_eq : waV m c = fun j k => (m ((c : Thread nD τ).loc main_arg6) : FVec Ideal S1x1024x1024 .f32) (ix3 0 j k) := by
  funext j k
  unfold waV
  entry_read
  exact mat_apply _ j k
theorem baV_eq : baV m c = fun k => (m ((c : Thread nD τ).loc main_arg7) : FVec Ideal S1x1024 .f32) (ix2 0 k) := by
  funext k
  unfold baV
  entry_read
  exact one_apply _ k
theorem wbV_eq : wbV m c = fun j k => (m ((c : Thread nD τ).loc main_arg8) : FVec Ideal S1x1024x1024 .f32) (ix3 0 j k) := by
  funext j k
  unfold wbV
  entry_read
  exact mat_apply _ j k
theorem bbV_eq : bbV m c = fun k => (m ((c : Thread nD τ).loc main_arg9) : FVec Ideal S1x1024 .f32) (ix2 0 k) := by
  funext k
  unfold bbV
  entry_read
  exact one_apply _ k

/-- After the run the result array holds `result` of the arguments. -/
theorem final : (dats m 0 c).arrAt 10 (cfgs 0).N
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine (finalV m c).trans (funext fun i => ?_)
  unfold resultV result positionV
  rw [rowsV_eq, normV_eq, inV_eq, decayV_eq, readV_eq, skipV_eq, waV_eq, baV_eq, wbV_eq, bbV_eq]
end

end Cert.ScanBlock

end
-- ==== Proof.ScanOps.lean ====
/-
  The reference of the state-space call as lists of operations around its loop over the time steps, and its run.
-/
module

public import proofs.«01_k».proof.Proof.Gen.ScanRefIdeal
public import proofs.«01_k».proof.Proof.ScanRow
public import Idealize.ShloMosaic.Lib.StableHlo.RunLoop

@[expose] public section

noncomputable section

namespace Cert.ScanOps

open Cert.ScanRefIdeal Cert.ScanRefIdeal.Gen Idealize.ShloMosaic Idealize.ShloMosaic.TcCoe Idealize.SL.Sem Idealize.ShloMosaic.StableHlo

variable {F : FTy → Type} [FloatOps F]

/-- The normalised activations. -/
abbrev normOps : List (HloOp τ sig (Elt F)) :=
  [ unary main_arg0 main_v0 ((transpose S2048x16x1024 [1, 0, 2] · transposes_S16x2048x1024_S2048x16x1024_1_0_2) : (⟨S16x2048x1024, .f32⟩ : BufTy).Contents (Elt F) → (⟨S2048x16x1024, .f32⟩ : BufTy).Contents (Elt F)),
    unary main_arg1 main_v1 ((extractStridedSlice S1x1024 ![1, 0] · slices_S2x1024_S1x1024_1_0) : (⟨S2x1024, .f32⟩ : BufTy).Contents (Elt F) → (⟨S1x1024, .f32⟩ : BufTy).Contents (Elt F)),
    reshape main_v1 main_v2 (rfl : (.f32 : EltTy) = .f32) shapeCasts_S1x1024_S1024,
    binary main_v0 main_v0 main_v3 (mulf : (⟨S2048x16x1024, .f32⟩ : BufTy).Contents (Elt F) → (⟨S2048x16x1024, .f32⟩ : BufTy).Contents (Elt F) → (⟨S2048x16x1024, .f32⟩ : BufTy).Contents (Elt F)),
    nullary main_cst (constant S_ .f32 0x00000000#32),
    binary main_v3 main_cst main_v4 ((fun x v => Host.reduceAdd x v reducesTo_S2048x16x1024_S2048x16_d2 h_S_) : (⟨S2048x16x1024, .f32⟩ : BufTy).Contents (Elt F) → (⟨S_, .f32⟩ : BufTy).Contents (Elt F) → (⟨S2048x16, .f32⟩ : BufTy).Contents (Elt F)),
    unary main_v4 main_v5 (broadcastInDim S2048x16x1 ![0, 1] bcast_S2048x16_S2048x16x1_0_1 : (⟨S2048x16, .f32⟩ : BufTy).Contents (Elt F) → (⟨S2048x16x1, .f32⟩ : BufTy).Contents (Elt F)),
    nullary main_cst_0 (constant S_ .f32 0x44800000#32),
    unary main_cst_0 main_v6 (broadcastInDim S2048x16x1 ![] bcast_S_S2048x16x1 : (⟨S_, .f32⟩ : BufTy).Contents (Elt F) → (⟨S2048x16x1, .f32⟩ : BufTy).Contents (Elt F)),
    binary main_v5 main_v6 main_v7 (Host.divf : (⟨S2048x16x1, .f32⟩ : BufTy).Contents (Elt F) → (⟨S2048x16x1, .f32⟩ : BufTy).Contents (Elt F) → (⟨S2048x16x1, .f32⟩ : BufTy).Contents (Elt F)),
    nullary main_cst_1 (constant S_ .f32 0x358637BD#32),
    unary main_cst_1 main_v8 (broadcastInDim S2048x16x1 ![] bcast_S_S2048x16x1 : (⟨S_, .f32⟩ : BufTy).Contents (Elt F) → (⟨S2048x16x1, .f32⟩ : BufTy).Contents (Elt F)),
    binary main_v7 main_v8 main_v9 (addf : (⟨S2048x16x1, .f32⟩ : BufTy).Contents (Elt F) → (⟨S2048x16x1, .f32⟩ : BufTy).Contents (Elt F) → (⟨S2048x16x1, .f32⟩ : BufTy).Contents (Elt F)),
    unary main_v9 main_v10 (Host.rsqrt : (⟨S2048x16x1, .f32⟩ : BufTy).Contents (Elt F) → (⟨S2048x16x1, .f32⟩ : BufTy).Contents (Elt F)),
    unary main_v10 main_v11 (broadcastInDim S2048x16x1024 ![0, 1, 2] bcast_S2048x16x1_S2048x16x1024_0_1_2 : (⟨S2048x16x1, .f32⟩ : BufTy).Contents (Elt F) → (⟨S2048x16x1024, .f32⟩ : BufTy).Contents (Elt F)),
    binary main_v0 main_v11 main_v12 (mulf : (⟨S2048x16x1024, .f32⟩ : BufTy).Contents (Elt F) → (⟨S2048x16x1024, .f32⟩ : BufTy).Contents (Elt F) → (⟨S2048x16x1024, .f32⟩ : BufTy).Contents (Elt F)),
    unary main_v2 main_v13 (broadcastInDim S1x1x1024 ![2] bcast_S1024_S1x1x1024_2 : (⟨S1024, .f32⟩ : BufTy).Contents (Elt F) → (⟨S1x1x1024, .f32⟩ : BufTy).Contents (Elt F)),
    unary main_v13 main_v14 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v12 main_v14 main_v15 (mulf : (⟨S2048x16x1024, .f32⟩ : BufTy).Contents (Elt F) → (⟨S2048x16x1024, .f32⟩ : BufTy).Contents (Elt F) → (⟨S2048x16x1024, .f32⟩ : BufTy).Contents (Elt F)) ]

/-- The grouped activations, and the weights and decays in parts. -/
abbrev weightOps : List (HloOp τ sig (Elt F)) :=
  [ reshape main_v15 main_v16 (rfl : (.f32 : EltTy) = .f32) shapeCasts_S2048x16x1024_S2048x16x4x256,
    unary main_arg2 main_v17 ((extractStridedSlice S4x256x1024 ![0, 0, 0] · slices_S4x256x2048_S4x256x1024_0_0_0) : (⟨S4x256x2048, .bf16⟩ : BufTy).Contents (Elt F) → (⟨S4x256x1024, .bf16⟩ : BufTy).Contents (Elt F)),
    unary main_v17 main_v18 ((extf .f32 · bitsLt_bf16_f32) : (⟨S4x256x1024, .bf16⟩ : BufTy).Contents (Elt F) → (⟨S4x256x1024, .f32⟩ : BufTy).Contents (Elt F)),
    unary main_arg2 main_v19 ((extractStridedSlice S4x256x1024 ![0, 0, 1024] · slices_S4x256x2048_S4x256x1024_0_0_1024) : (⟨S4x256x2048, .bf16⟩ : BufTy).Contents (Elt F) → (⟨S4x256x1024, .bf16⟩ : BufTy).Contents (Elt F)),
    unary main_v19 main_v20 ((extf .f32 · bitsLt_bf16_f32) : (⟨S4x256x1024, .bf16⟩ : BufTy).Contents (Elt F) → (⟨S4x256x1024, .f32⟩ : BufTy).Contents (Elt F)),
    unary main_arg4 main_v21 ((extractStridedSlice S4x1024x256 ![0, 0, 0] · slices_S4x2048x256_S4x1024x256_0_0_0) : (⟨S4x2048x256, .bf16⟩ : BufTy).Contents (Elt F) → (⟨S4x1024x256, .bf16⟩ : BufTy).Contents (Elt F)),
    unary main_v21 main_v22 ((extf .f32 · bitsLt_bf16_f32) : (⟨S4x1024x256, .bf16⟩ : BufTy).Contents (Elt F) → (⟨S4x1024x256, .f32⟩ : BufTy).Contents (Elt F)),
    unary main_arg4 main_v23 ((extractStridedSlice S4x1024x256 ![0, 1024, 0] · slices_S4x2048x256_S4x1024x256_0_1024_0) : (⟨S4x2048x256, .bf16⟩ : BufTy).Contents (Elt F) → (⟨S4x1024x256, .bf16⟩ : BufTy).Contents (Elt F)),
    unary main_v23 main_v24 ((extf .f32 · bitsLt_bf16_f32) : (⟨S4x1024x256, .bf16⟩ : BufTy).Contents (Elt F) → (⟨S4x1024x256, .f32⟩ : BufTy).Contents (Elt F)),
    unary main_arg3 main_v25 ((extractStridedSlice S4x1x1024 ![0, 0, 0] · slices_S4x8x2048_S4x1x1024_0_0_0) : (⟨S4x8x2048, .f32⟩ : BufTy).Contents (Elt F) → (⟨S4x1x1024, .f32⟩ : BufTy).Contents (Elt F)),
    reshape main_v25 main_v26 (rfl : (.f32 : EltTy) = .f32) shapeCasts_S4x1x1024_S4x1024,
    unary main_arg3 main_v27 ((extractStridedSlice S4x1x1024 ![0, 0, 1024] · slices_S4x8x2048_S4x1x1024_0_0_1024) : (⟨S4x8x2048, .f32⟩ : BufTy).Contents (Elt F) → (⟨S4x1x1024, .f32⟩ : BufTy).Contents (Elt F)),
    reshape main_v27 main_v28 (rfl : (.f32 : EltTy) = .f32) shapeCasts_S4x1x1024_S4x1024 ]

/-- What drives the states, and the start values of the loop. -/
abbrev startOps : List (HloOp τ sig (Elt F)) :=
  [ binary main_v18 main_v16 main_v29 ((fun l r => Host.dotGeneral dot_S4x256x1024_S2048x16x4x256_S4x1024x2048x16_1_3_2_01_0_2 none l r) : (⟨S4x256x1024, .f32⟩ : BufTy).Contents (Elt F) → (⟨S2048x16x4x256, .f32⟩ : BufTy).Contents (Elt F) → (⟨S4x1024x2048x16, .f32⟩ : BufTy).Contents (Elt F)),
    unary main_v29 main_v30 ((transpose S2048x16x4x1024 [2, 3, 0, 1] · transposes_S4x1024x2048x16_S2048x16x4x1024_2_3_0_1) : (⟨S4x1024x2048x16, .f32⟩ : BufTy).Contents (Elt F) → (⟨S2048x16x4x1024, .f32⟩ : BufTy).Contents (Elt F)),
    binary main_v20 main_v16 main_v31 ((fun l r => Host.dotGeneral dot_S4x256x1024_S2048x16x4x256_S4x1024x2048x16_1_3_2_01_0_2 none l r) : (⟨S4x256x1024, .f32⟩ : BufTy).Contents (Elt F) → (⟨S2048x16x4x256, .f32⟩ : BufTy).Contents (Elt F) → (⟨S4x1024x2048x16, .f32⟩ : BufTy).Contents (Elt F)),
    unary main_v31 main_v32 ((transpose S2048x16x4x1024 [2, 3, 0, 1] · transposes_S4x1024x2048x16_S2048x16x4x1024_2_3_0_1) : (⟨S4x1024x2048x16, .f32⟩ : BufTy).Contents (Elt F) → (⟨S2048x16x4x1024, .f32⟩ : BufTy).Contents (Elt F)),
    nullary main_cst_2 (constant S_ .f32 0x00000000#32),
    unary main_cst_2 main_v33 (broadcastInDim S16x4x1024 ![] bcast_S_S16x4x1024 : (⟨S_, .f32⟩ : BufTy).Contents (Elt F) → (⟨S16x4x1024, .f32⟩ : BufTy).Contents (Elt F)),
    nullary main_cst_3 (constant S_ .f32 0x00000000#32),
    unary main_cst_3 main_v34 (broadcastInDim S2048x16x4x1024 ![] bcast_S_S2048x16x4x1024 : (⟨S_, .f32⟩ : BufTy).Contents (Elt F) → (⟨S2048x16x4x1024, .f32⟩ : BufTy).Contents (Elt F)),
    nullary main_cst_4 (constant S_ .f32 0x00000000#32),
    unary main_cst_4 main_v35 (broadcastInDim S2048x16x4x1024 ![] bcast_S_S2048x16x4x1024 : (⟨S_, .f32⟩ : BufTy).Contents (Elt F) → (⟨S2048x16x4x1024, .f32⟩ : BufTy).Contents (Elt F)),
    nullary main_c (constantI S_ 32 0#32) ]

/-- The copies into the loop. -/
abbrev enterOps : List (HloOp τ sig (Elt F)) :=
  [ unary main_v30 main_v36_0 id,
    unary main_v32 main_v36_1 id,
    unary main_v26 main_v36_2 id,
    unary main_v28 main_v36_3 id,
    unary main_c main_v36_4 id,
    unary main_v33 main_v36_5 id,
    unary main_v33 main_v36_6 id,
    unary main_v34 main_v36_7 id,
    unary main_v35 main_v36_8 id ]

/-- The exit test's operations. -/
abbrev condOps : List (HloOp τ sig (Elt F)) :=
  [ nullary main_while0c_c_19 (constantI S_ 32 2048#32),
    binary main_v36_4 main_while0c_c_19 main_while0c_v82 (cmpi .slt : (⟨S_, .i32⟩ : BufTy).Contents (Elt F) → (⟨S_, .i32⟩ : BufTy).Contents (Elt F) → (⟨S_, .i1⟩ : BufTy).Contents (Elt F)) ]

/-- The step's drives, read out of their arrays. -/
abbrev readOps : List (HloOp τ sig (Elt F)) :=
  [ TRef.nullary (TRef.of (T := ⟨S_, .i32⟩) main_while0b_call0_c) (constantI S_ 32 0#32),
    TRef.nullary (TRef.of (T := ⟨S_, .i32⟩) main_while0b_call0_c_0) (constantI S_ 32 0#32),
    TRef.nullary (TRef.of (T := ⟨S_, .i32⟩) main_while0b_call0_c_1) (constantI S_ 32 0#32),
    TRef.unaryIndexed (TRef.of (T := ⟨S2048x16x4x1024, .f32⟩) main_v36_0) ![(TRef.of (T := ⟨S_, .i32⟩) main_v36_4), (TRef.of (T := ⟨S_, .i32⟩) main_while0b_call0_c), (TRef.of (T := ⟨S_, .i32⟩) main_while0b_call0_c_0), (TRef.of (T := ⟨S_, .i32⟩) main_while0b_call0_c_1)] (TRef.of (T := ⟨S1x16x4x1024, .f32⟩) main_while0b_call0_v0) (fun x i => Host.dynamicSlice S1x16x4x1024 x (fun k => (i k (Shape.Idx.first h_S_)).toInt) sliceFits_S2048x16x4x1024_S1x16x4x1024),
    TRef.reshape (TRef.of (T := ⟨S1x16x4x1024, .f32⟩) main_while0b_call0_v0) (TRef.of (T := ⟨S16x4x1024, .f32⟩) main_while0b_v82) (rfl : (.f32 : EltTy) = .f32) shapeCasts_S1x16x4x1024_S16x4x1024,
    TRef.nullary (TRef.of (T := ⟨S_, .i32⟩) main_while0b_call1_c) (constantI S_ 32 0#32),
    TRef.nullary (TRef.of (T := ⟨S_, .i32⟩) main_while0b_call1_c_0) (constantI S_ 32 0#32),
    TRef.nullary (TRef.of (T := ⟨S_, .i32⟩) main_while0b_call1_c_1) (constantI S_ 32 0#32),
    TRef.unaryIndexed (TRef.of (T := ⟨S2048x16x4x1024, .f32⟩) main_v36_1) ![(TRef.of (T := ⟨S_, .i32⟩) main_v36_4), (TRef.of (T := ⟨S_, .i32⟩) main_while0b_call1_c), (TRef.of (T := ⟨S_, .i32⟩) main_while0b_call1_c_0), (TRef.of (T := ⟨S_, .i32⟩) main_while0b_call1_c_1)] (TRef.of (T := ⟨S1x16x4x1024, .f32⟩) main_while0b_call1_v0) (fun x i => Host.dynamicSlice S1x16x4x1024 x (fun k => (i k (Shape.Idx.first h_S_)).toInt) sliceFits_S2048x16x4x1024_S1x16x4x1024),
    TRef.reshape (TRef.of (T := ⟨S1x16x4x1024, .f32⟩) main_while0b_call1_v0) (TRef.of (T := ⟨S16x4x1024, .f32⟩) main_while0b_v83) (rfl : (.f32 : EltTy) = .f32) shapeCasts_S1x16x4x1024_S16x4x1024 ]

/-- One step of the states. -/
abbrev stepOps : List (HloOp τ sig (Elt F)) :=
  [ unary main_v36_2 main_while0b_v84 (broadcastInDim S1x4x1024 ![1, 2] bcast_S4x1024_S1x4x1024_1_2 : (⟨S4x1024, .f32⟩ : BufTy).Contents (Elt F) → (⟨S1x4x1024, .f32⟩ : BufTy).Contents (Elt F)),
    unary main_while0b_v84 main_while0b_v85 (broadcastInDim S16x4x1024 ![0, 1, 2] bcast_S1x4x1024_S16x4x1024_0_1_2 : (⟨S1x4x1024, .f32⟩ : BufTy).Contents (Elt F) → (⟨S16x4x1024, .f32⟩ : BufTy).Contents (Elt F)),
    binary main_while0b_v85 main_v36_5 main_while0b_v86 (mulf : (⟨S16x4x1024, .f32⟩ : BufTy).Contents (Elt F) → (⟨S16x4x1024, .f32⟩ : BufTy).Contents (Elt F) → (⟨S16x4x1024, .f32⟩ : BufTy).Contents (Elt F)),
    unary main_v36_3 main_while0b_v87 (broadcastInDim S1x4x1024 ![1, 2] bcast_S4x1024_S1x4x1024_1_2 : (⟨S4x1024, .f32⟩ : BufTy).Contents (Elt F) → (⟨S1x4x1024, .f32⟩ : BufTy).Contents (Elt F)),
    unary main_while0b_v87 main_while0b_v88 (broadcastInDim S16x4x1024 ![0, 1, 2] bcast_S1x4x1024_S16x4x1024_0_1_2 : (⟨S1x4x1024, .f32⟩ : BufTy).Contents (Elt F) → (⟨S16x4x1024, .f32⟩ : BufTy).Contents (Elt F)),
    binary main_while0b_v88 main_v36_6 main_while0b_v89 (mulf : (⟨S16x4x1024, .f32⟩ : BufTy).Contents (Elt F) → (⟨S16x4x1024, .f32⟩ : BufTy).Contents (Elt F) → (⟨S16x4x1024, .f32⟩ : BufTy).Contents (Elt F)),
    binary main_while0b_v86 main_while0b_v89 main_while0b_v90 (subf : (⟨S16x4x1024, .f32⟩ : BufTy).Contents (Elt F) → (⟨S16x4x1024, .f32⟩ : BufTy).Contents (Elt F) → (⟨S16x4x1024, .f32⟩ : BufTy).Contents (Elt F)),
    binary main_while0b_v90 main_while0b_v82 main_while0b_v91 (addf : (⟨S16x4x1024, .f32⟩ : BufTy).Contents (Elt F) → (⟨S16x4x1024, .f32⟩ : BufTy).Contents (Elt F) → (⟨S16x4x1024, .f32⟩ : BufTy).Contents (Elt F)),
    unary main_v36_2 main_while0b_v92 (broadcastInDim S1x4x1024 ![1, 2] bcast_S4x1024_S1x4x1024_1_2 : (⟨S4x1024, .f32⟩ : BufTy).Contents (Elt F) → (⟨S1x4x1024, .f32⟩ : BufTy).Contents (Elt F)),
    unary main_while0b_v92 main_while0b_v93 (broadcastInDim S16x4x1024 ![0, 1, 2] bcast_S1x4x1024_S16x4x1024_0_1_2 : (⟨S1x4x1024, .f32⟩ : BufTy).Contents (Elt F) → (⟨S16x4x1024, .f32⟩ : BufTy).Contents (Elt F)),
    binary main_while0b_v93 main_v36_6 main_while0b_v94 (mulf : (⟨S16x4x1024, .f32⟩ : BufTy).Contents (Elt F) → (⟨S16x4x1024, .f32⟩ : BufTy).Contents (Elt F) → (⟨S16x4x1024, .f32⟩ : BufTy).Contents (Elt F)),
    unary main_v36_3 main_while0b_v95 (broadcastInDim S1x4x1024 ![1, 2] bcast_S4x1024_S1x4x1024_1_2 : (⟨S4x1024, .f32⟩ : BufTy).Contents (Elt F) → (⟨S1x4x1024, .f32⟩ : BufTy).Contents (Elt F)),
    unary main_while0b_v95 main_while0b_v96 (broadcastInDim S16x4x1024 ![0, 1, 2] bcast_S1x4x1024_S16x4x1024_0_1_2 : (⟨S1x4x1024, .f32⟩ : BufTy).Contents (Elt F) → (⟨S16x4x1024, .f32⟩ : BufTy).Contents (Elt F)),
    binary main_while0b_v96 main_v36_5 main_while0b_v97 (mulf : (⟨S16x4x1024, .f32⟩ : BufTy).Contents (Elt F) → (⟨S16x4x1024, .f32⟩ : BufTy).Contents (Elt F) → (⟨S16x4x1024, .f32⟩ : BufTy).Contents (Elt F)),
    binary main_while0b_v94 main_while0b_v97 main_while0b_v98 (addf : (⟨S16x4x1024, .f32⟩ : BufTy).Contents (Elt F) → (⟨S16x4x1024, .f32⟩ : BufTy).Contents (Elt F) → (⟨S16x4x1024, .f32⟩ : BufTy).Contents (Elt F)),
    binary main_while0b_v98 main_while0b_v83 main_while0b_v99 (addf : (⟨S16x4x1024, .f32⟩ : BufTy).Contents (Elt F) → (⟨S16x4x1024, .f32⟩ : BufTy).Contents (Elt F) → (⟨S16x4x1024, .f32⟩ : BufTy).Contents (Elt F)) ]

/-- The states written into their arrays. -/
abbrev writeOps : List (HloOp τ sig (Elt F)) :=
  [ TRef.unary (TRef.of (T := ⟨S16x4x1024, .f32⟩) main_while0b_v91) (TRef.of (T := ⟨S1x16x4x1024, .f32⟩) main_while0b_call2_v0) (broadcastInDim S1x16x4x1024 ![1, 2, 3] bcast_S16x4x1024_S1x16x4x1024_1_2_3),
    TRef.nullary (TRef.of (T := ⟨S_, .i32⟩) main_while0b_call2_c) (constantI S_ 32 0#32),
    TRef.nullary (TRef.of (T := ⟨S_, .i32⟩) main_while0b_call2_c_0) (constantI S_ 32 0#32),
    TRef.nullary (TRef.of (T := ⟨S_, .i32⟩) main_while0b_call2_c_1) (constantI S_ 32 0#32),
    TRef.binaryIndexed (TRef.of (T := ⟨S2048x16x4x1024, .f32⟩) main_v36_7) (TRef.of (T := ⟨S1x16x4x1024, .f32⟩) main_while0b_call2_v0) ![(TRef.of (T := ⟨S_, .i32⟩) main_v36_4), (TRef.of (T := ⟨S_, .i32⟩) main_while0b_call2_c), (TRef.of (T := ⟨S_, .i32⟩) main_while0b_call2_c_0), (TRef.of (T := ⟨S_, .i32⟩) main_while0b_call2_c_1)] (TRef.of (T := ⟨S2048x16x4x1024, .f32⟩) main_while0b_v100) (fun x u i => Host.dynamicUpdateSlice x u (fun k => (i k (Shape.Idx.first h_S_)).toInt) updateFits_S2048x16x4x1024_S1x16x4x1024),
    TRef.unary (TRef.of (T := ⟨S16x4x1024, .f32⟩) main_while0b_v99) (TRef.of (T := ⟨S1x16x4x1024, .f32⟩) main_while0b_call3_v0) (broadcastInDim S1x16x4x1024 ![1, 2, 3] bcast_S16x4x1024_S1x16x4x1024_1_2_3),
    TRef.nullary (TRef.of (T := ⟨S_, .i32⟩) main_while0b_call3_c) (constantI S_ 32 0#32),
    TRef.nullary (TRef.of (T := ⟨S_, .i32⟩) main_while0b_call3_c_0) (constantI S_ 32 0#32),
    TRef.nullary (TRef.of (T := ⟨S_, .i32⟩) main_while0b_call3_c_1) (constantI S_ 32 0#32),
    TRef.binaryIndexed (TRef.of (T := ⟨S2048x16x4x1024, .f32⟩) main_v36_8) (TRef.of (T := ⟨S1x16x4x1024, .f32⟩) main_while0b_call3_v0) ![(TRef.of (T := ⟨S_, .i32⟩) main_v36_4), (TRef.of (T := ⟨S_, .i32⟩) main_while0b_call3_c), (TRef.of (T := ⟨S_, .i32⟩) main_while0b_call3_c_0), (TRef.of (T := ⟨S_, .i32⟩) main_while0b_call3_c_1)] (TRef.of (T := ⟨S2048x16x4x1024, .f32⟩) main_while0b_v101) (fun x u i => Host.dynamicUpdateSlice x u (fun k => (i k (Shape.Idx.first h_S_)).toInt) updateFits_S2048x16x4x1024_S1x16x4x1024) ]

/-- The counter one up, and the copies back into the loop's buffers. -/
abbrev copyOps : List (HloOp τ sig (Elt F)) :=
  [ nullary main_while0b_c_19 (constantI S_ 32 1#32),
    binary main_v36_4 main_while0b_c_19 main_while0b_v102 (addi : (⟨S_, .i32⟩ : BufTy).Contents (Elt F) → (⟨S_, .i32⟩ : BufTy).Contents (Elt F) → (⟨S_, .i32⟩ : BufTy).Contents (Elt F)),
    unary main_while0b_v102 main_v36_4 id,
    unary main_while0b_v91 main_v36_5 id,
    unary main_while0b_v99 main_v36_6 id,
    unary main_while0b_v100 main_v36_7 id,
    unary main_while0b_v101 main_v36_8 id ]

/-- The states read out, with the skip. -/
abbrev outOps : List (HloOp τ sig (Elt F)) :=
  [ binary main_v22 main_v36_7 main_v37 ((fun l r => Host.dotGeneral dot_S4x1024x256_S2048x16x4x1024_S4x256x2048x16_1_3_2_01_0_2 none l r) : (⟨S4x1024x256, .f32⟩ : BufTy).Contents (Elt F) → (⟨S2048x16x4x1024, .f32⟩ : BufTy).Contents (Elt F) → (⟨S4x256x2048x16, .f32⟩ : BufTy).Contents (Elt F)),
    unary main_v37 main_v38 ((transpose S2048x16x4x256 [2, 3, 0, 1] · transposes_S4x256x2048x16_S2048x16x4x256_2_3_0_1) : (⟨S4x256x2048x16, .f32⟩ : BufTy).Contents (Elt F) → (⟨S2048x16x4x256, .f32⟩ : BufTy).Contents (Elt F)),
    binary main_v24 main_v36_8 main_v39 ((fun l r => Host.dotGeneral dot_S4x1024x256_S2048x16x4x1024_S4x256x2048x16_1_3_2_01_0_2 none l r) : (⟨S4x1024x256, .f32⟩ : BufTy).Contents (Elt F) → (⟨S2048x16x4x1024, .f32⟩ : BufTy).Contents (Elt F) → (⟨S4x256x2048x16, .f32⟩ : BufTy).Contents (Elt F)),
    unary main_v39 main_v40 ((transpose S2048x16x4x256 [2, 3, 0, 1] · transposes_S4x256x2048x16_S2048x16x4x256_2_3_0_1) : (⟨S4x256x2048x16, .f32⟩ : BufTy).Contents (Elt F) → (⟨S2048x16x4x256, .f32⟩ : BufTy).Contents (Elt F)),
    binary main_v38 main_v40 main_v41 (addf : (⟨S2048x16x4x256, .f32⟩ : BufTy).Contents (Elt F) → (⟨S2048x16x4x256, .f32⟩ : BufTy).Contents (Elt F) → (⟨S2048x16x4x256, .f32⟩ : BufTy).Contents (Elt F)),
    reshape main_v41 main_v42 (rfl : (.f32 : EltTy) = .f32) shapeCasts_S2048x16x4x256_S2048x16x1024,
    reshape main_arg5 main_v43 (rfl : (.f32 : EltTy) = .f32) shapeCasts_S1x1024_S1024,
    unary main_v43 main_v44 (broadcastInDim S1x1x1024 ![2] bcast_S1024_S1x1x1024_2 : (⟨S1024, .f32⟩ : BufTy).Contents (Elt F) → (⟨S1x1x1024, .f32⟩ : BufTy).Contents (Elt F)),
    unary main_v44 main_v45 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v45 main_v15 main_v46 (mulf : (⟨S2048x16x1024, .f32⟩ : BufTy).Contents (Elt F) → (⟨S2048x16x1024, .f32⟩ : BufTy).Contents (Elt F) → (⟨S2048x16x1024, .f32⟩ : BufTy).Contents (Elt F)),
    binary main_v42 main_v46 main_v47 (addf : (⟨S2048x16x1024, .f32⟩ : BufTy).Contents (Elt F) → (⟨S2048x16x1024, .f32⟩ : BufTy).Contents (Elt F) → (⟨S2048x16x1024, .f32⟩ : BufTy).Contents (Elt F)) ]

/-- The gelu. -/
abbrev geluOps : List (HloOp τ sig (Elt F)) :=
  [ binary main_v47 main_v47 main_v48 (mulf : (⟨S2048x16x1024, .f32⟩ : BufTy).Contents (Elt F) → (⟨S2048x16x1024, .f32⟩ : BufTy).Contents (Elt F) → (⟨S2048x16x1024, .f32⟩ : BufTy).Contents (Elt F)),
    binary main_v48 main_v47 main_v49 (mulf : (⟨S2048x16x1024, .f32⟩ : BufTy).Contents (Elt F) → (⟨S2048x16x1024, .f32⟩ : BufTy).Contents (Elt F) → (⟨S2048x16x1024, .f32⟩ : BufTy).Contents (Elt F)),
    nullary main_cst_5 (constant S_ .f32 0x3D372713#32),
    unary main_cst_5 main_v50 (broadcastInDim S2048x16x1024 ![] bcast_S_S2048x16x1024 : (⟨S_, .f32⟩ : BufTy).Contents (Elt F) → (⟨S2048x16x1024, .f32⟩ : BufTy).Contents (Elt F)),
    binary main_v50 main_v49 main_v51 (mulf : (⟨S2048x16x1024, .f32⟩ : BufTy).Contents (Elt F) → (⟨S2048x16x1024, .f32⟩ : BufTy).Contents (Elt F) → (⟨S2048x16x1024, .f32⟩ : BufTy).Contents (Elt F)),
    binary main_v47 main_v51 main_v52 (addf : (⟨S2048x16x1024, .f32⟩ : BufTy).Contents (Elt F) → (⟨S2048x16x1024, .f32⟩ : BufTy).Contents (Elt F) → (⟨S2048x16x1024, .f32⟩ : BufTy).Contents (Elt F)),
    nullary main_cst_6 (constant S_ .f32 0x3F4C422A#32),
    unary main_cst_6 main_v53 (broadcastInDim S2048x16x1024 ![] bcast_S_S2048x16x1024 : (⟨S_, .f32⟩ : BufTy).Contents (Elt F) → (⟨S2048x16x1024, .f32⟩ : BufTy).Contents (Elt F)),
    binary main_v53 main_v52 main_v54 (mulf : (⟨S2048x16x1024, .f32⟩ : BufTy).Contents (Elt F) → (⟨S2048x16x1024, .f32⟩ : BufTy).Contents (Elt F) → (⟨S2048x16x1024, .f32⟩ : BufTy).Contents (Elt F)),
    unary main_v54 main_v55 (Host.tanh : (⟨S2048x16x1024, .f32⟩ : BufTy).Contents (Elt F) → (⟨S2048x16x1024, .f32⟩ : BufTy).Contents (Elt F)),
    nullary main_cst_7 (constant S_ .f32 0x3F800000#32),
    unary main_cst_7 main_v56 (broadcastInDim S2048x16x1024 ![] bcast_S_S2048x16x1024 : (⟨S_, .f32⟩ : BufTy).Contents (Elt F) → (⟨S2048x16x1024, .f32⟩ : BufTy).Contents (Elt F)),
    binary main_v56 main_v55 main_v57 (addf : (⟨S2048x16x1024, .f32⟩ : BufTy).Contents (Elt F) → (⟨S2048x16x1024, .f32⟩ : BufTy).Contents (Elt F) → (⟨S2048x16x1024, .f32⟩ : BufTy).Contents (Elt F)),
    nullary main_cst_8 (constant S_ .f32 0x3F000000#32),
    unary main_cst_8 main_v58 (broadcastInDim S2048x16x1024 ![] bcast_S_S2048x16x1024 : (⟨S_, .f32⟩ : BufTy).Contents (Elt F) → (⟨S2048x16x1024, .f32⟩ : BufTy).Contents (Elt F)),
    binary main_v58 main_v57 main_v59 (mulf : (⟨S2048x16x1024, .f32⟩ : BufTy).Contents (Elt F) → (⟨S2048x16x1024, .f32⟩ : BufTy).Contents (Elt F) → (⟨S2048x16x1024, .f32⟩ : BufTy).Contents (Elt F)),
    binary main_v47 main_v59 main_v60 (mulf : (⟨S2048x16x1024, .f32⟩ : BufTy).Contents (Elt F) → (⟨S2048x16x1024, .f32⟩ : BufTy).Contents (Elt F) → (⟨S2048x16x1024, .f32⟩ : BufTy).Contents (Elt F)) ]

/-- The gated pair of projections and the residual. -/
abbrev mixOps : List (HloOp τ sig (Elt F)) :=
  [ reshape main_arg6 main_v61 (rfl : (.f32 : EltTy) = .f32) shapeCasts_S1x1024x1024_S1024x1024,
    binary main_v60 main_v61 main_v62 ((fun l r => Host.dotGeneral dot_S2048x16x1024_S1024x1024_S2048x16x1024_2_0_01_1_n_n none l r) : (⟨S2048x16x1024, .f32⟩ : BufTy).Contents (Elt F) → (⟨S1024x1024, .f32⟩ : BufTy).Contents (Elt F) → (⟨S2048x16x1024, .f32⟩ : BufTy).Contents (Elt F)),
    reshape main_arg7 main_v63 (rfl : (.f32 : EltTy) = .f32) shapeCasts_S1x1024_S1024,
    unary main_v63 main_v64 (broadcastInDim S1x1x1024 ![2] bcast_S1024_S1x1x1024_2 : (⟨S1024, .f32⟩ : BufTy).Contents (Elt F) → (⟨S1x1x1024, .f32⟩ : BufTy).Contents (Elt F)),
    unary main_v64 main_v65 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v62 main_v65 main_v66 (addf : (⟨S2048x16x1024, .f32⟩ : BufTy).Contents (Elt F) → (⟨S2048x16x1024, .f32⟩ : BufTy).Contents (Elt F) → (⟨S2048x16x1024, .f32⟩ : BufTy).Contents (Elt F)),
    reshape main_arg8 main_v67 (rfl : (.f32 : EltTy) = .f32) shapeCasts_S1x1024x1024_S1024x1024,
    binary main_v60 main_v67 main_v68 ((fun l r => Host.dotGeneral dot_S2048x16x1024_S1024x1024_S2048x16x1024_2_0_01_1_n_n none l r) : (⟨S2048x16x1024, .f32⟩ : BufTy).Contents (Elt F) → (⟨S1024x1024, .f32⟩ : BufTy).Contents (Elt F) → (⟨S2048x16x1024, .f32⟩ : BufTy).Contents (Elt F)),
    reshape main_arg9 main_v69 (rfl : (.f32 : EltTy) = .f32) shapeCasts_S1x1024_S1024,
    unary main_v69 main_v70 (broadcastInDim S1x1x1024 ![2] bcast_S1024_S1x1x1024_2 : (⟨S1024, .f32⟩ : BufTy).Contents (Elt F) → (⟨S1x1x1024, .f32⟩ : BufTy).Contents (Elt F)),
    unary main_v70 main_v71 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v68 main_v71 main_v72 (addf : (⟨S2048x16x1024, .f32⟩ : BufTy).Contents (Elt F) → (⟨S2048x16x1024, .f32⟩ : BufTy).Contents (Elt F) → (⟨S2048x16x1024, .f32⟩ : BufTy).Contents (Elt F)),
    unary main_v72 main_v73 (Host.negf : (⟨S2048x16x1024, .f32⟩ : BufTy).Contents (Elt F) → (⟨S2048x16x1024, .f32⟩ : BufTy).Contents (Elt F)),
    unary main_v73 main_v74 (Host.exp : (⟨S2048x16x1024, .f32⟩ : BufTy).Contents (Elt F) → (⟨S2048x16x1024, .f32⟩ : BufTy).Contents (Elt F)),
    nullary main_cst_9 (constant S_ .f32 0x3F800000#32),
    unary main_cst_9 main_v75 (broadcastInDim S2048x16x1024 ![] bcast_S_S2048x16x1024 : (⟨S_, .f32⟩ : BufTy).Contents (Elt F) → (⟨S2048x16x1024, .f32⟩ : BufTy).Contents (Elt F)),
    binary main_v75 main_v74 main_v76 (addf : (⟨S2048x16x1024, .f32⟩ : BufTy).Contents (Elt F) → (⟨S2048x16x1024, .f32⟩ : BufTy).Contents (Elt F) → (⟨S2048x16x1024, .f32⟩ : BufTy).Contents (Elt F)),
    nullary main_cst_10 (constant S_ .f32 0x3F800000#32),
    unary main_cst_10 main_v77 (broadcastInDim S2048x16x1024 ![] bcast_S_S2048x16x1024 : (⟨S_, .f32⟩ : BufTy).Contents (Elt F) → (⟨S2048x16x1024, .f32⟩ : BufTy).Contents (Elt F)),
    binary main_v77 main_v76 main_v78 (Host.divf : (⟨S2048x16x1024, .f32⟩ : BufTy).Contents (Elt F) → (⟨S2048x16x1024, .f32⟩ : BufTy).Contents (Elt F) → (⟨S2048x16x1024, .f32⟩ : BufTy).Contents (Elt F)),
    binary main_v66 main_v78 main_v79 (mulf : (⟨S2048x16x1024, .f32⟩ : BufTy).Contents (Elt F) → (⟨S2048x16x1024, .f32⟩ : BufTy).Contents (Elt F) → (⟨S2048x16x1024, .f32⟩ : BufTy).Contents (Elt F)),
    binary main_v0 main_v79 main_v80 (addf : (⟨S2048x16x1024, .f32⟩ : BufTy).Contents (Elt F) → (⟨S2048x16x1024, .f32⟩ : BufTy).Contents (Elt F) → (⟨S2048x16x1024, .f32⟩ : BufTy).Contents (Elt F)),
    reshape main_v80 main_v81 (rfl : (.f32 : EltTy) = .f32) shapeCasts_S2048x16x1024_S32768x1024 ]

set_option maxRecDepth 8192 in
/-- Its operations' buffers are the signature's. -/
theorem normOps_sub : (normOps (F := F)).Forall fun op => op.bufs ⊆ tcRefs τ sig :=
  ⟨unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

set_option maxRecDepth 8192 in
/-- Its operations' buffers are the signature's. -/
theorem weightOps_sub : (weightOps (F := F)).Forall fun op => op.bufs ⊆ tcRefs τ sig :=
  ⟨reshape_bufs_sub .., unary_bufs_sub .., unary_bufs_sub .., unary_bufs_sub .., unary_bufs_sub .., unary_bufs_sub .., unary_bufs_sub .., unary_bufs_sub .., unary_bufs_sub .., unary_bufs_sub .., reshape_bufs_sub .., unary_bufs_sub .., reshape_bufs_sub ..⟩

set_option maxRecDepth 8192 in
/-- Its operations' buffers are the signature's. -/
theorem startOps_sub : (startOps (F := F)).Forall fun op => op.bufs ⊆ tcRefs τ sig :=
  ⟨binary_bufs_sub .., unary_bufs_sub .., binary_bufs_sub .., unary_bufs_sub .., nullary_bufs_sub .., unary_bufs_sub .., nullary_bufs_sub .., unary_bufs_sub .., nullary_bufs_sub .., unary_bufs_sub .., nullary_bufs_sub ..⟩

set_option maxRecDepth 8192 in
/-- Its operations' buffers are the signature's. -/
theorem enterOps_sub : (enterOps (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub ..⟩

set_option maxRecDepth 8192 in
/-- Its operations' buffers are the signature's. -/
theorem condOps_sub : (condOps (F := F)).Forall fun op => op.bufs ⊆ tcRefs τ sig :=
  ⟨nullary_bufs_sub .., binary_bufs_sub ..⟩

set_option maxRecDepth 8192 in
/-- Its operations' buffers are the signature's. -/
theorem readOps_sub : (readOps (F := F)).Forall fun op => op.bufs ⊆ tcRefs τ sig :=
  ⟨nullary_bufs_sub .., nullary_bufs_sub .., nullary_bufs_sub .., unaryIndexed_bufs_sub .., reshape_bufs_sub .., nullary_bufs_sub .., nullary_bufs_sub .., nullary_bufs_sub .., unaryIndexed_bufs_sub .., reshape_bufs_sub ..⟩

set_option maxRecDepth 8192 in
/-- Its operations' buffers are the signature's. -/
theorem stepOps_sub : (stepOps (F := F)).Forall fun op => op.bufs ⊆ tcRefs τ sig :=
  ⟨unary_bufs_sub .., unary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., binary_bufs_sub .., binary_bufs_sub .., binary_bufs_sub ..⟩

set_option maxRecDepth 8192 in
/-- Its operations' buffers are the signature's. -/
theorem writeOps_sub : (writeOps (F := F)).Forall fun op => op.bufs ⊆ tcRefs τ sig :=
  ⟨unary_bufs_sub .., nullary_bufs_sub .., nullary_bufs_sub .., nullary_bufs_sub .., binaryIndexed_bufs_sub .., unary_bufs_sub .., nullary_bufs_sub .., nullary_bufs_sub .., nullary_bufs_sub .., binaryIndexed_bufs_sub ..⟩

set_option maxRecDepth 8192 in
/-- Its operations' buffers are the signature's. -/
theorem copyOps_sub : (copyOps (F := F)).Forall fun op => op.bufs ⊆ tcRefs τ sig :=
  ⟨nullary_bufs_sub .., binary_bufs_sub .., unary_bufs_sub .., unary_bufs_sub .., unary_bufs_sub .., unary_bufs_sub .., unary_bufs_sub ..⟩

set_option maxRecDepth 8192 in
/-- Its operations' buffers are the signature's. -/
theorem outOps_sub : (outOps (F := F)).Forall fun op => op.bufs ⊆ tcRefs τ sig :=
  ⟨binary_bufs_sub .., unary_bufs_sub .., binary_bufs_sub .., unary_bufs_sub .., binary_bufs_sub .., reshape_bufs_sub .., reshape_bufs_sub .., unary_bufs_sub .., unary_bufs_sub .., binary_bufs_sub .., binary_bufs_sub ..⟩

set_option maxRecDepth 8192 in
/-- Its operations' buffers are the signature's. -/
theorem geluOps_sub : (geluOps (F := F)).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩

set_option maxRecDepth 8192 in
/-- Its operations' buffers are the signature's. -/
theorem mixOps_sub : (mixOps (F := F)).Forall fun op => op.bufs ⊆ tcRefs τ sig :=
  ⟨reshape_bufs_sub .., binary_bufs_sub .., reshape_bufs_sub .., unary_bufs_sub .., unary_bufs_sub .., binary_bufs_sub .., reshape_bufs_sub .., binary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub ..⟩

/-- The reference around its loop, and the loop's body, as chains of the lists. -/
abbrev preI : List (List (HloOp τ sig (Elt F))) := [normOps, weightOps, startOps, enterOps]
abbrev bodyI : List (List (HloOp τ sig (Elt F))) := [readOps, stepOps, writeOps, copyOps]
abbrev postI : List (List (HloOp τ sig (Elt F))) := [outOps, geluOps, mixOps]

set_option maxRecDepth 16384 in
theorem main_eq (c : Dev nD) : main (F := F) c
    = Pipeline.chain ((preI.map fun ops => seq ops) ++ HostLoop.enter 0 :: postI.map fun ops => seq ops) := by
  chain_rfl

set_option maxRecDepth 16384 in
theorem body_eq : main_while0_body (F := F) = Pipeline.chain (bodyI.map fun ops => seq ops) := by
  chain_rfl

theorem pre_plain : Plain (preI (F := F)) := .cons normOps_sub (.cons weightOps_sub (.cons startOps_sub (.cons enterOps_sub .nil)))
theorem body_plain : Plain (bodyI (F := F)) := .cons readOps_sub (.cons stepOps_sub (.cons writeOps_sub (.cons copyOps_sub .nil)))
theorem post_plain : Plain (postI (F := F)) := .cons outOps_sub (.cons geluOps_sub (.cons mixOps_sub .nil))

end Cert.ScanOps

end
-- ==== Proof.ScanKeep.lean ====
/-
  The buffers each list of the state-space call's reference writes, and that it leaves all others as they were.
-/
module

public import proofs.«01_k».proof.Proof.ScanOps

@[expose] public section

noncomputable section

namespace Cert.ScanOps

open Cert.ScanRefIdeal Cert.ScanRefIdeal.Gen Idealize.ShloMosaic Idealize.ShloMosaic.TcCoe Idealize.SL.Sem Idealize.ShloMosaic.StableHlo

variable {F : FTy → Type} [FloatOps F] (V : Valuation τ sig (Elt F))

/-- What `normOps` writes. -/
abbrev normW : List (Ref sig .tc) := [main_v0, main_v1, main_v2, main_v3, main_cst, main_v4, main_v5, main_cst_0, main_v6, main_v7, main_cst_1, main_v8, main_v9, main_v10, main_v11, main_v12, main_v13, main_v14, main_v15]

set_option maxRecDepth 8192 in
/-- Any other buffer keeps its contents. -/
theorem norm_keep {r : Ref sig .tc} (hr : r ∉ normW) : after normOps V (Proc.devRef .tc r) = V (Proc.devRef .tc r) :=
  after_of_writes_sub normOps V (forall_writes_sub_of_map (W := normW) rfl) hr

/-- What `weightOps` writes. -/
abbrev weightW : List (Ref sig .tc) := [main_v16, main_v17, main_v18, main_v19, main_v20, main_v21, main_v22, main_v23, main_v24, main_v25, main_v26, main_v27, main_v28]

set_option maxRecDepth 8192 in
/-- Any other buffer keeps its contents. -/
theorem weight_keep {r : Ref sig .tc} (hr : r ∉ weightW) : after weightOps V (Proc.devRef .tc r) = V (Proc.devRef .tc r) :=
  after_of_writes_sub weightOps V (forall_writes_sub_of_map (W := weightW) rfl) hr

/-- What `startOps` writes. -/
abbrev startW : List (Ref sig .tc) := [main_v29, main_v30, main_v31, main_v32, main_cst_2, main_v33, main_cst_3, main_v34, main_cst_4, main_v35, main_c]

set_option maxRecDepth 8192 in
/-- Any other buffer keeps its contents. -/
theorem start_keep {r : Ref sig .tc} (hr : r ∉ startW) : after startOps V (Proc.devRef .tc r) = V (Proc.devRef .tc r) :=
  after_of_writes_sub startOps V (forall_writes_sub_of_map (W := startW) rfl) hr

/-- What `enterOps` writes. -/
abbrev enterW : List (Ref sig .tc) := [main_v36_0, main_v36_1, main_v36_2, main_v36_3, main_v36_4, main_v36_5, main_v36_6, main_v36_7, main_v36_8]

set_option maxRecDepth 8192 in
/-- Any other buffer keeps its contents. -/
theorem enter_keep {r : Ref sig .tc} (hr : r ∉ enterW) : after enterOps V (Proc.devRef .tc r) = V (Proc.devRef .tc r) :=
  after_of_writes_sub enterOps V (forall_writes_sub_of_map (W := enterW) rfl) hr

/-- What `condOps` writes. -/
abbrev condW : List (Ref sig .tc) := [main_while0c_c_19, main_while0c_v82]

set_option maxRecDepth 8192 in
/-- Any other buffer keeps its contents. -/
theorem cond_keep {r : Ref sig .tc} (hr : r ∉ condW) : after condOps V (Proc.devRef .tc r) = V (Proc.devRef .tc r) :=
  after_of_writes_sub condOps V (forall_writes_sub_of_map (W := condW) rfl) hr

/-- What `readOps` writes. -/
abbrev readW : List (Ref sig .tc) := [main_while0b_call0_c, main_while0b_call0_c_0, main_while0b_call0_c_1, main_while0b_call0_v0, main_while0b_v82, main_while0b_call1_c, main_while0b_call1_c_0, main_while0b_call1_c_1, main_while0b_call1_v0, main_while0b_v83]

set_option maxRecDepth 8192 in
/-- Any other buffer keeps its contents. -/
theorem read_keep {r : Ref sig .tc} (hr : r ∉ readW) : after readOps V (Proc.devRef .tc r) = V (Proc.devRef .tc r) :=
  after_of_writes_sub readOps V (forall_writes_sub_of_map (W := readW) rfl) hr

/-- What `stepOps` writes. -/
abbrev stepW : List (Ref sig .tc) := [main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_v98, main_while0b_v99]

set_option maxRecDepth 8192 in
/-- Any other buffer keeps its contents. -/
theorem step_keep {r : Ref sig .tc} (hr : r ∉ stepW) : after stepOps V (Proc.devRef .tc r) = V (Proc.devRef .tc r) :=
  after_of_writes_sub stepOps V (forall_writes_sub_of_map (W := stepW) rfl) hr

/-- What `writeOps` writes. -/
abbrev writeW : List (Ref sig .tc) := [main_while0b_call2_v0, main_while0b_call2_c, main_while0b_call2_c_0, main_while0b_call2_c_1, main_while0b_v100, main_while0b_call3_v0, main_while0b_call3_c, main_while0b_call3_c_0, main_while0b_call3_c_1, main_while0b_v101]

set_option maxRecDepth 8192 in
/-- Any other buffer keeps its contents. -/
theorem write_keep {r : Ref sig .tc} (hr : r ∉ writeW) : after writeOps V (Proc.devRef .tc r) = V (Proc.devRef .tc r) :=
  after_of_writes_sub writeOps V (forall_writes_sub_of_map (W := writeW) rfl) hr

/-- What `copyOps` writes. -/
abbrev copyW : List (Ref sig .tc) := [main_while0b_c_19, main_while0b_v102, main_v36_4, main_v36_5, main_v36_6, main_v36_7, main_v36_8]

set_option maxRecDepth 8192 in
/-- Any other buffer keeps its contents. -/
theorem copy_keep {r : Ref sig .tc} (hr : r ∉ copyW) : after copyOps V (Proc.devRef .tc r) = V (Proc.devRef .tc r) :=
  after_of_writes_sub copyOps V (forall_writes_sub_of_map (W := copyW) rfl) hr

/-- What `outOps` writes. -/
abbrev outW : List (Ref sig .tc) := [main_v37, main_v38, main_v39, main_v40, main_v41, main_v42, main_v43, main_v44, main_v45, main_v46, main_v47]

set_option maxRecDepth 8192 in
/-- Any other buffer keeps its contents. -/
theorem out_keep {r : Ref sig .tc} (hr : r ∉ outW) : after outOps V (Proc.devRef .tc r) = V (Proc.devRef .tc r) :=
  after_of_writes_sub outOps V (forall_writes_sub_of_map (W := outW) rfl) hr

/-- What `geluOps` writes. -/
abbrev geluW : List (Ref sig .tc) := [main_v48, main_v49, main_cst_5, main_v50, main_v51, main_v52, main_cst_6, main_v53, main_v54, main_v55, main_cst_7, main_v56, main_v57, main_cst_8, main_v58, main_v59, main_v60]

set_option maxRecDepth 8192 in
/-- Any other buffer keeps its contents. -/
theorem gelu_keep {r : Ref sig .tc} (hr : r ∉ geluW) : after geluOps V (Proc.devRef .tc r) = V (Proc.devRef .tc r) :=
  after_of_writes_sub geluOps V (forall_writes_sub_of_map (W := geluW) rfl) hr

/-- What `mixOps` writes. -/
abbrev mixW : List (Ref sig .tc) := [main_v61, main_v62, main_v63, main_v64, main_v65, main_v66, main_v67, main_v68, main_v69, main_v70, main_v71, main_v72, main_v73, main_v74, main_cst_9, main_v75, main_v76, main_cst_10, main_v77, main_v78, main_v79, main_v80, main_v81]

set_option maxRecDepth 8192 in
/-- Any other buffer keeps its contents. -/
theorem mix_keep {r : Ref sig .tc} (hr : r ∉ mixW) : after mixOps V (Proc.devRef .tc r) = V (Proc.devRef .tc r) :=
  after_of_writes_sub mixOps V (forall_writes_sub_of_map (W := mixW) rfl) hr

end Cert.ScanOps

end
-- ==== Proof.ScanSteps.lean ====
/-
  The reference of the state-space call, list by list: what each list of operations leaves in the buffers read later, from
  any contents.
-/
module

public import proofs.«01_k».proof.Proof.ScanOps
public import Idealize.ShloMosaic.Lib.StableHlo.RunClose
public import Idealize.ShloMosaic.Lib.DynamicIndex

@[expose] public section

set_option maxRecDepth 16384

noncomputable section

open Idealize.ShloMosaic Idealize.ShloMosaic.TcCoe Idealize.ShloMosaic.StableHlo Idealize.SL.Sem
open scoped BigOperators

namespace Cert.ScanSteps

open Cert.ScanRefIdeal Cert.ScanRefIdeal.Gen Cert.ScanOps

/-! ## The arrays the lists compute -/

/-- Time first. -/
def rowsF (x : FVec Ideal S16x2048x1024 .f32) : FVec Ideal S2048x16x1024 .f32 :=
  transpose S2048x16x1024 [1, 0, 2] x transposes_S16x2048x1024_S2048x16x1024_1_0_2

/-- The normalised activations. -/
def normF (x : FVec Ideal S2048x16x1024 .f32) (w : FVec Ideal S2x1024 .f32) : FVec Ideal S2048x16x1024 .f32 :=
  mulf (mulf x (broadcastInDim S2048x16x1024 ![0, 1, 2] bcast_S2048x16x1_S2048x16x1024_0_1_2 (Host.rsqrt (addf (Host.divf (broadcastInDim S2048x16x1 ![0, 1] bcast_S2048x16_S2048x16x1_0_1 (Host.reduceAdd (mulf x x) (constant S_ .f32 0x00000000#32) reducesTo_S2048x16x1024_S2048x16_d2 h_S_)) (broadcastInDim S2048x16x1 ![] bcast_S_S2048x16x1 (constant S_ .f32 0x44800000#32))) (broadcastInDim S2048x16x1 ![] bcast_S_S2048x16x1 (constant S_ .f32 0x358637BD#32))))))
    (broadcastInDim S2048x16x1024 ![0, 1, 2] bcast_S1x1x1024_S2048x16x1024_0_1_2 (broadcastInDim S1x1x1024 ![2] bcast_S1024_S1x1x1024_2 (shapeCast S1024 (extractStridedSlice S1x1024 ![1, 0] w slices_S2x1024_S1x1024_1_0) shapeCasts_S1x1024_S1024)))

/-- The activations in groups of channels. -/
def groupF (u : FVec Ideal S2048x16x1024 .f32) : FVec Ideal S2048x16x4x256 .f32 := shapeCast S2048x16x4x256 u shapeCasts_S2048x16x1024_S2048x16x4x256

/-- What drives one part of the states, from that part of the input weights. -/
def driveF (B : FVec Ideal S4x256x1024 .f32) (u : FVec Ideal S2048x16x4x256 .f32) : FVec Ideal S2048x16x4x1024 .f32 :=
  transpose S2048x16x4x1024 [2, 3, 0, 1] (Host.dotGeneral dot_S4x256x1024_S2048x16x4x256_S4x1024x2048x16_1_3_2_01_0_2 none B u) transposes_S4x1024x2048x16_S2048x16x4x1024_2_3_0_1

/-- The parts of the input weights, of the read-out weights and of the decays. -/
def inReF (B : FVec Ideal S4x256x2048 .bf16) : FVec Ideal S4x256x1024 .f32 := extf .f32 (extractStridedSlice S4x256x1024 ![0, 0, 0] B slices_S4x256x2048_S4x256x1024_0_0_0) bitsLt_bf16_f32
def inImF (B : FVec Ideal S4x256x2048 .bf16) : FVec Ideal S4x256x1024 .f32 := extf .f32 (extractStridedSlice S4x256x1024 ![0, 0, 1024] B slices_S4x256x2048_S4x256x1024_0_0_1024) bitsLt_bf16_f32
def outReF (C : FVec Ideal S4x2048x256 .bf16) : FVec Ideal S4x1024x256 .f32 := extf .f32 (extractStridedSlice S4x1024x256 ![0, 0, 0] C slices_S4x2048x256_S4x1024x256_0_0_0) bitsLt_bf16_f32
def outImF (C : FVec Ideal S4x2048x256 .bf16) : FVec Ideal S4x1024x256 .f32 := extf .f32 (extractStridedSlice S4x1024x256 ![0, 1024, 0] C slices_S4x2048x256_S4x1024x256_0_1024_0) bitsLt_bf16_f32
def decReF (L : FVec Ideal S4x8x2048 .f32) : FVec Ideal S4x1024 .f32 := shapeCast S4x1024 (extractStridedSlice S4x1x1024 ![0, 0, 0] L slices_S4x8x2048_S4x1x1024_0_0_0) shapeCasts_S4x1x1024_S4x1024
def decImF (L : FVec Ideal S4x8x2048 .f32) : FVec Ideal S4x1024 .f32 := shapeCast S4x1024 (extractStridedSlice S4x1x1024 ![0, 0, 1024] L slices_S4x8x2048_S4x1x1024_0_0_1024) shapeCasts_S4x1x1024_S4x1024

/-- The states at rest, and their arrays before the loop. -/
def restF : FVec Ideal S16x4x1024 .f32 := broadcastInDim S16x4x1024 ![] bcast_S_S16x4x1024 (constant S_ .f32 0x00000000#32)
def blankF : FVec Ideal S2048x16x4x1024 .f32 := broadcastInDim S2048x16x4x1024 ![] bcast_S_S2048x16x4x1024 (constant S_ .f32 0x00000000#32)

/-- The decays, repeated over the sequences. -/
def overF (l : FVec Ideal S4x1024 .f32) : FVec Ideal S16x4x1024 .f32 :=
  broadcastInDim S16x4x1024 ![0, 1, 2] bcast_S1x4x1024_S16x4x1024_0_1_2 (broadcastInDim S1x4x1024 ![1, 2] bcast_S4x1024_S1x4x1024_1_2 l)

/-- One step of the states' two parts. -/
def stepReF (lr li : FVec Ideal S4x1024 .f32) (re im bu : FVec Ideal S16x4x1024 .f32) : FVec Ideal S16x4x1024 .f32 :=
  addf (subf (mulf (overF lr) re) (mulf (overF li) im)) bu
def stepImF (lr li : FVec Ideal S4x1024 .f32) (re im bu : FVec Ideal S16x4x1024 .f32) : FVec Ideal S16x4x1024 .f32 :=
  addf (addf (mulf (overF lr) im) (mulf (overF li) re)) bu

/-- The start of one time step's block. -/
def startF (i : IVec S_ 32) : Fin S2048x16x4x1024.rank → Int :=
  fun k => ((![i, constantI S_ 32 0#32, constantI S_ 32 0#32, constantI S_ 32 0#32] : Fin 4 → IVec S_ 32) k (Shape.Idx.first h_S_)).toInt

/-- One time step read out of an array, and written into one. -/
def pickF (A : FVec Ideal S2048x16x4x1024 .f32) (i : IVec S_ 32) : FVec Ideal S16x4x1024 .f32 :=
  shapeCast S16x4x1024 (Host.dynamicSlice S1x16x4x1024 A (startF i) sliceFits_S2048x16x4x1024_S1x16x4x1024) shapeCasts_S1x16x4x1024_S16x4x1024
def putF (A : FVec Ideal S2048x16x4x1024 .f32) (u : FVec Ideal S16x4x1024 .f32) (i : IVec S_ 32) : FVec Ideal S2048x16x4x1024 .f32 :=
  Host.dynamicUpdateSlice A (broadcastInDim S1x16x4x1024 ![1, 2, 3] bcast_S16x4x1024_S1x16x4x1024_1_2_3 u) (startF i) updateFits_S2048x16x4x1024_S1x16x4x1024

/-- One part of the states read out. -/
def readF (C : FVec Ideal S4x1024x256 .f32) (s : FVec Ideal S2048x16x4x1024 .f32) : FVec Ideal S2048x16x4x256 .f32 :=
  transpose S2048x16x4x256 [2, 3, 0, 1] (Host.dotGeneral dot_S4x1024x256_S2048x16x4x1024_S4x256x2048x16_1_3_2_01_0_2 none C s) transposes_S4x256x2048x16_S2048x16x4x256_2_3_0_1

/-- A row of weights over all positions. -/
def wideF (d : FVec Ideal S1x1024 .f32) : FVec Ideal S2048x16x1024 .f32 :=
  broadcastInDim S2048x16x1024 ![0, 1, 2] bcast_S1x1x1024_S2048x16x1024_0_1_2 (broadcastInDim S1x1x1024 ![2] bcast_S1024_S1x1x1024_2 (shapeCast S1024 d shapeCasts_S1x1024_S1024))

/-- The states read out, with the skip. -/
def outF (p q : FVec Ideal S2048x16x4x256 .f32) (d : FVec Ideal S1x1024 .f32) (u : FVec Ideal S2048x16x1024 .f32) : FVec Ideal S2048x16x1024 .f32 :=
  addf (shapeCast S2048x16x1024 (addf p q) shapeCasts_S2048x16x4x256_S2048x16x1024) (mulf (wideF d) u)

/-- The gelu. -/
def geluF (y : FVec Ideal S2048x16x1024 .f32) : FVec Ideal S2048x16x1024 .f32 :=
  mulf y (mulf (broadcastInDim S2048x16x1024 ![] bcast_S_S2048x16x1024 (constant S_ .f32 0x3F000000#32)) (addf (broadcastInDim S2048x16x1024 ![] bcast_S_S2048x16x1024 (constant S_ .f32 0x3F800000#32)) (Host.tanh (mulf (broadcastInDim S2048x16x1024 ![] bcast_S_S2048x16x1024 (constant S_ .f32 0x3F4C422A#32)) (addf y (mulf (broadcastInDim S2048x16x1024 ![] bcast_S_S2048x16x1024 (constant S_ .f32 0x3D372713#32)) (mulf (mulf y y) y)))))))

/-- A projection with its bias. -/
def projF (g : FVec Ideal S2048x16x1024 .f32) (w : FVec Ideal S1x1024x1024 .f32) (b : FVec Ideal S1x1024 .f32) : FVec Ideal S2048x16x1024 .f32 :=
  addf (Host.dotGeneral dot_S2048x16x1024_S1024x1024_S2048x16x1024_2_0_01_1_n_n none g (shapeCast S1024x1024 w shapeCasts_S1x1024x1024_S1024x1024)) (wideF b)

/-- The residual plus the gated projection, row after row. -/
def mixF (x p q : FVec Ideal S2048x16x1024 .f32) : FVec Ideal S32768x1024 .f32 :=
  shapeCast S32768x1024 (addf x (mulf p (Host.divf (broadcastInDim S2048x16x1024 ![] bcast_S_S2048x16x1024 (constant S_ .f32 0x3F800000#32)) (addf (broadcastInDim S2048x16x1024 ![] bcast_S_S2048x16x1024 (constant S_ .f32 0x3F800000#32)) (Host.exp (Host.negf q)))))) shapeCasts_S2048x16x1024_S32768x1024

/-! ## The lists, read at the buffers used later -/

section
variable (V : Valuation τ sig (Elt Ideal))

theorem norm_v0 : after normOps V (Proc.devRef .tc main_v0) = rowsF (V (Proc.devRef .tc main_arg0)) := by
  after_results_simp <;> rfl
theorem norm_v15 : after normOps V (Proc.devRef .tc main_v15) = normF (rowsF (V (Proc.devRef .tc main_arg0))) (V (Proc.devRef .tc main_arg1)) := by
  after_results_simp <;> rfl
theorem weight_v16 : after weightOps V (Proc.devRef .tc main_v16) = groupF (V (Proc.devRef .tc main_v15)) := by
  after_results_simp <;> rfl
theorem weight_v18 : after weightOps V (Proc.devRef .tc main_v18) = inReF (V (Proc.devRef .tc main_arg2)) := by
  after_results_simp <;> rfl
theorem weight_v20 : after weightOps V (Proc.devRef .tc main_v20) = inImF (V (Proc.devRef .tc main_arg2)) := by
  after_results_simp <;> rfl
theorem weight_v22 : after weightOps V (Proc.devRef .tc main_v22) = outReF (V (Proc.devRef .tc main_arg4)) := by
  after_results_simp <;> rfl
theorem weight_v24 : after weightOps V (Proc.devRef .tc main_v24) = outImF (V (Proc.devRef .tc main_arg4)) := by
  after_results_simp <;> rfl
theorem weight_v26 : after weightOps V (Proc.devRef .tc main_v26) = decReF (V (Proc.devRef .tc main_arg3)) := by
  after_results_simp <;> rfl
theorem weight_v28 : after weightOps V (Proc.devRef .tc main_v28) = decImF (V (Proc.devRef .tc main_arg3)) := by
  after_results_simp <;> rfl
theorem start_v30 : after startOps V (Proc.devRef .tc main_v30) = driveF (V (Proc.devRef .tc main_v18)) (V (Proc.devRef .tc main_v16)) := by
  after_results_simp <;> rfl
theorem start_v32 : after startOps V (Proc.devRef .tc main_v32) = driveF (V (Proc.devRef .tc main_v20)) (V (Proc.devRef .tc main_v16)) := by
  after_results_simp <;> rfl
theorem start_v33 : after startOps V (Proc.devRef .tc main_v33) = restF := by
  after_results_simp <;> rfl
theorem start_v34 : after startOps V (Proc.devRef .tc main_v34) = blankF := by
  after_results_simp <;> rfl
theorem start_v35 : after startOps V (Proc.devRef .tc main_v35) = blankF := by
  after_results_simp <;> rfl
theorem start_c : after startOps V (Proc.devRef .tc main_c) = constantI S_ 32 0#32 := by
  after_results_simp <;> rfl
theorem enter_0 : after enterOps V (Proc.devRef .tc main_v36_0) = V (Proc.devRef .tc main_v30) := by
  after_results_simp <;> rfl
theorem enter_1 : after enterOps V (Proc.devRef .tc main_v36_1) = V (Proc.devRef .tc main_v32) := by
  after_results_simp <;> rfl
theorem enter_2 : after enterOps V (Proc.devRef .tc main_v36_2) = V (Proc.devRef .tc main_v26) := by
  after_results_simp <;> rfl
theorem enter_3 : after enterOps V (Proc.devRef .tc main_v36_3) = V (Proc.devRef .tc main_v28) := by
  after_results_simp <;> rfl
theorem enter_4 : after enterOps V (Proc.devRef .tc main_v36_4) = V (Proc.devRef .tc main_c) := by
  after_results_simp <;> rfl
theorem enter_5 : after enterOps V (Proc.devRef .tc main_v36_5) = V (Proc.devRef .tc main_v33) := by
  after_results_simp <;> rfl
theorem enter_6 : after enterOps V (Proc.devRef .tc main_v36_6) = V (Proc.devRef .tc main_v33) := by
  after_results_simp <;> rfl
theorem enter_7 : after enterOps V (Proc.devRef .tc main_v36_7) = V (Proc.devRef .tc main_v34) := by
  after_results_simp <;> rfl
theorem enter_8 : after enterOps V (Proc.devRef .tc main_v36_8) = V (Proc.devRef .tc main_v35) := by
  after_results_simp <;> rfl
theorem read_v82 : after readOps V (Proc.devRef .tc main_while0b_v82) = pickF (V (Proc.devRef .tc main_v36_0)) (V (Proc.devRef .tc main_v36_4)) := by
  after_results_simp_entrywise <;> rfl
theorem read_v83 : after readOps V (Proc.devRef .tc main_while0b_v83) = pickF (V (Proc.devRef .tc main_v36_1)) (V (Proc.devRef .tc main_v36_4)) := by
  after_results_simp_entrywise <;> rfl
theorem step_v91 : after stepOps V (Proc.devRef .tc main_while0b_v91)
    = stepReF (V (Proc.devRef .tc main_v36_2)) (V (Proc.devRef .tc main_v36_3)) (V (Proc.devRef .tc main_v36_5)) (V (Proc.devRef .tc main_v36_6)) (V (Proc.devRef .tc main_while0b_v82)) := by
  after_results_simp <;> rfl
theorem step_v99 : after stepOps V (Proc.devRef .tc main_while0b_v99)
    = stepImF (V (Proc.devRef .tc main_v36_2)) (V (Proc.devRef .tc main_v36_3)) (V (Proc.devRef .tc main_v36_5)) (V (Proc.devRef .tc main_v36_6)) (V (Proc.devRef .tc main_while0b_v83)) := by
  after_results_simp <;> rfl
theorem write_v100 : after writeOps V (Proc.devRef .tc main_while0b_v100) = putF (V (Proc.devRef .tc main_v36_7)) (V (Proc.devRef .tc main_while0b_v91)) (V (Proc.devRef .tc main_v36_4)) := by
  after_results_simp_entrywise <;> rfl
theorem write_v101 : after writeOps V (Proc.devRef .tc main_while0b_v101) = putF (V (Proc.devRef .tc main_v36_8)) (V (Proc.devRef .tc main_while0b_v99)) (V (Proc.devRef .tc main_v36_4)) := by
  after_results_simp_entrywise <;> rfl
theorem copy_4 : after copyOps V (Proc.devRef .tc main_v36_4) = addi (V (Proc.devRef .tc main_v36_4) : IVec S_ 32) (constantI S_ 32 1#32) := by
  after_results_simp <;> rfl
theorem copy_5 : after copyOps V (Proc.devRef .tc main_v36_5) = V (Proc.devRef .tc main_while0b_v91) := by
  after_results_simp <;> rfl
theorem copy_6 : after copyOps V (Proc.devRef .tc main_v36_6) = V (Proc.devRef .tc main_while0b_v99) := by
  after_results_simp <;> rfl
theorem copy_7 : after copyOps V (Proc.devRef .tc main_v36_7) = V (Proc.devRef .tc main_while0b_v100) := by
  after_results_simp <;> rfl
theorem copy_8 : after copyOps V (Proc.devRef .tc main_v36_8) = V (Proc.devRef .tc main_while0b_v101) := by
  after_results_simp <;> rfl
theorem out_v47 : after outOps V (Proc.devRef .tc main_v47)
    = outF (readF (V (Proc.devRef .tc main_v22)) (V (Proc.devRef .tc main_v36_7))) (readF (V (Proc.devRef .tc main_v24)) (V (Proc.devRef .tc main_v36_8))) (V (Proc.devRef .tc main_arg5)) (V (Proc.devRef .tc main_v15)) := by
  after_results_simp <;> rfl
theorem gelu_v60 : after geluOps V (Proc.devRef .tc main_v60) = geluF (V (Proc.devRef .tc main_v47)) := by
  after_results_simp <;> rfl
theorem mix_v81 : after mixOps V (Proc.devRef .tc main_v81)
    = mixF (V (Proc.devRef .tc main_v0)) (projF (V (Proc.devRef .tc main_v60)) (V (Proc.devRef .tc main_arg6)) (V (Proc.devRef .tc main_arg7)))
        (projF (V (Proc.devRef .tc main_v60)) (V (Proc.devRef .tc main_arg8)) (V (Proc.devRef .tc main_arg9))) := by
  after_results_simp <;> rfl
end

end Cert.ScanSteps

end
-- ==== Proof.ScanValues.lean ====
/-
  The arrays the reference of the state-space call computes, read at an entry.
-/
module

public import proofs.«01_k».proof.Proof.ScanSteps
public import proofs.«01_k».proof.Proof.ScanWhole
public import Idealize.ShloMosaic.Lib.WordCmp

@[expose] public section

set_option maxRecDepth 16384

noncomputable section

open Idealize.ShloMosaic Idealize.ShloMosaic.TcCoe Idealize.SL.Sem
open scoped BigOperators

namespace Cert.ScanSteps

open Cert.ScanRefIdeal Cert.ScanRefIdeal.Gen

theorem rowsF_apply (x : FVec Ideal S16x2048x1024 .f32) (t : Fin 2048) (b : Fin 16) (k : Fin 1024) :
    rowsF x (ix3 t b k) = x (ix3 b t k) := by
  pointwise [rowsF]

theorem normF_apply (x : FVec Ideal S2048x16x1024 .f32) (w : FVec Ideal S2x1024 .f32) (t : Fin 2048) (b : Fin 16) (k : Fin 1024) :
    normF x w (ix3 t b k) = FfnRow.normed (fun k => x (ix3 t b k)) (fun k => w (ix2 1 k)) k := by
  pointwise [normF, FfnRow.normed]

theorem groupF_apply (u : FVec Ideal S2048x16x1024 .f32) (t : Fin 2048) (b : Fin 16) (k : Fin 4) (c : Fin 256) :
    groupF u (ix4 t b k c) = u (ix3 t b ⟨256 * k + c, by omega⟩) := by
  have e : (⟨256 * k + c, by omega⟩ : Fin 1024) = ⟨k * 256 + c, by omega⟩ := Fin.ext (show 256 * (k : ℕ) + c = k * 256 + c by omega)
  rw [e]
  pointwise [groupF]

theorem driveF_apply (B : FVec Ideal S4x256x1024 .f32) (u : FVec Ideal S2048x16x4x256 .f32) (t : Fin 2048) (b : Fin 16) (k : Fin 4) (n : Fin 1024) :
    driveF B u (ix4 t b k n) = ∑ c : Fin 256, B (ix3 k c n) * u (ix4 t b k c) := by
  pointwise [driveF]

theorem inReF_apply (B : FVec Ideal S4x256x2048 .bf16) (k : Fin 4) (c : Fin 256) (n : Fin 1024) : inReF B (ix3 k c n) = B (ix3 k c ⟨n, by omega⟩) := by
  pointwise [inReF]
theorem inImF_apply (B : FVec Ideal S4x256x2048 .bf16) (k : Fin 4) (c : Fin 256) (n : Fin 1024) : inImF B (ix3 k c n) = B (ix3 k c ⟨1024 + n, by omega⟩) := by
  pointwise [inImF]
theorem outReF_apply (C : FVec Ideal S4x2048x256 .bf16) (k : Fin 4) (n : Fin 1024) (c : Fin 256) : outReF C (ix3 k n c) = C (ix3 k ⟨n, by omega⟩ c) := by
  pointwise [outReF]
theorem outImF_apply (C : FVec Ideal S4x2048x256 .bf16) (k : Fin 4) (n : Fin 1024) (c : Fin 256) : outImF C (ix3 k n c) = C (ix3 k ⟨1024 + n, by omega⟩ c) := by
  pointwise [outImF]
theorem decReF_apply (L : FVec Ideal S4x8x2048 .f32) (k : Fin 4) (n : Fin 1024) : decReF L (ix2 k n) = L (ix3 k 0 ⟨n, by omega⟩) := by
  pointwise [decReF]
theorem decImF_apply (L : FVec Ideal S4x8x2048 .f32) (k : Fin 4) (n : Fin 1024) : decImF L (ix2 k n) = L (ix3 k 0 ⟨1024 + n, by omega⟩) := by
  pointwise [decImF]

theorem restF_apply (b : Fin 16) (k : Fin 4) (n : Fin 1024) : restF (ix3 b k n) = 0 := by
  pointwise [restF]

theorem overF_apply (l : FVec Ideal S4x1024 .f32) (b : Fin 16) (k : Fin 4) (n : Fin 1024) : overF l (ix3 b k n) = l (ix2 k n) := by
  pointwise [overF]

theorem stepReF_apply (lr li : FVec Ideal S4x1024 .f32) (re im bu : FVec Ideal S16x4x1024 .f32) (b : Fin 16) (k : Fin 4) (n : Fin 1024) :
    stepReF lr li re im bu (ix3 b k n) = lr (ix2 k n) * re (ix3 b k n) - li (ix2 k n) * im (ix3 b k n) + bu (ix3 b k n) := by
  pointwise [stepReF, overF]
theorem stepImF_apply (lr li : FVec Ideal S4x1024 .f32) (re im bu : FVec Ideal S16x4x1024 .f32) (b : Fin 16) (k : Fin 4) (n : Fin 1024) :
    stepImF lr li re im bu (ix3 b k n) = lr (ix2 k n) * im (ix3 b k n) + li (ix2 k n) * re (ix3 b k n) + bu (ix3 b k n) := by
  pointwise [stepImF, overF]

/-- The start of time step `t`'s block. -/
theorem startF_eq (i : IVec S_ 32) (t : Fin 2048) (h : i (Shape.Idx.first h_S_) = BitVec.ofNat 32 t) (a : Fin S2048x16x4x1024.rank) :
    startF i a = (((![(t : ℕ), 0, 0, 0] : Fin 4 → ℕ) a : ℕ) : Int) := by
  have h0 : startF i 0 = ((t : ℕ) : Int) := by
    show (i (Shape.Idx.first h_S_)).toInt = _
    rw [h]
    exact toInt_ofNat_of_lt (by omega)
  match a with
  | 0 => exact h0
  | 1 => rfl
  | 2 => rfl
  | 3 => rfl

theorem fits (t : Fin 2048) : S2048x16x4x1024.Slices (![(t : ℕ), 0, 0, 0] : Fin 4 → ℕ) S1x16x4x1024 :=
  ⟨rfl, fun a => by
    have ht := t.isLt
    match a with
    | 0 => show (t : ℕ) + 1 ≤ 2048; omega
    | 1 => show 0 + 16 ≤ 16; omega
    | 2 => show 0 + 4 ≤ 4; omega
    | 3 => show 0 + 1024 ≤ 1024; omega⟩

theorem pickF_apply (A : FVec Ideal S2048x16x4x1024 .f32) (i : IVec S_ 32) (t : Fin 2048) (h : i (Shape.Idx.first h_S_) = BitVec.ofNat 32 t)
    (b : Fin 16) (k : Fin 4) (n : Fin 1024) : pickF A i (ix3 b k n) = A (ix4 t b k n) := by
  unfold pickF
  rw [Host.dynamicSlice_eq_extractStridedSlice S1x16x4x1024 A (startF i) _ sliceFits_S2048x16x4x1024_S1x16x4x1024 (fits t) (startF_eq i t h)]
  pointwise []

theorem putF_apply (A : FVec Ideal S2048x16x4x1024 .f32) (u : FVec Ideal S16x4x1024 .f32) (i : IVec S_ 32) (t : Fin 2048)
    (h : i (Shape.Idx.first h_S_) = BitVec.ofNat 32 t) (t' : Fin 2048) (b : Fin 16) (k : Fin 4) (n : Fin 1024) :
    putF A u i (ix4 t' b k n) = if t' = t then u (ix3 b k n) else A (ix4 t' b k n) := by
  unfold putF
  rw [Host.dynamicUpdateSlice_eq_updateSlice A _ (startF i) updateFits_S2048x16x4x1024_S1x16x4x1024 _ (fun a => by
    have := (fits t).2 a
    rw [startF_eq i t h a]
    omega) (fits t)]
  unfold updateSlice
  by_cases e : t' = t
  · rw [if_pos e, dif_pos (fun a => ?_)]
    · refine (congrArg (broadcastInDim S1x16x4x1024 ![1, 2, 3] bcast_S16x4x1024_S1x16x4x1024_1_2_3 u) (?_ : _ = (ix4 0 b k n : S1x16x4x1024.Idx))).trans ?_
      · subst e
        funext a
        apply Fin.ext
        match a with
        | 0 => exact Nat.sub_self _
        | 1 => rfl
        | 2 => rfl
        | 3 => rfl
      · pointwise []
    · subst e
      match a with
      | 0 => exact ⟨le_refl _, Nat.lt_succ_self _⟩
      | 1 => exact ⟨Nat.zero_le _, show (b : ℕ) < 0 + 16 by omega⟩
      | 2 => exact ⟨Nat.zero_le _, show (k : ℕ) < 0 + 4 by omega⟩
      | 3 => exact ⟨Nat.zero_le _, show (n : ℕ) < 0 + 1024 by omega⟩
  · rw [if_neg e, dif_neg]
    intro hin
    have h0 : (t : ℕ) ≤ t' ∧ (t' : ℕ) < t + 1 := hin 0
    exact e (Fin.ext (by omega))

theorem readF_apply (C : FVec Ideal S4x1024x256 .f32) (s : FVec Ideal S2048x16x4x1024 .f32) (t : Fin 2048) (b : Fin 16) (k : Fin 4) (c : Fin 256) :
    readF C s (ix4 t b k c) = ∑ n : Fin 1024, C (ix3 k n c) * s (ix4 t b k n) := by
  pointwise [readF]

theorem wideF_apply (d : FVec Ideal S1x1024 .f32) (t : Fin 2048) (b : Fin 16) (j : Fin 1024) : wideF d (ix3 t b j) = d (ix2 0 j) := by
  pointwise [wideF]

theorem outF_apply (p q : FVec Ideal S2048x16x4x256 .f32) (d : FVec Ideal S1x1024 .f32) (u : FVec Ideal S2048x16x1024 .f32) (t : Fin 2048) (b : Fin 16) (j : Fin 1024) :
    outF p q d u (ix3 t b j) = p (ix4 t b ⟨j / 256, by omega⟩ ⟨j % 256, by omega⟩) + q (ix4 t b ⟨j / 256, by omega⟩ ⟨j % 256, by omega⟩) + d (ix2 0 j) * u (ix3 t b j) := by
  pointwise [outF, wideF]

theorem geluF_apply (y : FVec Ideal S2048x16x1024 .f32) (i : S2048x16x1024.Idx) : geluF y i = ScanRow.gelu (y i) := by
  have e : y i * (y i * y i) = y i * y i * y i := mul_comm _ _
  unfold ScanRow.gelu
  rw [e]
  pointwise [geluF]

theorem projF_apply (g : FVec Ideal S2048x16x1024 .f32) (w : FVec Ideal S1x1024x1024 .f32) (o : FVec Ideal S1x1024 .f32) (t : Fin 2048) (b : Fin 16) (c : Fin 1024) :
    projF g w o (ix3 t b c) = (∑ j : Fin 1024, g (ix3 t b j) * w (ix3 0 j c)) + o (ix2 0 c) := by
  pointwise [projF, wideF]

theorem mixF_apply (x p q : FVec Ideal S2048x16x1024 .f32) (r : Fin 32768) (c : Fin 1024) :
    mixF x p q (ix2 r c) = x (ix3 ⟨r / 16, by omega⟩ ⟨r % 16, by omega⟩ c) + p (ix3 ⟨r / 16, by omega⟩ ⟨r % 16, by omega⟩ c)
      * Ideal.div (Ideal.ofBits .f32 0x3F800000#32) (Ideal.ofBits .f32 0x3F800000#32 + Ideal.exp (-(q (ix3 ⟨r / 16, by omega⟩ ⟨r % 16, by omega⟩ c)))) := by
  pointwise [mixF]

end Cert.ScanSteps

end
-- ==== Proof.ScanLoop.lean ====
/-
  The loop of the state-space call's reference: what one trip does, and the loop's buffers before every trip.
-/
module

public import proofs.«01_k».proof.Proof.ScanKeep
public import proofs.«01_k».proof.Proof.ScanValues

@[expose] public section

set_option maxRecDepth 16384

noncomputable section

open Idealize.ShloMosaic Idealize.ShloMosaic.TcCoe Idealize.ShloMosaic.StableHlo Idealize.SL.Sem

namespace Cert.ScanLoop

open Cert.ScanRefIdeal Cert.ScanRefIdeal.Gen Cert.ScanOps Cert.ScanSteps

section
variable (V : Valuation τ sig (Elt Ideal))

/-- One trip: the exit test's operations, then the body's. -/
def trip : Valuation τ sig (Elt Ideal) := after copyOps (after writeOps (after stepOps (after readOps (after condOps V))))

/-- The buffers a trip writes. -/
abbrev tripW : List (Ref sig .tc) := condW ++ readW ++ stepW ++ writeW ++ copyW

/-- Any other buffer keeps its contents. -/
theorem trip_keep {r : Ref sig .tc} (hr : r ∉ tripW) : trip V (Proc.devRef .tc r) = V (Proc.devRef .tc r) := by
  simp only [tripW, List.mem_append, not_or] at hr
  obtain ⟨⟨⟨⟨h1, h2⟩, h3⟩, h4⟩, h5⟩ := hr
  unfold trip
  rw [copy_keep _ h5, write_keep _ h4, step_keep _ h3, read_keep _ h2, cond_keep _ h1]

/-- The step's drives. -/
theorem trip_v82 : after readOps (after condOps V) (Proc.devRef .tc main_while0b_v82) = pickF (V (Proc.devRef .tc main_v36_0)) (V (Proc.devRef .tc main_v36_4)) := by
  rw [read_v82, cond_keep V (r := main_v36_0) (by decide), cond_keep V (r := main_v36_4) (by decide)]
theorem trip_v83 : after readOps (after condOps V) (Proc.devRef .tc main_while0b_v83) = pickF (V (Proc.devRef .tc main_v36_1)) (V (Proc.devRef .tc main_v36_4)) := by
  rw [read_v83, cond_keep V (r := main_v36_1) (by decide), cond_keep V (r := main_v36_4) (by decide)]

/-- What a buffer that neither the exit test nor the reads write holds before the step. -/
theorem trip_early {r : Ref sig .tc} (h1 : r ∉ condW) (h2 : r ∉ readW) : after readOps (after condOps V) (Proc.devRef .tc r) = V (Proc.devRef .tc r) := by
  rw [read_keep _ h2, cond_keep _ h1]

/-- The states after the step. -/
theorem trip_v91 : after stepOps (after readOps (after condOps V)) (Proc.devRef .tc main_while0b_v91)
    = stepReF (V (Proc.devRef .tc main_v36_2)) (V (Proc.devRef .tc main_v36_3)) (V (Proc.devRef .tc main_v36_5)) (V (Proc.devRef .tc main_v36_6))
        (pickF (V (Proc.devRef .tc main_v36_0)) (V (Proc.devRef .tc main_v36_4))) := by
  rw [step_v91, trip_v82, trip_early V (r := main_v36_2) (by decide) (by decide), trip_early V (r := main_v36_3) (by decide) (by decide),
    trip_early V (r := main_v36_5) (by decide) (by decide), trip_early V (r := main_v36_6) (by decide) (by decide)]
theorem trip_v99 : after stepOps (after readOps (after condOps V)) (Proc.devRef .tc main_while0b_v99)
    = stepImF (V (Proc.devRef .tc main_v36_2)) (V (Proc.devRef .tc main_v36_3)) (V (Proc.devRef .tc main_v36_5)) (V (Proc.devRef .tc main_v36_6))
        (pickF (V (Proc.devRef .tc main_v36_1)) (V (Proc.devRef .tc main_v36_4))) := by
  rw [step_v99, trip_v83, trip_early V (r := main_v36_2) (by decide) (by decide), trip_early V (r := main_v36_3) (by decide) (by decide),
    trip_early V (r := main_v36_5) (by decide) (by decide), trip_early V (r := main_v36_6) (by decide) (by decide)]

/-- What a trip leaves in the loop's buffers. -/
theorem trip_4 : trip V (Proc.devRef .tc main_v36_4) = addi (V (Proc.devRef .tc main_v36_4) : IVec S_ 32) (constantI S_ 32 1#32) := by
  unfold trip
  rw [copy_4, write_keep _ (r := main_v36_4) (by decide), step_keep _ (r := main_v36_4) (by decide), trip_early V (r := main_v36_4) (by decide) (by decide)]
theorem trip_5 : trip V (Proc.devRef .tc main_v36_5)
    = stepReF (V (Proc.devRef .tc main_v36_2)) (V (Proc.devRef .tc main_v36_3)) (V (Proc.devRef .tc main_v36_5)) (V (Proc.devRef .tc main_v36_6))
        (pickF (V (Proc.devRef .tc main_v36_0)) (V (Proc.devRef .tc main_v36_4))) := by
  unfold trip
  rw [copy_5, write_keep _ (r := main_while0b_v91) (by decide), trip_v91]
theorem trip_6 : trip V (Proc.devRef .tc main_v36_6)
    = stepImF (V (Proc.devRef .tc main_v36_2)) (V (Proc.devRef .tc main_v36_3)) (V (Proc.devRef .tc main_v36_5)) (V (Proc.devRef .tc main_v36_6))
        (pickF (V (Proc.devRef .tc main_v36_1)) (V (Proc.devRef .tc main_v36_4))) := by
  unfold trip
  rw [copy_6, write_keep _ (r := main_while0b_v99) (by decide), trip_v99]
theorem trip_7 : trip V (Proc.devRef .tc main_v36_7)
    = putF (V (Proc.devRef .tc main_v36_7)) (stepReF (V (Proc.devRef .tc main_v36_2)) (V (Proc.devRef .tc main_v36_3)) (V (Proc.devRef .tc main_v36_5)) (V (Proc.devRef .tc main_v36_6))
        (pickF (V (Proc.devRef .tc main_v36_0)) (V (Proc.devRef .tc main_v36_4)))) (V (Proc.devRef .tc main_v36_4)) := by
  unfold trip
  rw [copy_7, write_v100, trip_v91, step_keep _ (r := main_v36_7) (by decide), step_keep _ (r := main_v36_4) (by decide),
    trip_early V (r := main_v36_7) (by decide) (by decide), trip_early V (r := main_v36_4) (by decide) (by decide)]
theorem trip_8 : trip V (Proc.devRef .tc main_v36_8)
    = putF (V (Proc.devRef .tc main_v36_8)) (stepImF (V (Proc.devRef .tc main_v36_2)) (V (Proc.devRef .tc main_v36_3)) (V (Proc.devRef .tc main_v36_5)) (V (Proc.devRef .tc main_v36_6))
        (pickF (V (Proc.devRef .tc main_v36_1)) (V (Proc.devRef .tc main_v36_4)))) (V (Proc.devRef .tc main_v36_4)) := by
  unfold trip
  rw [copy_8, write_v101, trip_v99, step_keep _ (r := main_v36_8) (by decide), step_keep _ (r := main_v36_4) (by decide),
    trip_early V (r := main_v36_8) (by decide) (by decide), trip_early V (r := main_v36_4) (by decide) (by decide)]
end

section
variable (W : Dev nD → Valuation τ sig (Elt Ideal)) (c : Dev nD)

/-- The contents before trip `k`. -/
def at_ (k : ℕ) : Valuation τ sig (Elt Ideal) := atTrip condOps bodyI W k c

theorem at_zero : at_ W c 0 = W c := rfl
theorem at_succ (k : ℕ) : at_ W c (k + 1) = trip (at_ W c k) := rfl

/-- A buffer the loop does not write holds what it held before it. -/
theorem at_keep {r : Ref sig .tc} (hr : r ∉ tripW) (k : ℕ) : at_ W c k (Proc.devRef .tc r) = W c (Proc.devRef .tc r) := by
  induction k with
  | zero => rfl
  | succ k ih => rw [at_succ, trip_keep _ hr, ih]

/-- The counter is the trip's number. -/
theorem at_counter (h0 : W c (Proc.devRef .tc main_v36_4) = (constantI S_ 32 0#32 : IVec S_ 32)) (k : ℕ) :
    at_ W c k (Proc.devRef .tc main_v36_4) = (constantI S_ 32 (BitVec.ofNat 32 k) : IVec S_ 32) := by
  induction k with
  | zero => exact h0
  | succ k ih =>
    rw [at_succ, trip_4, ih]
    funext i
    show BitVec.ofNat 32 k + 1#32 = BitVec.ofNat 32 (k + 1)
    exact (BitVec.ofNat_add k 1).symm

variable (A A' : FVec Ideal S2048x16x4x1024 .f32) (l l' : FVec Ideal S4x1024 .f32)

/-- State `n` of group `g` of sequence `b` after `k` steps. -/
def st (b : Fin 16) (g : Fin 4) (n : Fin 1024) (k : ℕ) : EReal × EReal :=
  ScanRow.chain (l (ix2 g n)) (l' (ix2 g n)) (0, 0) (fun m => A (ix4 ⟨m % 2048, by omega⟩ b g n)) (fun m => A' (ix4 ⟨m % 2048, by omega⟩ b g n)) k

/-- One more step. -/
theorem st_succ (b : Fin 16) (g : Fin 4) (n : Fin 1024) (t : Fin 2048) : st A A' l l' b g n (t + 1)
    = (l (ix2 g n) * (st A A' l l' b g n t).1 - l' (ix2 g n) * (st A A' l l' b g n t).2 + A (ix4 t b g n),
        l (ix2 g n) * (st A A' l l' b g n t).2 + l' (ix2 g n) * (st A A' l l' b g n t).1 + A' (ix4 t b g n)) := by
  have e : (⟨(t : ℕ) % 2048, by omega⟩ : Fin 2048) = t := Fin.ext (Nat.mod_eq_of_lt t.isLt)
  have h : st A A' l l' b g n (t + 1)
    = (l (ix2 g n) * (st A A' l l' b g n t).1 - l' (ix2 g n) * (st A A' l l' b g n t).2 + A (ix4 ⟨(t : ℕ) % 2048, by omega⟩ b g n),
        l (ix2 g n) * (st A A' l l' b g n t).2 + l' (ix2 g n) * (st A A' l l' b g n t).1 + A' (ix4 ⟨(t : ℕ) % 2048, by omega⟩ b g n)) := rfl
  rw [h, e]

/-- What the loop's buffers hold before trip `k`. -/
structure Held (V : Valuation τ sig (Elt Ideal)) (k : ℕ) : Prop where
  re : ∀ b g n, (V (Proc.devRef .tc main_v36_5) : FVec Ideal S16x4x1024 .f32) (ix3 b g n) = (st A A' l l' b g n k).1
  im : ∀ b g n, (V (Proc.devRef .tc main_v36_6) : FVec Ideal S16x4x1024 .f32) (ix3 b g n) = (st A A' l l' b g n k).2
  res : ∀ (t : Fin 2048) b g n, (t : ℕ) < k → (V (Proc.devRef .tc main_v36_7) : FVec Ideal S2048x16x4x1024 .f32) (ix4 t b g n) = (st A A' l l' b g n (t + 1)).1
  ims : ∀ (t : Fin 2048) b g n, (t : ℕ) < k → (V (Proc.devRef .tc main_v36_8) : FVec Ideal S2048x16x4x1024 .f32) (ix4 t b g n) = (st A A' l l' b g n (t + 1)).2

variable {A A' l l'}

/-- One step's two parts, at an entry. -/
theorem step_re {re im : FVec Ideal S16x4x1024 .f32} {i : IVec S_ 32} {t : Fin 2048} (hi : i (Shape.Idx.first h_S_) = BitVec.ofNat 32 t)
    {b : Fin 16} {g : Fin 4} {n : Fin 1024} (hre : re (ix3 b g n) = (st A A' l l' b g n t).1) (him : im (ix3 b g n) = (st A A' l l' b g n t).2) :
    stepReF l l' re im (pickF A i) (ix3 b g n) = (st A A' l l' b g n (t + 1)).1 := by
  rw [stepReF_apply, pickF_apply A i t hi, hre, him, st_succ]
theorem step_im {re im : FVec Ideal S16x4x1024 .f32} {i : IVec S_ 32} {t : Fin 2048} (hi : i (Shape.Idx.first h_S_) = BitVec.ofNat 32 t)
    {b : Fin 16} {g : Fin 4} {n : Fin 1024} (hre : re (ix3 b g n) = (st A A' l l' b g n t).1) (him : im (ix3 b g n) = (st A A' l l' b g n t).2) :
    stepImF l l' re im (pickF A' i) (ix3 b g n) = (st A A' l l' b g n (t + 1)).2 := by
  rw [stepImF_apply, pickF_apply A' i t hi, hre, him, st_succ]

/-- One trip goes on one step. -/
theorem Held.trip {V : Valuation τ sig (Elt Ideal)} {t : Fin 2048} (h : Held A A' l l' V t)
    (hA : V (Proc.devRef .tc main_v36_0) = A) (hA' : V (Proc.devRef .tc main_v36_1) = A') (hl : V (Proc.devRef .tc main_v36_2) = l) (hl' : V (Proc.devRef .tc main_v36_3) = l')
    (hi : (V (Proc.devRef .tc main_v36_4) : IVec S_ 32) (Shape.Idx.first h_S_) = BitVec.ofNat 32 t) : Held A A' l l' (trip V) (t + 1) where
  re b g n := by
    rw [trip_5, hA, hl, hl']
    exact step_re hi (h.re b g n) (h.im b g n)
  im b g n := by
    rw [trip_6, hA', hl, hl']
    exact step_im hi (h.re b g n) (h.im b g n)
  res s b g n hs := by
    rw [trip_7, hA, hl, hl', putF_apply _ _ _ t hi]
    by_cases e : s = t
    · rw [if_pos e, e]
      exact step_re hi (h.re b g n) (h.im b g n)
    · rw [if_neg e]
      exact h.res s b g n (by have : (s : ℕ) ≠ t := fun q => e (Fin.ext q); omega)
  ims s b g n hs := by
    rw [trip_8, hA', hl, hl', putF_apply _ _ _ t hi]
    by_cases e : s = t
    · rw [if_pos e, e]
      exact step_im hi (h.re b g n) (h.im b g n)
    · rw [if_neg e]
      exact h.ims s b g n (by have : (s : ℕ) ≠ t := fun q => e (Fin.ext q); omega)

/-- Before every trip, and after the last. -/
theorem held_at (hA : W c (Proc.devRef .tc main_v36_0) = A) (hA' : W c (Proc.devRef .tc main_v36_1) = A') (hl : W c (Proc.devRef .tc main_v36_2) = l)
    (hl' : W c (Proc.devRef .tc main_v36_3) = l') (h0 : W c (Proc.devRef .tc main_v36_4) = (constantI S_ 32 0#32 : IVec S_ 32))
    (hre : W c (Proc.devRef .tc main_v36_5) = restF) (him : W c (Proc.devRef .tc main_v36_6) = restF) (k : ℕ) (hk : k ≤ 2048) : Held A A' l l' (at_ W c k) k := by
  induction k with
  | zero =>
    rw [at_zero]
    exact ⟨fun b g n => by rw [hre]; exact restF_apply b g n, fun b g n => by rw [him]; exact restF_apply b g n,
      fun t b g n ht => absurd ht (Nat.not_lt_zero _), fun t b g n ht => absurd ht (Nat.not_lt_zero _)⟩
  | succ k ih =>
    have h := ih (by omega)
    rw [at_succ]
    refine Held.trip (t := ⟨k, by omega⟩) h ((at_keep W c (by decide) k).trans hA) ((at_keep W c (by decide) k).trans hA')
      ((at_keep W c (by decide) k).trans hl) ((at_keep W c (by decide) k).trans hl') ?_
    rw [at_counter W c h0 k]
    rfl
end

end Cert.ScanLoop

end
-- ==== Proof.ScanExit.lean ====
/-
  The loop of the state-space call's reference runs 2048 trips: the exit test holds before each of them and fails after the
  last. From this the reference's run.
-/
module

public import proofs.«01_k».proof.Proof.ScanLoop
public import Idealize.ShloMosaic.Lib.Scf.ExitTest
public import Idealize.ShloMosaic.Lib.Scf.Counter

@[expose] public section

set_option maxRecDepth 16384

noncomputable section

open Idealize.ShloMosaic Idealize.ShloMosaic.TcCoe Idealize.ShloMosaic.StableHlo
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

namespace Cert.ScanLoop

open Cert.ScanRefIdeal Cert.ScanRefIdeal.Gen Cert.ScanOps

/-- The signed comparison of a trip's number with the trip count. -/
theorem less_iff (k : ℕ) (hk : k ≤ 2048) : Iff (IntOp.cmpi .slt (BitVec.ofNat 32 k) (2048#32) = 1#1) (k < 2048) := by
  show Iff (BitVec.ofBool ((BitVec.ofNat 32 k).slt 2048#32) = 1#1) (k < 2048)
  have h : (BitVec.ofNat 32 k).slt 2048#32 = decide (k < 2048) := by
    have e : (BitVec.ofNat 32 k).toInt = (k : Int) := toInt_ofNat_of_lt (by omega)
    have e' : (2048#32 : BitVec 32).toInt = 2048 := by decide
    unfold BitVec.slt
    rw [e, e']
    exact decide_eq_decide.mpr (by omega)
  rw [h]
  by_cases q : k < 2048
  · rw [decide_eq_true q]; exact ⟨fun _ => q, fun _ => rfl⟩
  · rw [decide_eq_false q]; exact ⟨fun e => absurd e (by decide), fun e => absurd e q⟩

set_option backward.isDefEq.respectTransparency.types false in
/-- The exit test returns 1 exactly before the first 2048 trips. -/
theorem exit_spec (W : Dev nD → Valuation τ sig (Elt Ideal)) (h0 : ∀ c, W c (Proc.devRef .tc main_v36_4) = (constantI S_ 32 0#32 : IVec S_ 32)) :
    CondSpec (pcfgs (F := Ideal)) defs₀ loops main_while0_cond condOps bodyI W 2048 := by
  intro k hk c bd
  have hctr := at_counter W c (h0 c) k
  unfold at_ at hctr
  unfold main_while0_cond
  simp only [bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W k c) main_v36_4 HostLoop.idx0)
        (HloOp.result _ (atTrip condOps bodyI W k c) main_while0c_c_19 HostLoop.idx0) = 1#1) (k < 2048)
    rw [StableHlo.nullary_result_ne _ _ _ _ (by decide), StableHlo.nullary_result, hctr]
    exact less_iff k hk
  isplitl [Hb]; · iexact Hb
  rw [StableHlo.after_cons, StableHlo.after_cons, StableHlo.after_nil]; iexact Hh

section
variable (m : (ℓ : Loc nD τ sig) → Buf (Elt Ideal) ℓ)

/-- The counter starts at 0. -/
theorem entry_counter (c : Dev nD) : entryContents (preI (F := Ideal)) m c (Proc.devRef .tc main_v36_4) = (constantI S_ 32 0#32 : IVec S_ 32) := by
  unfold entryContents
  simp only [afterL_cons, afterL_nil]
  rw [ScanSteps.enter_4, ScanSteps.start_c]

/-- The reference's run: every buffer ends at what the lists, with 2048 trips between them, leave in it. -/
theorem run_all (ρ : Dev nD → PrngReg) : θ_run defs (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = finalContents (condOps (F := Ideal)) preI bodyI postI 2048 m c (Proc.devRef .tc b)) :=
  run_loop (pcfgs (F := Ideal)) defs₀ loops main 0 main_while0_cond main_while0_body rfl (preI (F := Ideal)) bodyI postI condOps
    pre_plain body_plain post_plain main_eq body_eq 2048 m ρ (exit_spec _ (entry_counter m))
end

end Cert.ScanLoop

end
-- ==== Proof.ScanRef.lean ====
/-
  The result of the state-space call's reference, as an array of its arguments and entry by entry.
-/
module

public import proofs.«01_k».proof.Proof.ScanExit

@[expose] public section

set_option maxRecDepth 16384

noncomputable section

open Idealize.ShloMosaic Idealize.ShloMosaic.TcCoe Idealize.ShloMosaic.StableHlo Idealize.SL.Sem
open scoped BigOperators

namespace Cert.ScanLoop

open Cert.ScanRefIdeal Cert.ScanRefIdeal.Gen Cert.ScanOps Cert.ScanSteps

section
variable (V : Valuation τ sig (Elt Ideal))

/-- The lists before the loop, and after it. -/
def entry : Valuation τ sig (Elt Ideal) := after enterOps (after startOps (after weightOps (after normOps V)))
def exit_ : Valuation τ sig (Elt Ideal) := after mixOps (after geluOps (after outOps (after condOps V)))

/-- The buffers they write. -/
abbrev entryW : List (Ref sig .tc) := normW ++ weightW ++ startW ++ enterW
abbrev exitW : List (Ref sig .tc) := condW ++ outW ++ geluW ++ mixW

/-- Any other buffer keeps its contents. -/
theorem entry_keep {r : Ref sig .tc} (hr : r ∉ entryW) : entry V (Proc.devRef .tc r) = V (Proc.devRef .tc r) := by
  simp only [entryW, List.mem_append, not_or] at hr
  obtain ⟨⟨⟨h1, h2⟩, h3⟩, h4⟩ := hr
  unfold entry
  rw [enter_keep _ h4, start_keep _ h3, weight_keep _ h2, norm_keep _ h1]
theorem exit_keep {r : Ref sig .tc} (hr : r ∉ exitW) : exit_ V (Proc.devRef .tc r) = V (Proc.devRef .tc r) := by
  simp only [exitW, List.mem_append, not_or] at hr
  obtain ⟨⟨⟨h1, h2⟩, h3⟩, h4⟩ := hr
  unfold exit_
  rw [mix_keep _ h4, gelu_keep _ h3, out_keep _ h2, cond_keep _ h1]

/-- The activations before the loop. -/
theorem entry_v0 : entry V (Proc.devRef .tc main_v0) = rowsF (V (Proc.devRef .tc main_arg0)) := by
  unfold entry
  rw [enter_keep _ (r := main_v0) (by decide), start_keep _ (r := main_v0) (by decide), weight_keep _ (r := main_v0) (by decide), norm_v0]
theorem entry_v15 : entry V (Proc.devRef .tc main_v15) = normF (rowsF (V (Proc.devRef .tc main_arg0))) (V (Proc.devRef .tc main_arg1)) := by
  unfold entry
  rw [enter_keep _ (r := main_v15) (by decide), start_keep _ (r := main_v15) (by decide), weight_keep _ (r := main_v15) (by decide), norm_v15]

/-- The read-out weights before the loop. -/
theorem entry_v22 : entry V (Proc.devRef .tc main_v22) = outReF (V (Proc.devRef .tc main_arg4)) := by
  unfold entry
  rw [enter_keep _ (r := main_v22) (by decide), start_keep _ (r := main_v22) (by decide), weight_v22, norm_keep _ (r := main_arg4) (by decide)]
theorem entry_v24 : entry V (Proc.devRef .tc main_v24) = outImF (V (Proc.devRef .tc main_arg4)) := by
  unfold entry
  rw [enter_keep _ (r := main_v24) (by decide), start_keep _ (r := main_v24) (by decide), weight_v24, norm_keep _ (r := main_arg4) (by decide)]

/-- The loop's buffers before it. -/
theorem entry_0 : entry V (Proc.devRef .tc main_v36_0)
    = driveF (inReF (V (Proc.devRef .tc main_arg2))) (groupF (normF (rowsF (V (Proc.devRef .tc main_arg0))) (V (Proc.devRef .tc main_arg1)))) := by
  unfold entry
  rw [enter_0, start_v30, weight_v18, weight_v16, norm_v15, norm_keep _ (r := main_arg2) (by decide)]
theorem entry_1 : entry V (Proc.devRef .tc main_v36_1)
    = driveF (inImF (V (Proc.devRef .tc main_arg2))) (groupF (normF (rowsF (V (Proc.devRef .tc main_arg0))) (V (Proc.devRef .tc main_arg1)))) := by
  unfold entry
  rw [enter_1, start_v32, weight_v20, weight_v16, norm_v15, norm_keep _ (r := main_arg2) (by decide)]
theorem entry_2 : entry V (Proc.devRef .tc main_v36_2) = decReF (V (Proc.devRef .tc main_arg3)) := by
  unfold entry
  rw [enter_2, start_keep _ (r := main_v26) (by decide), weight_v26, norm_keep _ (r := main_arg3) (by decide)]
theorem entry_3 : entry V (Proc.devRef .tc main_v36_3) = decImF (V (Proc.devRef .tc main_arg3)) := by
  unfold entry
  rw [enter_3, start_keep _ (r := main_v28) (by decide), weight_v28, norm_keep _ (r := main_arg3) (by decide)]
theorem entry_4 : entry V (Proc.devRef .tc main_v36_4) = (constantI S_ 32 0#32 : IVec S_ 32) := by
  unfold entry
  rw [enter_4, start_c]
theorem entry_5 : entry V (Proc.devRef .tc main_v36_5) = restF := by
  unfold entry
  rw [enter_5, start_v33]
theorem entry_6 : entry V (Proc.devRef .tc main_v36_6) = restF := by
  unfold entry
  rw [enter_6, start_v33]

/-- The result, from the contents after the loop. -/
theorem exit_v81 : exit_ V (Proc.devRef .tc main_v81)
    = mixF (V (Proc.devRef .tc main_v0))
        (projF (geluF (outF (readF (V (Proc.devRef .tc main_v22)) (V (Proc.devRef .tc main_v36_7))) (readF (V (Proc.devRef .tc main_v24)) (V (Proc.devRef .tc main_v36_8))) (V (Proc.devRef .tc main_arg5)) (V (Proc.devRef .tc main_v15))))
          (V (Proc.devRef .tc main_arg6)) (V (Proc.devRef .tc main_arg7)))
        (projF (geluF (outF (readF (V (Proc.devRef .tc main_v22)) (V (Proc.devRef .tc main_v36_7))) (readF (V (Proc.devRef .tc main_v24)) (V (Proc.devRef .tc main_v36_8))) (V (Proc.devRef .tc main_arg5)) (V (Proc.devRef .tc main_v15))))
          (V (Proc.devRef .tc main_arg8)) (V (Proc.devRef .tc main_arg9))) := by
  unfold exit_
  rw [mix_v81, gelu_v60, out_v47,
    gelu_keep _ (r := main_v0) (by decide), out_keep _ (r := main_v0) (by decide), cond_keep _ (r := main_v0) (by decide),
    gelu_keep _ (r := main_arg6) (by decide), out_keep _ (r := main_arg6) (by decide), cond_keep _ (r := main_arg6) (by decide),
    gelu_keep _ (r := main_arg7) (by decide), out_keep _ (r := main_arg7) (by decide), cond_keep _ (r := main_arg7) (by decide),
    gelu_keep _ (r := main_arg8) (by decide), out_keep _ (r := main_arg8) (by decide), cond_keep _ (r := main_arg8) (by decide),
    gelu_keep _ (r := main_arg9) (by decide), out_keep _ (r := main_arg9) (by decide), cond_keep _ (r := main_arg9) (by decide),
    cond_keep _ (r := main_v22) (by decide), cond_keep _ (r := main_v24) (by decide), cond_keep _ (r := main_v36_7) (by decide), cond_keep _ (r := main_v36_8) (by decide),
    cond_keep _ (r := main_arg5) (by decide), cond_keep _ (r := main_v15) (by decide)]
end

/-! ## The result -/

section
variable (x : FVec Ideal S16x2048x1024 .f32) (w : FVec Ideal S2x1024 .f32) (B : FVec Ideal S4x256x2048 .bf16) (L : FVec Ideal S4x8x2048 .f32)
  (C : FVec Ideal S4x2048x256 .bf16) (d : FVec Ideal S1x1024 .f32) (wa : FVec Ideal S1x1024x1024 .f32) (ba : FVec Ideal S1x1024 .f32)
  (wb : FVec Ideal S1x1024x1024 .f32) (bb : FVec Ideal S1x1024 .f32)

/-- A state of the loop is the call's state. -/
theorem st_eq (b : Fin 16) (g : Fin 4) (n : Fin 1024) (k : ℕ) :
    st (driveF (inReF B) (groupF (normF (rowsF x) w))) (driveF (inImF B) (groupF (normF (rowsF x) w))) (decReF L) (decImF L) b g n k
      = ScanRow.state (fun b t k => x (ix3 b t k)) (fun k => w (ix2 1 k)) (fun k a n => B (ix3 k a n)) (fun k n => L (ix3 k 0 n)) g b n k := by
  unfold st ScanRow.state ScanRow.drive ScanRow.inProd
  rw [decReF_apply, decImF_apply]
  refine ScanRow.chain_congr k (fun m _ => ?_) (fun m _ => ?_)
  · rw [driveF_apply]
    refine Finset.sum_congr rfl fun e _ => ?_
    rw [inReF_apply, groupF_apply, normF_apply, mul_comm]
    simp only [rowsF_apply]
  · rw [driveF_apply]
    refine Finset.sum_congr rfl fun e _ => ?_
    rw [inImF_apply, groupF_apply, normF_apply, mul_comm]
    simp only [rowsF_apply]

/-- The result from the arrays of states, at an entry. -/
theorem result_apply (sr si : FVec Ideal S2048x16x4x1024 .f32) (t : Fin 2048) (b : Fin 16) (T : Fin 4 → Fin 1024 → EReal × EReal)
    (hr : ∀ g n, sr (ix4 t b g n) = (T g n).1) (hi : ∀ g n, si (ix4 t b g n) = (T g n).2) (j : Fin 1024) :
    geluF (outF (readF (outReF C) sr) (readF (outImF C) si) d (normF (rowsF x) w)) (ix3 t b j)
      = ScanRow.unit (FfnRow.normed (fun k => x (ix3 b t k)) (fun k => w (ix2 1 k))) T (fun k n c => C (ix3 k ⟨n, by omega⟩ c)) (fun k n c => C (ix3 k ⟨1024 + n, by omega⟩ c))
          (fun k => d (ix2 0 k)) j := by
  rw [geluF_apply, outF_apply, readF_apply, readF_apply, normF_apply]
  unfold ScanRow.unit
  simp only [hr, hi, outReF_apply, outImF_apply, rowsF_apply]
  refine congrArg ScanRow.gelu (congrArg₂ (· + ·) (congrArg₂ (· + ·) ?_ ?_) rfl)
  · exact Finset.sum_congr rfl fun n _ => mul_comm _ _
  · exact Finset.sum_congr rfl fun n _ => mul_comm _ _

/-- Row `r` of the result is sequence `r % 16`'s output at position `r / 16`. -/
theorem row_apply (sr si : FVec Ideal S2048x16x4x1024 .f32)
    (hr : ∀ (t : Fin 2048) b g n, sr (ix4 t b g n) = (ScanRow.state (fun b t k => x (ix3 b t k)) (fun k => w (ix2 1 k)) (fun k a n => B (ix3 k a n)) (fun k n => L (ix3 k 0 n)) g b n (t + 1)).1)
    (hi : ∀ (t : Fin 2048) b g n, si (ix4 t b g n) = (ScanRow.state (fun b t k => x (ix3 b t k)) (fun k => w (ix2 1 k)) (fun k a n => B (ix3 k a n)) (fun k n => L (ix3 k 0 n)) g b n (t + 1)).2)
    (r : Fin 32768) (c : Fin 1024) :
    mixF (rowsF x) (projF (geluF (outF (readF (outReF C) sr) (readF (outImF C) si) d (normF (rowsF x) w))) wa ba)
        (projF (geluF (outF (readF (outReF C) sr) (readF (outImF C) si) d (normF (rowsF x) w))) wb bb) (ix2 r c)
      = ScanRow.position (fun b t k => x (ix3 b t k)) (fun k => w (ix2 1 k)) (fun k a n => B (ix3 k a n)) (fun k n => L (ix3 k 0 n)) (fun k n a => C (ix3 k n a))
          (fun k => d (ix2 0 k)) (fun j k => wa (ix3 0 j k)) (fun k => ba (ix2 0 k)) (fun j k => wb (ix3 0 j k)) (fun k => bb (ix2 0 k))
          ⟨(r : ℕ) % 16, by omega⟩ ⟨(r : ℕ) / 16, by omega⟩ c := by
  rw [mixF_apply, projF_apply, projF_apply, rowsF_apply]
  unfold ScanRow.position ScanRow.out
  simp only [result_apply x w C d sr si _ _ _ (hr _ _) (hi _ _)]
end

section
variable (m : (ℓ : Loc nD τ sig) → Buf (Elt Ideal) ℓ) (c : Dev nD)

/-- An argument keeps its contents. -/
theorem final_keep {r : Ref sig .tc} (h1 : r ∉ entryW) (h2 : r ∉ tripW) (h3 : r ∉ exitW) :
    finalContents (condOps (F := Ideal)) preI bodyI postI 2048 m c (Proc.devRef .tc r) = m ((c.tc : Thread nD τ).loc r) := by
  unfold finalContents
  simp only [afterL_cons, afterL_nil]
  refine (exit_keep _ h3).trans ((at_keep _ c h2 2048).trans ?_)
  unfold entryContents
  simp only [afterL_cons, afterL_nil]
  exact entry_keep _ h1

/-- The result array, an entry of it from the arguments. -/
theorem final_apply (r : Fin 32768) (j : Fin 1024) :
    (finalContents (condOps (F := Ideal)) preI bodyI postI 2048 m c (Proc.devRef .tc main_v81) : FVec Ideal S32768x1024 .f32) (ix2 r j)
      = ScanRow.position (fun b t k => (m ((c.tc : Thread nD τ).loc main_arg0) : FVec Ideal S16x2048x1024 .f32) (ix3 b t k))
          (fun k => (m ((c.tc : Thread nD τ).loc main_arg1) : FVec Ideal S2x1024 .f32) (ix2 1 k))
          (fun k a n => (m ((c.tc : Thread nD τ).loc main_arg2) : FVec Ideal S4x256x2048 .bf16) (ix3 k a n))
          (fun k n => (m ((c.tc : Thread nD τ).loc main_arg3) : FVec Ideal S4x8x2048 .f32) (ix3 k 0 n))
          (fun k n a => (m ((c.tc : Thread nD τ).loc main_arg4) : FVec Ideal S4x2048x256 .bf16) (ix3 k n a))
          (fun k => (m ((c.tc : Thread nD τ).loc main_arg5) : FVec Ideal S1x1024 .f32) (ix2 0 k))
          (fun j k => (m ((c.tc : Thread nD τ).loc main_arg6) : FVec Ideal S1x1024x1024 .f32) (ix3 0 j k))
          (fun k => (m ((c.tc : Thread nD τ).loc main_arg7) : FVec Ideal S1x1024 .f32) (ix2 0 k))
          (fun j k => (m ((c.tc : Thread nD τ).loc main_arg8) : FVec Ideal S1x1024x1024 .f32) (ix3 0 j k))
          (fun k => (m ((c.tc : Thread nD τ).loc main_arg9) : FVec Ideal S1x1024 .f32) (ix2 0 k))
          ⟨(r : ℕ) % 16, by omega⟩ ⟨(r : ℕ) / 16, by omega⟩ j := by
  have hE : entryContents (preI (F := Ideal)) m c = entry (launchContents m c) := by
    unfold entryContents
    simp only [afterL_cons, afterL_nil]
    rfl
  have hF : finalContents (condOps (F := Ideal)) preI bodyI postI 2048 m c = exit_ (at_ (entryContents (preI (F := Ideal)) m) c 2048) := by
    unfold finalContents
    simp only [afterL_cons, afterL_nil]
    rfl
  have hH := held_at (entryContents (preI (F := Ideal)) m) c ((congrFun hE _).trans (entry_0 _)) ((congrFun hE _).trans (entry_1 _)) ((congrFun hE _).trans (entry_2 _))
    ((congrFun hE _).trans (entry_3 _)) ((congrFun hE _).trans (entry_4 _)) ((congrFun hE _).trans (entry_5 _)) ((congrFun hE _).trans (entry_6 _)) 2048 (le_refl _)
  rw [hF, exit_v81]
  rw [at_keep _ c (r := main_v0) (by decide), at_keep _ c (r := main_v15) (by decide), at_keep _ c (r := main_v22) (by decide), at_keep _ c (r := main_v24) (by decide),
    at_keep _ c (r := main_arg5) (by decide), at_keep _ c (r := main_arg6) (by decide), at_keep _ c (r := main_arg7) (by decide), at_keep _ c (r := main_arg8) (by decide),
    at_keep _ c (r := main_arg9) (by decide)]
  rw [hE, entry_v0, entry_v15, entry_v22, entry_v24, entry_keep _ (r := main_arg5) (by decide), entry_keep _ (r := main_arg6) (by decide),
    entry_keep _ (r := main_arg7) (by decide), entry_keep _ (r := main_arg8) (by decide), entry_keep _ (r := main_arg9) (by decide)]
  exact row_apply _ _ _ _ _ _ _ _ _ _ _ _ (fun t b g n => (hH.res t b g n t.isLt).trans (congrArg Prod.fst (st_eq _ _ _ _ b g n _)))
    (fun t b g n => (hH.ims t b g n t.isLt).trans (congrArg Prod.snd (st_eq _ _ _ _ b g n _))) r j
end

end Cert.ScanLoop

end
-- ==== Proof.ScanHost.lean ====
/-
  The reference of the state-space call: its run, with the result computed from the arguments.
-/
module

public import proofs.«01_k».proof.Proof.ScanBlock
public import proofs.«01_k».proof.Proof.ScanRef

@[expose] public section

set_option maxRecDepth 16384

noncomputable section

open Idealize.ShloMosaic Idealize.ShloMosaic.TcCoe Idealize.ShloMosaic.StableHlo Idealize.SL.Sem

namespace Cert.ScanHost

open Cert.ScanRefIdeal Cert.ScanRefIdeal.Gen Cert.ScanOps Cert.ScanLoop

variable (m : (ℓ : Loc nD τ sig) → Buf (Elt Ideal) ℓ)

/-- The result array is `ScanBlock.result` of the arguments. -/
theorem final_eq (c : Dev nD) : (finalContents (condOps (F := Ideal)) preI bodyI postI 2048 m c (Proc.devRef .tc main_v81) : FVec Ideal S32768x1024 .f32)
    = ScanBlock.result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  funext i
  have e : i = (ix2 (i 0) (i 1) : S32768x1024.Idx) := by idx_ext
  rw [e]
  exact final_apply m c (i 0) (i 1)

/-- Every execution terminates with the result at `ScanBlock.result` of the arguments and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v81)
        = ScanBlock.result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v81 rfl).trans (final_eq m c),
    (h c main_arg0 rfl).trans (final_keep m c (by decide) (by decide) (by decide)), (h c main_arg1 rfl).trans (final_keep m c (by decide) (by decide) (by decide)),
    (h c main_arg2 rfl).trans (final_keep m c (by decide) (by decide) (by decide)), (h c main_arg3 rfl).trans (final_keep m c (by decide) (by decide) (by decide)),
    (h c main_arg4 rfl).trans (final_keep m c (by decide) (by decide) (by decide)), (h c main_arg5 rfl).trans (final_keep m c (by decide) (by decide) (by decide)),
    (h c main_arg6 rfl).trans (final_keep m c (by decide) (by decide) (by decide)), (h c main_arg7 rfl).trans (final_keep m c (by decide) (by decide) (by decide)),
    (h c main_arg8 rfl).trans (final_keep m c (by decide) (by decide) (by decide)), (h c main_arg9 rfl).trans (final_keep m c (by decide) (by decide) (by decide))⟩)
    (run_all m ρ)

end Cert.ScanHost

end
-- ==== Proof.ScanClaim.lean ====
/-
  The five claims about the state-space call.
-/
module

public import proofs.«01_k».proof.Defs
public import proofs.«01_k».proof.Proof.ScanBlock
public import proofs.«01_k».proof.Proof.ScanHost
public import proofs.«01_k».proof.Proof.Gen.Scan.Frame
public import Idealize.ShloMosaic.Lib.Quiescent

@[expose] public section

set_option maxRecDepth 16384

noncomputable section

open Idealize.ShloMosaic Idealize.ShloMosaic.TcCoe Idealize.SL.Sem

namespace Cert.ScanClaim

/-- The kernel terminates, faults nowhere and leaves its arguments unchanged, at words and at extended reals. -/
theorem frame_kernel : Cert.quiescent_Scan := fun m ρ _ => Cert.Scan.Gen.frame m ρ
theorem frame_ideal : Cert.quiescent_ScanIdeal := fun m ρ _ => Cert.ScanIdeal.Gen.frame m ρ
/-- The reference terminates and leaves its arguments unchanged. -/
theorem frame_ref : Cert.quiescent_ScanRefIdeal := fun m ρ _ =>
  (θ_run Cert.ScanRefIdeal.defs _ _).mono (fun r h => ⟨fun c => (h c).2, Idealize.ShloMosaic.sem_eq_zero_of_no_sems (by decide) r.2⟩)
    (ScanHost.run m ρ)
/-- The idealized kernel is the kernel's own text. -/
theorem preserves : Cert.preserves_Scan_ScanIdeal := trivial

/-- At the extended reals the state-space kernel computes what its reference computes. -/
theorem algebraic : Cert.algebraic_ScanIdeal_ScanRefIdeal := by
  pair_intro
  · run_from Cert.ScanIdeal.Gen.run_main m g
  · run_from ScanHost.run m' g'
    exact (ScanBlock.final m c).symm

end Cert.ScanClaim

end
-- ==== Proof.ProjRow.lean ====
/-
  One entry of the input projection over the extended reals: a normalised row times a column of the weights. The kernel's
  blocks and the reference's arrays are both read against it.
-/
module

public import proofs.«01_k».proof.Proof.FfnRow

@[expose] public section

noncomputable section

open Idealize.ShloMosaic
open scoped BigOperators

namespace Cert.ProjRow

/-- The normalised row times a column of weights. -/
def entry (x w : Fin 1024 → EReal) (W : Fin 1024 → EReal) : EReal := ∑ k, FfnRow.normed x w k * W k

/-- Equal rows and columns give equal entries. -/
theorem entry_congr {x x' w w' W W' : Fin 1024 → EReal} (hx : ∀ k, x k = x' k) (hw : ∀ k, w k = w' k) (hW : ∀ k, W k = W' k) :
    entry x w W = entry x' w' W' := by
  obtain rfl : x = x' := funext hx
  obtain rfl : w = w' := funext hw
  obtain rfl : W = W' := funext hW
  rfl

/-- A column of zeros gives zero. -/
theorem entry_zero (x w : Fin 1024 → EReal) : entry x w (fun _ => 0) = 0 := by
  simp [entry]

end Cert.ProjRow

end
-- ==== Proof.ProjBlock.lean ====
/-
  The input projection's blocks: what one grid point computes from its input blocks, entry by entry, and the six result
  arrays after the run.
-/
module

public import proofs.«01_k».proof.Proof.ProjRow
public import proofs.«01_k».proof.Proof.Gen.ProjIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ProjBlock

open Cert.ProjIdeal Cert.ProjIdeal.Gen

/-- The block's normalised rows. -/
theorem pay3_apply (x : Vec Ideal S512x1024 .f32) (w : Vec Ideal S1x1024 .f32) (r : Fin 512) (k : Fin 1024) :
    k0_pay3 x w (ix2 r k) = FfnRow.normed (fun k => x (ix2 r k)) (fun k => w (ix2 0 k)) k := by
  pointwise [k0_pay3, FfnRow.normed]

/-- The block times the first 2560 columns. -/
theorem pay4_apply (x : Vec Ideal S512x1024 .f32) (w : Vec Ideal S1x1024 .f32) (W : Vec Ideal S1024x2560 .bf16) (r : Fin 512) (j : Fin 2560) :
    k0_pay4 x w W (ix2 r j) = ProjRow.entry (fun k => x (ix2 r k)) (fun k => w (ix2 0 k)) (fun k => W (ix2 k j)) := by
  have h := pay3_apply x w r
  pointwise [k0_pay4, ProjRow.entry]
  simp only [h]

/-- The block times the last 2048 columns. -/
theorem pay7_apply (x : Vec Ideal S512x1024 .f32) (w : Vec Ideal S1x1024 .f32) (W : Vec Ideal S1024x2048 .bf16) (r : Fin 512) (j : Fin 2048) :
    k0_pay7 x w W (ix2 r j) = ProjRow.entry (fun k => x (ix2 r k)) (fun k => w (ix2 0 k)) (fun k => W (ix2 k j)) := by
  have h := pay3_apply x w r
  pointwise [k0_pay7, ProjRow.entry]
  simp only [h]

theorem pay5_apply (x : Vec Ideal S512x1024 .f32) (w : Vec Ideal S1x1024 .f32) (W : Vec Ideal S1024x2560 .bf16) (r : Fin 512) (j : Fin 1024) :
    k0_pay5 x w W (ix2 r j) = ProjRow.entry (fun k => x (ix2 r k)) (fun k => w (ix2 0 k)) (fun k => W (ix2 k (⟨(j : ℕ), by omega⟩ : Fin 2560))) := by
  refine Eq.trans ?_ (pay4_apply x w W r ⟨(j : ℕ), by omega⟩)
  unfold k0_pay5
  generalize k0_pay4 x w W = P
  pointwise []

theorem pay6_apply (x : Vec Ideal S512x1024 .f32) (w : Vec Ideal S1x1024 .f32) (W : Vec Ideal S1024x2560 .bf16) (r : Fin 512) (j : Fin 1536) :
    k0_pay6 x w W (ix2 r j) = ProjRow.entry (fun k => x (ix2 r k)) (fun k => w (ix2 0 k)) (fun k => W (ix2 k (⟨1024 + (j : ℕ), by omega⟩ : Fin 2560))) := by
  refine Eq.trans ?_ (pay4_apply x w W r ⟨1024 + (j : ℕ), by omega⟩)
  unfold k0_pay6
  generalize k0_pay4 x w W = P
  pointwise []

theorem pay8_apply (x : Vec Ideal S512x1024 .f32) (w : Vec Ideal S1x1024 .f32) (W : Vec Ideal S1024x2048 .bf16) (r : Fin 512) (j : Fin 1024) :
    k0_pay8 x w W (ix2 r j) = ProjRow.entry (fun k => x (ix2 r k)) (fun k => w (ix2 0 k)) (fun k => W (ix2 k (⟨(j : ℕ), by omega⟩ : Fin 2048))) := by
  refine Eq.trans ?_ (pay7_apply x w W r ⟨(j : ℕ), by omega⟩)
  unfold k0_pay8
  generalize k0_pay7 x w W = P
  pointwise []

theorem pay9_apply (x : Vec Ideal S512x1024 .f32) (w : Vec Ideal S1x1024 .f32) (W : Vec Ideal S1024x2048 .bf16) (r : Fin 512) (j : Fin 1024) :
    k0_pay9 x w W (ix2 r j) = ProjRow.entry (fun k => x (ix2 r k)) (fun k => w (ix2 0 k)) (fun k => W (ix2 k (⟨1024 + (j : ℕ), by omega⟩ : Fin 2048))) := by
  refine Eq.trans ?_ (pay7_apply x w W r ⟨1024 + (j : ℕ), by omega⟩)
  unfold k0_pay9
  generalize k0_pay7 x w W = P
  pointwise []

/-- The block times the padded step columns. -/
theorem pay1_apply (x : Vec Ideal S512x1024 .f32) (w : Vec Ideal S1x1024 .f32) (W : Vec Ideal S1024x128 .bf16) (r : Fin 512) (j : Fin 128) :
    k0_pay1 (k0_pay3 x w) W (ix2 r j) = ProjRow.entry (fun k => x (ix2 r k)) (fun k => w (ix2 0 k)) (fun k => W (ix2 k j)) := by
  have h := pay3_apply x w r
  pointwise [k0_pay1, ProjRow.entry]
  simp only [h]

/-- The step columns' rows times the block's rows: the same entries, transposed. -/
theorem pay2_apply (x : Vec Ideal S512x1024 .f32) (w : Vec Ideal S1x1024 .f32) (W : Vec Ideal S16x1024 .bf16) (h : Fin 16) (r : Fin 512) :
    k0_pay2 (k0_pay3 x w) W (ix2 h r) = ProjRow.entry (fun k => x (ix2 r k)) (fun k => w (ix2 0 k)) (fun k => W (ix2 h k)) := by
  have e := pay3_apply x w r
  pointwise [k0_pay2, ProjRow.entry]
  simp only [e, mul_comm]

/-- The projection of row `a` on column `j`: position `a % 2048` of sequence `a / 2048`, normalised, times the column. -/
def res (x : FVec Ideal S16x2048x1024 .f32) (w : FVec Ideal S2x1024 .f32) (W : FVec Ideal S1x1024x4624 .f32) (a : Fin 32768) (j : Fin 4624) : EReal :=
  ProjRow.entry (fun k => x (ix3 ⟨(a : ℕ) / 2048, by omega⟩ ⟨(a : ℕ) % 2048, by omega⟩ k)) (fun k => w (ix2 0 k)) (fun k => W (ix3 0 k j))

/-- The six results: columns of the projection, in the call's order. -/
def resZ (x : FVec Ideal S16x2048x1024 .f32) (w : FVec Ideal S2x1024 .f32) (W : FVec Ideal S1x1024x4624 .f32) (i : S32768x1024.Idx) : EReal :=
  res x w W (i 0) ⟨(i 1 : ℕ), by have := (i 1).isLt; simp at this; omega⟩
def resX (x : FVec Ideal S16x2048x1024 .f32) (w : FVec Ideal S2x1024 .f32) (W : FVec Ideal S1x1024x4624 .f32) (i : S32768x1536.Idx) : EReal :=
  res x w W (i 0) ⟨1024 + (i 1 : ℕ), by have := (i 1).isLt; simp at this; omega⟩
def resM (x : FVec Ideal S16x2048x1024 .f32) (w : FVec Ideal S2x1024 .f32) (W : FVec Ideal S1x1024x4624 .f32) (i : S32768x1024.Idx) : EReal :=
  res x w W (i 0) ⟨2576 + (i 1 : ℕ), by have := (i 1).isLt; simp at this; omega⟩
def resG (x : FVec Ideal S16x2048x1024 .f32) (w : FVec Ideal S2x1024 .f32) (W : FVec Ideal S1x1024x4624 .f32) (i : S32768x1024.Idx) : EReal :=
  res x w W (i 0) ⟨3600 + (i 1 : ℕ), by have := (i 1).isLt; simp at this; omega⟩
/-- The sixteen step columns, then zeros. -/
def resD (x : FVec Ideal S16x2048x1024 .f32) (w : FVec Ideal S2x1024 .f32) (W : FVec Ideal S1x1024x4624 .f32) (i : S32768x128.Idx) : EReal :=
  if h : (i 1 : ℕ) < 16 then res x w W (i 0) ⟨2560 + (i 1 : ℕ), by omega⟩ else 0
def resT (x : FVec Ideal S16x2048x1024 .f32) (w : FVec Ideal S2x1024 .f32) (W : FVec Ideal S1x1024x4624 .f32) (i : S16x32768.Idx) : EReal :=
  res x w W (i 1) ⟨2560 + (i 0 : ℕ), by have := (i 0).isLt; simp at this; omega⟩

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![0, t.val] :=
  (by decide +kernel : ∀ t : Fin grid0.N, _)

/-- The sequences laid out one after another, read at a row. -/
theorem rows_apply (x : FVec Ideal S16x2048x1024 .f32) (a : Fin 32768) (k : Fin 1024) :
    shapeCast S32768x1024 x shapeCasts_S16x2048x1024_S32768x1024 (ix2 a k) = x (ix3 ⟨(a : ℕ) / 2048, by omega⟩ ⟨(a : ℕ) % 2048, by omega⟩ k) := by
  pointwise []

/-- The first layer's norm weight, read at an entry. -/
theorem norm_apply (x : FVec Ideal S2x1024 .f32) (k : Fin 1024) :
    shapeCast S1x1024 (shapeCast S1024 (extractStridedSlice S1x1024 ![0, 0] x slices_S2x1024_S1x1024_0_0)
      shapeCasts_S1x1024_S1024) shapeCasts_S1024_S1x1024 (ix2 0 k) = x (ix2 0 k) := by
  pointwise []

/-- The weight's columns that a slice takes. -/
theorem cols2_apply (W : FVec Ideal S1x1024x4624 .f32) (k : Fin 1024) (j : Fin 2560) :
    extractStridedSlice S1024x2560 ![0, 0] (shapeCast S1024x4624 W shapeCasts_S1x1024x4624_S1024x4624) slices_S1024x4624_S1024x2560_0_0 (ix2 k j)
      = W (ix3 0 k (⟨(j : ℕ), by omega⟩ : Fin 4624)) := by
  pointwise []
theorem cols3_apply (W : FVec Ideal S1x1024x4624 .f32) (k : Fin 1024) (j : Fin 2048) :
    extractStridedSlice S1024x2048 ![0, 2576] (shapeCast S1024x4624 W shapeCasts_S1x1024x4624_S1024x4624) slices_S1024x4624_S1024x2048_0_2576 (ix2 k j)
      = W (ix3 0 k (⟨2576 + (j : ℕ), by omega⟩ : Fin 4624)) := by
  pointwise []
theorem colsD_apply (W : FVec Ideal S1x1024x4624 .f32) (k : Fin 1024) (j : Fin 16) :
    extractStridedSlice S1024x16 ![0, 2560] (shapeCast S1024x4624 W shapeCasts_S1x1024x4624_S1024x4624) slices_S1024x4624_S1024x16_0_2560 (ix2 k j)
      = W (ix3 0 k (⟨2560 + (j : ℕ), by omega⟩ : Fin 4624)) := by
  pointwise []
theorem colsT_apply (D : FVec Ideal S1024x16 .f32) (h : Fin 16) (k : Fin 1024) :
    transpose S16x1024 [1, 0] D transposes_S1024x16_S16x1024_1_0 (ix2 h k) = D (ix2 k h) := by
  pointwise []

/-- The step columns padded with zeros, read at an entry. -/
theorem colsP_apply (D : FVec Ideal S1024x16 .f32) (k : Fin 1024) (j : Fin 128) :
    pad S1024x128 ![0, 0] ![0, 112] ![0, 0] D (sitofp .f32 (constantI S_ 32 0#32)) pads_S1024x16_S1024x128_000_01120 h_S_ (ix2 k j)
      = if h : (j : ℕ) < 16 then D (ix2 k (⟨(j : ℕ), h⟩ : Fin 16)) else (0 : EReal) := by
  have z : (FloatOps.sitofp (F := Ideal) .f32 (0#32) : EReal) = 0 := by
    show (((0#32 : BitVec 32).toInt : ℝ) : EReal) = 0
    simp
  pointwise []
  simp only [z]

/-- The kernel's rows are the sequences' positions, one after another. -/
theorem entry0 (c : Dev nD) (a : Fin 32768) (k : Fin 1024) : V m c main_v2 (ix2 a k)
    = m ((c : Thread nD τ).loc main_arg0) (ix3 ⟨(a : ℕ) / 2048, by omega⟩ ⟨(a : ℕ) % 2048, by omega⟩ k) := by
  entry_read
  exact rows_apply _ a k

/-- The norm weight is the first layer's. -/
theorem entry1 (c : Dev nD) (k : Fin 1024) : V m c main_v5 (ix2 0 k) = m ((c : Thread nD τ).loc main_arg1) (ix2 0 k) := by
  entry_read
  exact norm_apply _ k

/-- The prepared weights are columns of the weight. -/
theorem entry2 (c : Dev nD) (k : Fin 1024) (j : Fin 2560) : V m c main_v7 (ix2 k j)
    = m ((c : Thread nD τ).loc main_arg2) (ix3 0 k (⟨(j : ℕ), by omega⟩ : Fin 4624)) := by
  entry_read
  exact cols2_apply _ k j
theorem entry3 (c : Dev nD) (k : Fin 1024) (j : Fin 2048) : V m c main_v9 (ix2 k j)
    = m ((c : Thread nD τ).loc main_arg2) (ix3 0 k (⟨2576 + (j : ℕ), by omega⟩ : Fin 4624)) := by
  entry_read
  exact cols3_apply _ k j
theorem entry4 (c : Dev nD) (k : Fin 1024) (j : Fin 128) : V m c main_v11 (ix2 k j)
    = if h : (j : ℕ) < 16 then m ((c : Thread nD τ).loc main_arg2) (ix3 0 k (⟨2560 + (j : ℕ), by omega⟩ : Fin 4624)) else (0 : EReal) := by
  entry_read
  refine (colsP_apply _ k j).trans ?_
  split
  · exact colsD_apply _ k _
  · rfl
theorem entry5 (c : Dev nD) (h : Fin 16) (k : Fin 1024) : V m c main_v13 (ix2 h k)
    = m ((c : Thread nD τ).loc main_arg2) (ix3 0 k (⟨2560 + (h : ℕ), by omega⟩ : Fin 4624)) := by
  entry_read
  exact (colsT_apply _ h k).trans (colsD_apply _ k h)

/-- A point's input blocks: 512 rows from row `512 t`, and the whole of each other operand. -/
theorem blk0 (c : Dev nD) (t : Fin cfg0.N) (r : Fin 512) (a : Fin 32768) (ha : (a : ℕ) = t.val * 512 + r) (k : Fin 1024) : iblk m c 0 t (ix2 r k)
    = m ((c : Thread nD τ).loc main_arg0) (ix3 ⟨(a : ℕ) / 2048, by omega⟩ ⟨(a : ℕ) % 2048, by omega⟩ k) := by
  have e : (win0_0.blk t).view.emb (ix2 r k) = (ix2 a k : S32768x1024.Idx) := by blk_ext [idx t, ha]
  blk_simp [iblk, idx t]
  simp only [e]
  exact entry0 m c a k
theorem blk1 (c : Dev nD) (t : Fin cfg0.N) (k : Fin 1024) : iblk m c 1 t (ix2 0 k) = m ((c : Thread nD τ).loc main_arg1) (ix2 0 k) := by
  have e : (win0_1.blk t).view.emb (ix2 0 k) = (ix2 0 k : S1x1024.Idx) := by blk_ext [idx t]
  blk_simp [iblk, idx t]
  simp only [e]
  exact entry1 m c k
theorem blk2 (c : Dev nD) (t : Fin cfg0.N) (k : Fin 1024) (j : Fin 2560) : iblk m c 2 t (ix2 k j)
    = m ((c : Thread nD τ).loc main_arg2) (ix3 0 k (⟨(j : ℕ), by omega⟩ : Fin 4624)) := by
  have e : (win0_2.blk t).view.emb (ix2 k j) = (ix2 k j : S1024x2560.Idx) := by blk_ext [idx t]
  blk_simp [iblk, idx t]
  simp only [e]
  exact entry2 m c k j
theorem blk3 (c : Dev nD) (t : Fin cfg0.N) (k : Fin 1024) (j : Fin 2048) : iblk m c 3 t (ix2 k j)
    = m ((c : Thread nD τ).loc main_arg2) (ix3 0 k (⟨2576 + (j : ℕ), by omega⟩ : Fin 4624)) := by
  have e : (win0_3.blk t).view.emb (ix2 k j) = (ix2 k j : S1024x2048.Idx) := by blk_ext [idx t]
  blk_simp [iblk, idx t]
  simp only [e]
  exact entry3 m c k j
theorem blk4 (c : Dev nD) (t : Fin cfg0.N) (k : Fin 1024) (j : Fin 128) : iblk m c 4 t (ix2 k j)
    = if h : (j : ℕ) < 16 then m ((c : Thread nD τ).loc main_arg2) (ix3 0 k (⟨2560 + (j : ℕ), by omega⟩ : Fin 4624)) else (0 : EReal) := by
  have e : (win0_4.blk t).view.emb (ix2 k j) = (ix2 k j : S1024x128.Idx) := by blk_ext [idx t]
  blk_simp [iblk, idx t]
  simp only [e]
  exact entry4 m c k j
theorem blk5 (c : Dev nD) (t : Fin cfg0.N) (h : Fin 16) (k : Fin 1024) : iblk m c 5 t (ix2 h k)
    = m ((c : Thread nD τ).loc main_arg2) (ix3 0 k (⟨2560 + (h : ℕ), by omega⟩ : Fin 4624)) := by
  have e : (win0_5.blk t).view.emb (ix2 h k) = (ix2 h k : S16x1024.Idx) := by blk_ext [idx t]
  blk_simp [iblk, idx t]
  simp only [e]
  exact entry5 m c h k

/-- A block's row times a column is the array's row times it. -/
theorem point (c : Dev nD) (t : Fin cfg0.N) (r : Fin 512) (a : Fin 32768) (j : Fin 4624) (W : Fin 1024 → EReal) (ha : (a : ℕ) = t.val * 512 + r)
    (hW : ∀ k, W k = m ((c : Thread nD τ).loc main_arg2) (ix3 0 k j)) :
    ProjRow.entry (fun k => iblk m c 0 t (ix2 r k)) (fun k => iblk m c 1 t (ix2 0 k)) W
      = res (m ((c : Thread nD τ).loc main_arg0)) (m ((c : Thread nD τ).loc main_arg1)) (m ((c : Thread nD τ).loc main_arg2)) a j :=
  ProjRow.entry_congr (fun k => blk0 m c t r a ha k) (fun k => blk1 m c t k) hW

/-- Equal columns are read at equal entries. -/
theorem col_congr (W : FVec Ideal S1x1024x4624 .f32) (k : Fin 1024) {j j' : Fin 4624} (h : (j : ℕ) = j') : W (ix3 0 k j) = W (ix3 0 k j') := by
  rw [Fin.ext h]

/-- After the run the result array holds `resZ` of the arguments. -/
theorem final6 (c : Dev nD) : (dats m 0 c).arrAt 6 (cfgs 0).N
    = resZ (m ((c : Thread nD τ).loc main_arg0)) (m ((c : Thread nD τ).loc main_arg1)) (m ((c : Thread nD τ).loc main_arg2)) := by
  refine (dats m 0 c).arrAt_eq_of_covers 6 _ (by decide +kernel) fun t _ y => ?_
  have e0 : ((win0_6.blk t).view.emb y 0 : ℕ) = t.val * 512 + (y 0 : ℕ) := by blk_simp [idx t]
  have e1 : ((win0_6.blk t).view.emb y 1 : ℕ) = (y 1 : ℕ) := by blk_simp [idx t]
  blk_simp
  rw [after0_6]; frame_out
  have hy1 : (y 1 : ℕ) < 1024 := (y 1).isLt
  have e : (ix2 (y 0) (y 1) : S512x1024.Idx) = y := by idx_ext
  have h := pay5_apply (iblk m c 0 t) (iblk m c 1 t) (iblk m c 2 t) (y 0) (y 1)
  refine (congrArg _ e.symm).trans (h.trans ?_)
  unfold resZ
  exact point m c t (y 0) _ _ _ e0 fun k => (blk2 m c t k _).trans (col_congr _ k (e1.symm))

/-- After the run the result array holds `resX` of the arguments. -/
theorem final7 (c : Dev nD) : (dats m 0 c).arrAt 7 (cfgs 0).N
    = resX (m ((c : Thread nD τ).loc main_arg0)) (m ((c : Thread nD τ).loc main_arg1)) (m ((c : Thread nD τ).loc main_arg2)) := by
  refine (dats m 0 c).arrAt_eq_of_covers 7 _ (by decide +kernel) fun t _ y => ?_
  have e0 : ((win0_7.blk t).view.emb y 0 : ℕ) = t.val * 512 + (y 0 : ℕ) := by blk_simp [idx t]
  have e1 : ((win0_7.blk t).view.emb y 1 : ℕ) = (y 1 : ℕ) := by blk_simp [idx t]
  blk_simp
  rw [after0_7]; frame_out
  have hy1 : (y 1 : ℕ) < 1536 := (y 1).isLt
  have e : (ix2 (y 0) (y 1) : S512x1536.Idx) = y := by idx_ext
  have h := pay6_apply (iblk m c 0 t) (iblk m c 1 t) (iblk m c 2 t) (y 0) (y 1)
  refine (congrArg _ e.symm).trans (h.trans ?_)
  unfold resX
  exact point m c t (y 0) _ _ _ e0 fun k => (blk2 m c t k _).trans (col_congr _ k (congrArg (1024 + ·) e1.symm))

/-- After the run the result array holds `resM` of the arguments. -/
theorem final8 (c : Dev nD) : (dats m 0 c).arrAt 8 (cfgs 0).N
    = resM (m ((c : Thread nD τ).loc main_arg0)) (m ((c : Thread nD τ).loc main_arg1)) (m ((c : Thread nD τ).loc main_arg2)) := by
  refine (dats m 0 c).arrAt_eq_of_covers 8 _ (by decide +kernel) fun t _ y => ?_
  have e0 : ((win0_8.blk t).view.emb y 0 : ℕ) = t.val * 512 + (y 0 : ℕ) := by blk_simp [idx t]
  have e1 : ((win0_8.blk t).view.emb y 1 : ℕ) = (y 1 : ℕ) := by blk_simp [idx t]
  blk_simp
  rw [after0_8]; frame_out
  have hy1 : (y 1 : ℕ) < 1024 := (y 1).isLt
  have e : (ix2 (y 0) (y 1) : S512x1024.Idx) = y := by idx_ext
  have h := pay8_apply (iblk m c 0 t) (iblk m c 1 t) (iblk m c 3 t) (y 0) (y 1)
  refine (congrArg _ e.symm).trans (h.trans ?_)
  unfold resM
  exact point m c t (y 0) _ _ _ e0 fun k => (blk3 m c t k _).trans (col_congr _ k (congrArg (2576 + ·) e1.symm))

/-- After the run the result array holds `resG` of the arguments. -/
theorem final9 (c : Dev nD) : (dats m 0 c).arrAt 9 (cfgs 0).N
    = resG (m ((c : Thread nD τ).loc main_arg0)) (m ((c : Thread nD τ).loc main_arg1)) (m ((c : Thread nD τ).loc main_arg2)) := by
  refine (dats m 0 c).arrAt_eq_of_covers 9 _ (by decide +kernel) fun t _ y => ?_
  have e0 : ((win0_9.blk t).view.emb y 0 : ℕ) = t.val * 512 + (y 0 : ℕ) := by blk_simp [idx t]
  have e1 : ((win0_9.blk t).view.emb y 1 : ℕ) = (y 1 : ℕ) := by blk_simp [idx t]
  blk_simp
  rw [after0_9]; frame_out
  have hy1 : (y 1 : ℕ) < 1024 := (y 1).isLt
  have e : (ix2 (y 0) (y 1) : S512x1024.Idx) = y := by idx_ext
  have h := pay9_apply (iblk m c 0 t) (iblk m c 1 t) (iblk m c 3 t) (y 0) (y 1)
  refine (congrArg _ e.symm).trans (h.trans ?_)
  unfold resG
  exact point m c t (y 0) _ _ _ e0 fun k => (blk3 m c t k _).trans (col_congr _ k ((Nat.add_assoc 2576 1024 _).symm.trans (congrArg (3600 + ·) e1.symm)))

end Cert.ProjBlock

end
-- ==== Proof.ProjSteps.lean ====
/-
  The input projection's step columns after the run: the padded array and the transposed one.
-/
module

public import proofs.«01_k».proof.Proof.ProjBlock

@[expose] public section

set_option maxRecDepth 16384

noncomputable section

open Idealize.ShloMosaic Idealize.ShloMosaic.TcCoe Idealize.SL.Sem
open Idealize.ShloMosaic.Pipeline (Dat)
open scoped BigOperators

namespace Cert.ProjBlock

open Cert.ProjIdeal Cert.ProjIdeal.Gen

variable (m : (ℓ : Loc nD τ sig) → Buf (Elt Ideal) ℓ)

/-- After the run the result array holds `resD` of the arguments. -/
theorem final10 (c : Dev nD) : (dats m 0 c).arrAt 10 (cfgs 0).N
    = resD (m ((c : Thread nD τ).loc main_arg0)) (m ((c : Thread nD τ).loc main_arg1)) (m ((c : Thread nD τ).loc main_arg2)) := by
  refine (dats m 0 c).arrAt_eq_of_covers 10 _ (by decide +kernel) fun t _ y => ?_
  have e0 : ((win0_10.blk t).view.emb y 0 : ℕ) = t.val * 512 + (y 0 : ℕ) := by blk_simp [idx t]
  have e1 : ((win0_10.blk t).view.emb y 1 : ℕ) = (y 1 : ℕ) := by blk_simp [idx t]
  blk_simp
  rw [after0_10]; frame_out [k0_pay10]
  have e : (ix2 (y 0) (y 1) : S512x128.Idx) = y := by idx_ext
  have h := pay1_apply (iblk m c 0 t) (iblk m c 1 t) (iblk m c 4 t) (y 0) (y 1)
  refine (congrArg _ e.symm).trans (h.trans ?_)
  unfold resD
  by_cases hy : (y 1 : ℕ) < 16
  · refine Eq.trans ?_ (dif_pos (e1.trans_lt hy)).symm
    exact point m c t (y 0) _ _ _ e0 fun k => (blk4 m c t k _).trans ((dif_pos hy).trans (col_congr _ k (congrArg (2560 + ·) e1.symm)))
  · refine Eq.trans ?_ (dif_neg (fun h' => hy (e1.symm.trans_lt h'))).symm
    exact (ProjRow.entry_congr (fun _ => rfl) (fun _ => rfl) (fun k => (blk4 m c t k _).trans (dif_neg hy))).trans (ProjRow.entry_zero _ _)

/-- After the run the result array holds `resT` of the arguments. -/
theorem final11 (c : Dev nD) : (dats m 0 c).arrAt 11 (cfgs 0).N
    = resT (m ((c : Thread nD τ).loc main_arg0)) (m ((c : Thread nD τ).loc main_arg1)) (m ((c : Thread nD τ).loc main_arg2)) := by
  refine (dats m 0 c).arrAt_eq_of_covers 11 _ (by decide +kernel) fun t _ y => ?_
  have e0 : ((win0_11.blk t).view.emb y 0 : ℕ) = (y 0 : ℕ) := by blk_simp [idx t]
  have e1 : ((win0_11.blk t).view.emb y 1 : ℕ) = t.val * 512 + (y 1 : ℕ) := by blk_simp [idx t]
  blk_simp
  rw [after0_11]; frame_out [k0_pay10]
  have e : (ix2 (y 0) (y 1) : S16x512.Idx) = y := by idx_ext
  have h := pay2_apply (iblk m c 0 t) (iblk m c 1 t) (iblk m c 5 t) (y 0) (y 1)
  refine (congrArg _ e.symm).trans (h.trans ?_)
  unfold resT
  exact point m c t (y 1) _ _ _ e1 fun k => (blk5 m c t _ k).trans (col_congr _ k (congrArg (2560 + ·) e0.symm))

end Cert.ProjBlock

end
-- ==== Proof.ProjHost.lean ====
/-
  The input projection's reference, read entry by entry.
-/
module

public import proofs.«01_k».proof.Proof.ProjSteps
public import proofs.«01_k».proof.Proof.Gen.ProjRefIdeal.Run

@[expose] public section

set_option maxRecDepth 16384

noncomputable section

open Idealize.ShloMosaic Idealize.ShloMosaic.TcCoe Idealize.SL.Sem
open scoped BigOperators

namespace Cert.ProjHost

open Cert.ProjRefIdeal Cert.ProjRefIdeal.Gen

variable (x : FVec Ideal S16x2048x1024 .f32) (w : FVec Ideal S2x1024 .f32) (W : FVec Ideal S1x1024x4624 .f32)

/-- The reference's normalised activations. -/
def uRef : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 (shapeCast S1024 (extractStridedSlice S1x1024 ![0, 0] w slices_S2x1024_S1x1024_0_0) shapeCasts_S1x1024_S1024)))

/-- The projection of normalised activations, rows one after another. -/
def pRef (u : FVec Ideal S16x2048x1024 .f32) : FVec Ideal S32768x4624 .f32 :=
  shapeCast S32768x4624 (Host.dotGeneral dot_S16x2048x1024_S1024x4624_S16x2048x4624_2_0_01_1_n_n none u
    (shapeCast S1024x4624 W shapeCasts_S1x1024x4624_S1024x4624)) shapeCasts_S16x2048x4624_S32768x4624

theorem uRef_apply (b : Fin 16) (t : Fin 2048) (k : Fin 1024) :
    uRef x w (ix3 b t k) = FfnRow.normed (fun k => x (ix3 b t k)) (fun k => w (ix2 0 k)) k := by
  pointwise [uRef, FfnRow.normed]

theorem pRef_apply (u : FVec Ideal S16x2048x1024 .f32) (a : Fin 32768) (j : Fin 4624) :
    pRef W u (ix2 a j) = ∑ k : Fin 1024, u (ix3 ⟨(a : ℕ) / 2048, by omega⟩ ⟨(a : ℕ) % 2048, by omega⟩ k) * W (ix3 0 k j) := by
  pointwise [pRef]

/-- An entry of the reference's projection. -/
theorem res_apply (a : Fin 32768) (j : Fin 4624) : pRef W (uRef x w) (ix2 a j) = ProjBlock.res x w W a j := by
  rw [pRef_apply]
  simp only [uRef_apply]
  rfl

/-- The columns a slice takes, read at an entry. -/
theorem sliceZ_apply (P : FVec Ideal S32768x4624 .f32) (a : Fin 32768) (j : Fin 1024) :
    extractStridedSlice S32768x1024 ![0, 0] P slices_S32768x4624_S32768x1024_0_0 (ix2 a j) = P (ix2 a (⟨(j : ℕ), by omega⟩ : Fin 4624)) := by
  pointwise []
theorem sliceX_apply (P : FVec Ideal S32768x4624 .f32) (a : Fin 32768) (j : Fin 1536) :
    extractStridedSlice S32768x1536 ![0, 1024] P slices_S32768x4624_S32768x1536_0_1024 (ix2 a j) = P (ix2 a (⟨1024 + (j : ℕ), by omega⟩ : Fin 4624)) := by
  pointwise []
theorem sliceD_apply (P : FVec Ideal S32768x4624 .f32) (a : Fin 32768) (j : Fin 16) :
    extractStridedSlice S32768x16 ![0, 2560] P slices_S32768x4624_S32768x16_0_2560 (ix2 a j) = P (ix2 a (⟨2560 + (j : ℕ), by omega⟩ : Fin 4624)) := by
  pointwise []
theorem sliceM_apply (P : FVec Ideal S32768x4624 .f32) (a : Fin 32768) (j : Fin 1024) :
    extractStridedSlice S32768x1024 ![0, 2576] P slices_S32768x4624_S32768x1024_0_2576 (ix2 a j) = P (ix2 a (⟨2576 + (j : ℕ), by omega⟩ : Fin 4624)) := by
  pointwise []
theorem sliceG_apply (P : FVec Ideal S32768x4624 .f32) (a : Fin 32768) (j : Fin 1024) :
    extractStridedSlice S32768x1024 ![0, 3600] P slices_S32768x4624_S32768x1024_0_3600 (ix2 a j) = P (ix2 a (⟨3600 + (j : ℕ), by omega⟩ : Fin 4624)) := by
  pointwise []
theorem padD_apply (D : FVec Ideal S32768x16 .f32) (a : Fin 32768) (j : Fin 128) :
    pad S32768x128 ![0, 0] ![0, 112] ![0, 0] D (sitofp .f32 (constantI S_ 32 0#32)) pads_S32768x16_S32768x128_000_01120 h_S_ (ix2 a j)
      = if h : (j : ℕ) < 16 then D (ix2 a (⟨(j : ℕ), h⟩ : Fin 16)) else (0 : EReal) := by
  have z : (FloatOps.sitofp (F := Ideal) .f32 (0#32) : EReal) = 0 := by
    show (((0#32 : BitVec 32).toInt : ℝ) : EReal) = 0
    simp
  pointwise []
  simp only [z]
theorem transD_apply (D : FVec Ideal S32768x16 .f32) (h : Fin 16) (a : Fin 32768) :
    transpose S16x32768 [1, 0] D transposes_S32768x16_S16x32768_1_0 (ix2 h a) = D (ix2 a h) := by
  pointwise []

/-- The reference's six results are `ProjBlock`'s. -/
theorem z_eq : extractStridedSlice S32768x1024 ![0, 0] (pRef W (uRef x w)) slices_S32768x4624_S32768x1024_0_0 = ProjBlock.resZ x w W := by
  funext i
  have e : i = (ix2 (i 0) (i 1) : S32768x1024.Idx) := by idx_ext
  rw [e]
  exact (sliceZ_apply _ (i 0) (i 1)).trans (res_apply x w W _ _)
theorem x_eq : extractStridedSlice S32768x1536 ![0, 1024] (pRef W (uRef x w)) slices_S32768x4624_S32768x1536_0_1024 = ProjBlock.resX x w W := by
  funext i
  have e : i = (ix2 (i 0) (i 1) : S32768x1536.Idx) := by idx_ext
  rw [e]
  exact (sliceX_apply _ (i 0) (i 1)).trans (res_apply x w W _ _)
theorem m_eq : extractStridedSlice S32768x1024 ![0, 2576] (pRef W (uRef x w)) slices_S32768x4624_S32768x1024_0_2576 = ProjBlock.resM x w W := by
  funext i
  have e : i = (ix2 (i 0) (i 1) : S32768x1024.Idx) := by idx_ext
  rw [e]
  exact (sliceM_apply _ (i 0) (i 1)).trans (res_apply x w W _ _)
theorem g_eq : extractStridedSlice S32768x1024 ![0, 3600] (pRef W (uRef x w)) slices_S32768x4624_S32768x1024_0_3600 = ProjBlock.resG x w W := by
  funext i
  have e : i = (ix2 (i 0) (i 1) : S32768x1024.Idx) := by idx_ext
  rw [e]
  exact (sliceG_apply _ (i 0) (i 1)).trans (res_apply x w W _ _)
theorem d_eq : pad S32768x128 ![0, 0] ![0, 112] ![0, 0] (extractStridedSlice S32768x16 ![0, 2560] (pRef W (uRef x w)) slices_S32768x4624_S32768x16_0_2560)
    (sitofp .f32 (constantI S_ 32 0#32)) pads_S32768x16_S32768x128_000_01120 h_S_ = ProjBlock.resD x w W := by
  funext i
  have e : i = (ix2 (i 0) (i 1) : S32768x128.Idx) := by idx_ext
  rw [e]
  refine (padD_apply _ (i 0) (i 1)).trans ?_
  unfold ProjBlock.resD
  by_cases h : (i 1 : ℕ) < 16
  · refine (dif_pos h).trans (Eq.trans ?_ (dif_pos h).symm)
    exact (sliceD_apply _ (i 0) ⟨(i 1 : ℕ), h⟩).trans (res_apply x w W _ _)
  · refine (dif_neg h).trans (Eq.trans ?_ (dif_neg h).symm)
    rfl
theorem t_eq : transpose S16x32768 [1, 0] (extractStridedSlice S32768x16 ![0, 2560] (pRef W (uRef x w)) slices_S32768x4624_S32768x16_0_2560)
    transposes_S32768x16_S16x32768_1_0 = ProjBlock.resT x w W := by
  funext i
  have e : i = (ix2 (i 0) (i 1) : S16x32768.Idx) := by idx_ext
  rw [e]
  exact (transD_apply _ (i 0) (i 1)).trans ((sliceD_apply _ (i 1) (i 0)).trans (res_apply x w W _ _))

end Cert.ProjHost

end
-- ==== Proof.ProjClaim.lean ====
/-
  The five claims about the input projection.
-/
module

public import proofs.«01_k».proof.Defs
public import proofs.«01_k».proof.Proof.ProjHost
public import proofs.«01_k».proof.Proof.Gen.Proj.Frame
public import Idealize.ShloMosaic.Lib.Quiescent

@[expose] public section

set_option maxRecDepth 16384

noncomputable section

open Idealize.ShloMosaic Idealize.ShloMosaic.TcCoe Idealize.SL.Sem

namespace Cert.ProjClaim

/-- The kernel terminates, faults nowhere and leaves its arguments unchanged, at words and at extended reals. -/
theorem frame_kernel : Cert.quiescent_Proj := fun m ρ _ => Cert.Proj.Gen.frame m ρ
theorem frame_ideal : Cert.quiescent_ProjIdeal := fun m ρ _ => Cert.ProjIdeal.Gen.frame m ρ
/-- The reference terminates and leaves its arguments unchanged. -/
theorem frame_ref : Cert.quiescent_ProjRefIdeal := fun m ρ _ =>
  (θ_run Cert.ProjRefIdeal.defs _ _).mono (fun r h => ⟨fun c => (h c).2.2.2.2.2.2, Idealize.ShloMosaic.sem_eq_zero_of_no_sems (by decide) r.2⟩)
    (Cert.ProjRefIdeal.Value.run (F := Ideal) m ρ)
/-- The idealized kernel is the kernel's own text. -/
theorem preserves : Cert.preserves_Proj_ProjIdeal := trivial

/-- The kernel ends with its six results at `ProjBlock`'s functions of the arguments, and the arguments unchanged. -/
theorem run_kernel (m : (ℓ : Loc ProjIdeal.nD ProjIdeal.τ ProjIdeal.sig) → Buf (Elt Ideal) ℓ) (ρ : Dev ProjIdeal.nD → PrngReg) :
    θ_run (ProjIdeal.defs (F := Ideal)) (onTc (τ := ProjIdeal.τ) (ProjIdeal.main (F := Ideal))) ⟨m, fun _ => 0, ρ⟩ fun r => ∀ c : Dev ProjIdeal.nD,
      r.2.mem ((c.tc : Thread ProjIdeal.nD ProjIdeal.τ).loc ProjIdeal.main_v14_0) = ProjBlock.resZ (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2))
      ∧ r.2.mem ((c.tc : Thread ProjIdeal.nD ProjIdeal.τ).loc ProjIdeal.main_v14_1) = ProjBlock.resX (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2))
      ∧ r.2.mem ((c.tc : Thread ProjIdeal.nD ProjIdeal.τ).loc ProjIdeal.main_v14_2) = ProjBlock.resM (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2))
      ∧ r.2.mem ((c.tc : Thread ProjIdeal.nD ProjIdeal.τ).loc ProjIdeal.main_v14_3) = ProjBlock.resG (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2))
      ∧ r.2.mem ((c.tc : Thread ProjIdeal.nD ProjIdeal.τ).loc ProjIdeal.main_v14_4) = ProjBlock.resD (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2))
      ∧ r.2.mem ((c.tc : Thread ProjIdeal.nD ProjIdeal.τ).loc ProjIdeal.main_v14_5) = ProjBlock.resT (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2))
      ∧ r.2.mem ((c.tc : Thread ProjIdeal.nD ProjIdeal.τ).loc ProjIdeal.main_arg0) = m ((c.tc : Thread ProjIdeal.nD ProjIdeal.τ).loc ProjIdeal.main_arg0)
      ∧ r.2.mem ((c.tc : Thread ProjIdeal.nD ProjIdeal.τ).loc ProjIdeal.main_arg1) = m ((c.tc : Thread ProjIdeal.nD ProjIdeal.τ).loc ProjIdeal.main_arg1)
      ∧ r.2.mem ((c.tc : Thread ProjIdeal.nD ProjIdeal.τ).loc ProjIdeal.main_arg2) = m ((c.tc : Thread ProjIdeal.nD ProjIdeal.τ).loc ProjIdeal.main_arg2) :=
  (θ_run _ _ _).mono (fun r h c => ⟨((h.1 c).1 6).trans (ProjBlock.final6 m c), ((h.1 c).1 7).trans (ProjBlock.final7 m c), ((h.1 c).1 8).trans (ProjBlock.final8 m c), ((h.1 c).1 9).trans (ProjBlock.final9 m c), ((h.1 c).1 10).trans (ProjBlock.final10 m c), ((h.1 c).1 11).trans (ProjBlock.final11 m c), h.2 c⟩)
    (θ_run_and (ProjIdeal.Gen.run_main m ρ) (ProjIdeal.Gen.unchanged m ρ))

/-- So does the reference. -/
theorem run_ref (m : (ℓ : Loc ProjRefIdeal.nD ProjRefIdeal.τ ProjRefIdeal.sig) → Buf (Elt Ideal) ℓ) (ρ : Dev ProjRefIdeal.nD → PrngReg) :
    θ_run (ProjRefIdeal.defs (F := Ideal)) (onTc (τ := ProjRefIdeal.τ) (ProjRefIdeal.main (F := Ideal))) ⟨m, fun _ => 0, ρ⟩ fun r => ∀ c : Dev ProjRefIdeal.nD,
      r.2.mem ((c.tc : Thread ProjRefIdeal.nD ProjRefIdeal.τ).loc ProjRefIdeal.main_v18) = ProjBlock.resZ (m ((c.tc : Thread ProjRefIdeal.nD ProjRefIdeal.τ).loc ProjRefIdeal.main_arg0)) (m ((c.tc : Thread ProjRefIdeal.nD ProjRefIdeal.τ).loc ProjRefIdeal.main_arg1)) (m ((c.tc : Thread ProjRefIdeal.nD ProjRefIdeal.τ).loc ProjRefIdeal.main_arg2))
      ∧ r.2.mem ((c.tc : Thread ProjRefIdeal.nD ProjRefIdeal.τ).loc ProjRefIdeal.main_v19) = ProjBlock.resX (m ((c.tc : Thread ProjRefIdeal.nD ProjRefIdeal.τ).loc ProjRefIdeal.main_arg0)) (m ((c.tc : Thread ProjRefIdeal.nD ProjRefIdeal.τ).loc ProjRefIdeal.main_arg1)) (m ((c.tc : Thread ProjRefIdeal.nD ProjRefIdeal.τ).loc ProjRefIdeal.main_arg2))
      ∧ r.2.mem ((c.tc : Thread ProjRefIdeal.nD ProjRefIdeal.τ).loc ProjRefIdeal.main_v21) = ProjBlock.resM (m ((c.tc : Thread ProjRefIdeal.nD ProjRefIdeal.τ).loc ProjRefIdeal.main_arg0)) (m ((c.tc : Thread ProjRefIdeal.nD ProjRefIdeal.τ).loc ProjRefIdeal.main_arg1)) (m ((c.tc : Thread ProjRefIdeal.nD ProjRefIdeal.τ).loc ProjRefIdeal.main_arg2))
      ∧ r.2.mem ((c.tc : Thread ProjRefIdeal.nD ProjRefIdeal.τ).loc ProjRefIdeal.main_v22) = ProjBlock.resG (m ((c.tc : Thread ProjRefIdeal.nD ProjRefIdeal.τ).loc ProjRefIdeal.main_arg0)) (m ((c.tc : Thread ProjRefIdeal.nD ProjRefIdeal.τ).loc ProjRefIdeal.main_arg1)) (m ((c.tc : Thread ProjRefIdeal.nD ProjRefIdeal.τ).loc ProjRefIdeal.main_arg2))
      ∧ r.2.mem ((c.tc : Thread ProjRefIdeal.nD ProjRefIdeal.τ).loc ProjRefIdeal.main_v23) = ProjBlock.resD (m ((c.tc : Thread ProjRefIdeal.nD ProjRefIdeal.τ).loc ProjRefIdeal.main_arg0)) (m ((c.tc : Thread ProjRefIdeal.nD ProjRefIdeal.τ).loc ProjRefIdeal.main_arg1)) (m ((c.tc : Thread ProjRefIdeal.nD ProjRefIdeal.τ).loc ProjRefIdeal.main_arg2))
      ∧ r.2.mem ((c.tc : Thread ProjRefIdeal.nD ProjRefIdeal.τ).loc ProjRefIdeal.main_v24) = ProjBlock.resT (m ((c.tc : Thread ProjRefIdeal.nD ProjRefIdeal.τ).loc ProjRefIdeal.main_arg0)) (m ((c.tc : Thread ProjRefIdeal.nD ProjRefIdeal.τ).loc ProjRefIdeal.main_arg1)) (m ((c.tc : Thread ProjRefIdeal.nD ProjRefIdeal.τ).loc ProjRefIdeal.main_arg2))
      ∧ r.2.mem ((c.tc : Thread ProjRefIdeal.nD ProjRefIdeal.τ).loc ProjRefIdeal.main_arg0) = m ((c.tc : Thread ProjRefIdeal.nD ProjRefIdeal.τ).loc ProjRefIdeal.main_arg0)
      ∧ r.2.mem ((c.tc : Thread ProjRefIdeal.nD ProjRefIdeal.τ).loc ProjRefIdeal.main_arg1) = m ((c.tc : Thread ProjRefIdeal.nD ProjRefIdeal.τ).loc ProjRefIdeal.main_arg1)
      ∧ r.2.mem ((c.tc : Thread ProjRefIdeal.nD ProjRefIdeal.τ).loc ProjRefIdeal.main_arg2) = m ((c.tc : Thread ProjRefIdeal.nD ProjRefIdeal.τ).loc ProjRefIdeal.main_arg2) :=
  (θ_run _ _ _).mono (fun r h c => ⟨(h c).1.trans (ProjHost.z_eq _ _ _), (h c).2.1.trans (ProjHost.x_eq _ _ _), (h c).2.2.1.trans (ProjHost.m_eq _ _ _), (h c).2.2.2.1.trans (ProjHost.g_eq _ _ _), (h c).2.2.2.2.1.trans (ProjHost.d_eq _ _ _), (h c).2.2.2.2.2.1.trans (ProjHost.t_eq _ _ _), (h c).2.2.2.2.2.2⟩)
    (ProjRefIdeal.Value.run (F := Ideal) m ρ)

/-- At the extended reals the input projection's six results are its reference's. -/
theorem algebraic : Cert.algebraic_ProjIdeal_ProjRefIdeal := by
  pair_intro
  · exact run_kernel m g
  · refine (θ_run _ _ _).mono (fun r h c => ?_) (run_ref m' g')
    obtain ⟨h0, h1, h2⟩ := hagree c
    have h := h c
    rw [h0, h1, h2] at h
    rw [h0, h1, h2]
    exact h

end Cert.ProjClaim

end
-- ==== Proof.lean ====
/- The certificate's claims, assembled from the modules that prove them. -/
module

public import proofs.«01_k».proof.Defs
public import proofs.«01_k».proof.Proof.FfnClaim
public import proofs.«01_k».proof.Proof.MidClaim
public import proofs.«01_k».proof.Proof.LastClaim
public import proofs.«01_k».proof.Proof.ScanClaim
public import proofs.«01_k».proof.Proof.ProjClaim
public import Idealize.ShloMosaic.Adequacy
public import Idealize.ShloMosaic.Init

@[expose] public section

noncomputable section

namespace Cert.Proof

open Idealize.ShloMosaic Idealize.SL.Sem Cert.Ffn

/-- Every claim of the certificate. -/
theorem claim : Cert.Claim := ⟨Cert.Ffn.Gen.facts, Cert.FfnIdeal.Gen.facts, Cert.FfnRefIdeal.Gen.facts,
  Cert.Mid.Gen.facts, Cert.MidIdeal.Gen.facts, Cert.MidRefIdeal.Gen.facts, Cert.Last.Gen.facts, Cert.LastIdeal.Gen.facts, Cert.LastRefIdeal.Gen.facts,
  Cert.Scan.Gen.facts, Cert.ScanIdeal.Gen.facts, Cert.ScanRefIdeal.Gen.facts,
  Cert.Proj.Gen.facts, Cert.ProjIdeal.Gen.facts, Cert.ProjRefIdeal.Gen.facts,
  FfnClaim.frame_kernel, FfnClaim.frame_ideal, FfnClaim.frame_ref, MidClaim.frame_kernel, MidClaim.frame_ideal, MidClaim.frame_ref,
  LastClaim.frame_kernel, LastClaim.frame_ideal, LastClaim.frame_ref, ScanClaim.frame_kernel, ScanClaim.frame_ideal, ScanClaim.frame_ref,
  ProjClaim.frame_kernel, ProjClaim.frame_ideal, ProjClaim.frame_ref, FfnClaim.preserves, FfnClaim.algebraic, MidClaim.preserves, MidClaim.algebraic,
  LastClaim.preserves, LastClaim.algebraic, ScanClaim.preserves, ScanClaim.algebraic,
  ProjClaim.preserves, ProjClaim.algebraic⟩

end Cert.Proof

end
